-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 8192]⟩ ⟨2, ![4096, 8192]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![128, 8192]⟩ ⟨2, ![4096, 8192]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x8192 : Shape := ⟨2, ![128, 8192]⟩
abbrev S32 : Shape := ⟨1, ![32]⟩
abbrev S1x1 : Shape := ⟨2, ![1, 1]⟩
abbrev S2x128x8192 : Shape := ⟨3, ![2, 128, 8192]⟩
abbrev S2 : Shape := ⟨1, ![2]⟩
abbrev S_ : Shape := ⟨0, ![]⟩
abbrev S32x1x1 : Shape := ⟨3, ![32, 1, 1]⟩
abbrev S1 : Shape := ⟨1, ![1]⟩
abbrev S128x128 : Shape := ⟨2, ![128, 128]⟩
abbrev S1x128x8192 : Shape := ⟨3, ![1, 128, 8192]⟩
abbrev S1x1x1 : Shape := ⟨3, ![1, 1, 1]⟩

abbrev nBuf : Space → Nat
  | .hbm => 6
  | .vmem => 9
  | .smem => 2
  | _ => 0

abbrev bufTy : (tb : Table) → Fin (tcTables nBuf tb) → BufTy
  | .hbm, ⟨0, _⟩ => ⟨S4096x128, .bf16⟩
  | .hbm, ⟨1, _⟩ => ⟨S128x8192, .bf16⟩
  | .hbm, ⟨2, _⟩ => ⟨S32, .i32⟩
  | .hbm, ⟨3, _⟩ => ⟨S32, .i32⟩
  | .hbm, ⟨4, _⟩ => ⟨S128x8192, .f32⟩
  | .hbm, ⟨5, _⟩ => ⟨S1x1, .f32⟩
  | .local _ .vmem, ⟨0, _⟩ => ⟨S4096x128, .bf16⟩
  | .local _ .vmem, ⟨1, _⟩ => ⟨S128x8192, .bf16⟩
  | .local _ .vmem, ⟨2, _⟩ => ⟨S128x8192, .f32⟩
  | .local _ .vmem, ⟨3, _⟩ => ⟨S1x1, .f32⟩
  | .local _ .vmem, ⟨4, _⟩ => ⟨S2x128x8192, .bf16⟩
  | .local _ .vmem, ⟨5, _⟩ => ⟨S2x128x8192, .bf16⟩
  | .local _ .vmem, ⟨6, _⟩ => ⟨S2x128x8192, .bf16⟩
  | .local _ .vmem, ⟨7, _⟩ => ⟨S2x128x8192, .bf16⟩
  | .local _ .vmem, ⟨8, _⟩ => ⟨S32x1x1, .f32⟩
  | .local _ .smem, ⟨0, _⟩ => ⟨S32, .i32⟩
  | .local _ .smem, ⟨1, _⟩ => ⟨S32, .i32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 3 → Bool
  | ⟨0, _⟩ => true
  | ⟨1, _⟩ => true
  | ⟨2, _⟩ => false
  | _ => false

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  (ofTc nBuf bufTy 3 78 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch10 : Ref sig .tc := ⟨.vmem, 8, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 2

abbrev nD : Nat := 32
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : Index := Scalar.indexCast v2
  ![v3.toNat]
def k0_off2 (v4 : BitVec 32) : Fin 1 → Nat :=
  let c1_i32_0 : BitVec 32 := 1#32
  let v5 : BitVec 32 := Scalar.subi v4 c1_i32_0
  let c32_i32_1 : BitVec 32 := 32#32
  let v6 : BitVec 32 := Scalar.addi v5 c32_i32_1
  let c32_i32_2 : BitVec 32 := 32#32
  let v7 : BitVec 32 := Scalar.remsi v6 c32_i32_2
  let v8 : Index := Scalar.indexCast v7
  ![v8.toNat]

def k0_off3 (v4 : BitVec 32) : Fin 1 → Nat :=
  let c1_i32_3 : BitVec 32 := 1#32
  let v10 : BitVec 32 := Scalar.addi v4 c1_i32_3
  let c32_i32_4 : BitVec 32 := 32#32
  let v11 : BitVec 32 := Scalar.remsi v10 c32_i32_4
  let v12 : Index := Scalar.indexCast v11
  ![v12.toNat]
def k0_dev1 (v9 : BitVec 32) : Nat :=
  let c0_i32 : BitVec 32 := 0#32
  let c1_i32_6 : BitVec 32 := 1#32
  let v15 : BitVec 32 := Scalar.muli v9 c1_i32_6
  let v16 : BitVec 32 := Scalar.addi c0_i32 v15
  v16.toNat

def k0_dev2 (v13 : BitVec 32) : Nat :=
  let c0_i32_9 : BitVec 32 := 0#32
  let c1_i32_8 : BitVec 32 := 1#32
  let v17 : BitVec 32 := Scalar.muli v13 c1_i32_8
  let v18 : BitVec 32 := Scalar.addi c0_i32_9 v17
  v18.toNat

def k0_off4 (v4 : BitVec 32) : Fin 1 → Nat :=
  let c16_i32 : BitVec 32 := 16#32
  let v19 : BitVec 32 := Scalar.addi v4 c16_i32
  let c0_i32_10 : BitVec 32 := 0#32
  let v20 : BitVec 32 := Scalar.subi v19 c0_i32_10
  let c32_i32_11 : BitVec 32 := 32#32
  let v21 : BitVec 32 := Scalar.addi v20 c32_i32_11
  let c32_i32_12 : BitVec 32 := 32#32
  let v22 : BitVec 32 := Scalar.remsi v21 c32_i32_12
  let v23 : Index := Scalar.indexCast v22
  ![v23.toNat]
def k0_off5 (v24 : BitVec 32) : Fin 2 → Nat :=
  let c128_i32 : BitVec 32 := 128#32
  let v25 : BitVec 32 := Scalar.muli v24 c128_i32
  let v26 : Index := Scalar.indexCast v25
  let c0 : Index := 0#32
  ![v26.toNat, 0]

def k0_chk4 (v24 : BitVec 32) : Prop :=
  (∀ a, (k0_off5 v24) a + S128x128.size a ≤ S4096x128.size a)
theorem k0_off5_inb : ∀ (v24 : BitVec 32) (k0_hw4 : k0_chk4 v24), ∀ a, (k0_off5 v24) a + S128x128.size a ≤ S4096x128.size a := fun v24 k0_hw4 => k0_hw4

def k0_off6 (v4 : BitVec 32) : Fin 1 → Nat :=
  let c16_i32_15 : BitVec 32 := 16#32
  let v32 : BitVec 32 := Scalar.subi v4 c16_i32_15
  let c1_i32_16 : BitVec 32 := 1#32
  let v33 : BitVec 32 := Scalar.addi v32 c1_i32_16
  let c0_i32_17 : BitVec 32 := 0#32
  let v34 : BitVec 32 := Scalar.addi v33 c0_i32_17
  let c32_i32_18 : BitVec 32 := 32#32
  let v35 : BitVec 32 := Scalar.addi v34 c32_i32_18
  let c32_i32_19 : BitVec 32 := 32#32
  let v36 : BitVec 32 := Scalar.remsi v35 c32_i32_19
  let v37 : Index := Scalar.indexCast v36
  ![v37.toNat]
def k0_off7 (v38 : BitVec 32) : Fin 2 → Nat :=
  let c128_i32_20 : BitVec 32 := 128#32
  let v39 : BitVec 32 := Scalar.muli v38 c128_i32_20
  let v40 : Index := Scalar.indexCast v39
  let c0_21 : Index := 0#32
  ![v40.toNat, 0]

def k0_chk5 (v38 : BitVec 32) : Prop :=
  (∀ a, (k0_off7 v38) a + S128x128.size a ≤ S4096x128.size a)
theorem k0_off7_inb : ∀ (v38 : BitVec 32) (k0_hw5 : k0_chk5 v38), ∀ a, (k0_off7 v38) a + S128x128.size a ≤ S4096x128.size a := fun v38 k0_hw5 => k0_hw5

def k0_dev3 (v13 : BitVec 32) : Nat :=
  let c0_i32_33 : BitVec 32 := 0#32
  let c1_i32_32 : BitVec 32 := 1#32
  let v50 : BitVec 32 := Scalar.muli v13 c1_i32_32
  let v51 : BitVec 32 := Scalar.addi c0_i32_33 v50
  v51.toNat
def k0_dev4 (v9 : BitVec 32) : Nat :=
  let c0_i32_46 : BitVec 32 := 0#32
  let c1_i32_45 : BitVec 32 := 1#32
  let v64 : BitVec 32 := Scalar.muli v9 c1_i32_45
  let v65 : BitVec 32 := Scalar.addi c0_i32_46 v64
  v65.toNat
def k0_off8 (v4 : BitVec 32) : Fin 1 → Nat :=
  let c16_i32_51 : BitVec 32 := 16#32
  let v74 : BitVec 32 := Scalar.addi v4 c16_i32_51
  let c1_i32_52 : BitVec 32 := 1#32
  let v75 : BitVec 32 := Scalar.subi v74 c1_i32_52
  let c32_i32_53 : BitVec 32 := 32#32
  let v76 : BitVec 32 := Scalar.addi v75 c32_i32_53
  let c32_i32_54 : BitVec 32 := 32#32
  let v77 : BitVec 32 := Scalar.remsi v76 c32_i32_54
  let v78 : Index := Scalar.indexCast v77
  ![v78.toNat]
def k0_off9 (v79 : BitVec 32) : Fin 2 → Nat :=
  let c128_i32_55 : BitVec 32 := 128#32
  let v80 : BitVec 32 := Scalar.muli v79 c128_i32_55
  let v81 : Index := Scalar.indexCast v80
  let c0_56 : Index := 0#32
  ![v81.toNat, 0]

def k0_chk6 (v79 : BitVec 32) : Prop :=
  (∀ a, (k0_off9 v79) a + S128x128.size a ≤ S4096x128.size a)
theorem k0_off9_inb : ∀ (v79 : BitVec 32) (k0_hw6 : k0_chk6 v79), ∀ a, (k0_off9 v79) a + S128x128.size a ≤ S4096x128.size a := fun v79 k0_hw6 => k0_hw6

def k0_off10 (v4 : BitVec 32) : Fin 1 → Nat :=
  let c16_i32_60 : BitVec 32 := 16#32
  let v87 : BitVec 32 := Scalar.subi v4 c16_i32_60
  let c1_i32_61 : BitVec 32 := 1#32
  let v88 : BitVec 32 := Scalar.addi v87 c1_i32_61
  let c1_i32_62 : BitVec 32 := 1#32
  let v89 : BitVec 32 := Scalar.addi v88 c1_i32_62
  let c32_i32_63 : BitVec 32 := 32#32
  let v90 : BitVec 32 := Scalar.addi v89 c32_i32_63
  let c32_i32_64 : BitVec 32 := 32#32
  let v91 : BitVec 32 := Scalar.remsi v90 c32_i32_64
  let v92 : Index := Scalar.indexCast v91
  ![v92.toNat]
def k0_off11 (v93 : BitVec 32) : Fin 2 → Nat :=
  let c128_i32_65 : BitVec 32 := 128#32
  let v94 : BitVec 32 := Scalar.muli v93 c128_i32_65
  let v95 : Index := Scalar.indexCast v94
  let c0_66 : Index := 0#32
  ![v95.toNat, 0]

def k0_chk7 (v93 : BitVec 32) : Prop :=
  (∀ a, (k0_off11 v93) a + S128x128.size a ≤ S4096x128.size a)
theorem k0_off11_inb : ∀ (v93 : BitVec 32) (k0_hw7 : k0_chk7 v93), ∀ a, (k0_off11 v93) a + S128x128.size a ≤ S4096x128.size a := fun v93 k0_hw7 => k0_hw7

def k0_dev5 (v9 : BitVec 32) : Nat :=
  let c0_i32_85 : BitVec 32 := 0#32
  let c1_i32_84 : BitVec 32 := 1#32
  let v113 : BitVec 32 := Scalar.muli v9 c1_i32_84
  let v114 : BitVec 32 := Scalar.addi c0_i32_85 v113
  v114.toNat
def k0_dev6 (v13 : BitVec 32) : Nat :=
  let c0_i32_101 : BitVec 32 := 0#32
  let c1_i32_100 : BitVec 32 := 1#32
  let v127 : BitVec 32 := Scalar.muli v13 c1_i32_100
  let v128 : BitVec 32 := Scalar.addi c0_i32_101 v127
  v128.toNat
def k0_dev7 (v13 : BitVec 32) : Nat :=
  let c0_i32_109 : BitVec 32 := 0#32
  let c1_i32_108 : BitVec 32 := 1#32
  let v133 : BitVec 32 := Scalar.muli v13 c1_i32_108
  let v134 : BitVec 32 := Scalar.addi c0_i32_109 v133
  v134.toNat
def k0_dev8 (v9 : BitVec 32) : Nat :=
  let c0_i32_122 : BitVec 32 := 0#32
  let c1_i32_121 : BitVec 32 := 1#32
  let v147 : BitVec 32 := Scalar.muli v9 c1_i32_121
  let v148 : BitVec 32 := Scalar.addi c0_i32_122 v147
  v148.toNat
def k0_off12 (v4 : BitVec 32) : Fin 1 → Nat :=
  let c16_i32_127 : BitVec 32 := 16#32
  let v157 : BitVec 32 := Scalar.addi v4 c16_i32_127
  let c2_i32_128 : BitVec 32 := 2#32
  let v158 : BitVec 32 := Scalar.subi v157 c2_i32_128
  let c32_i32_129 : BitVec 32 := 32#32
  let v159 : BitVec 32 := Scalar.addi v158 c32_i32_129
  let c32_i32_130 : BitVec 32 := 32#32
  let v160 : BitVec 32 := Scalar.remsi v159 c32_i32_130
  let v161 : Index := Scalar.indexCast v160
  ![v161.toNat]
def k0_off13 (v162 : BitVec 32) : Fin 2 → Nat :=
  let c128_i32_131 : BitVec 32 := 128#32
  let v163 : BitVec 32 := Scalar.muli v162 c128_i32_131
  let v164 : Index := Scalar.indexCast v163
  let c0_132 : Index := 0#32
  ![v164.toNat, 0]

def k0_chk8 (v162 : BitVec 32) : Prop :=
  (∀ a, (k0_off13 v162) a + S128x128.size a ≤ S4096x128.size a)
theorem k0_off13_inb : ∀ (v162 : BitVec 32) (k0_hw8 : k0_chk8 v162), ∀ a, (k0_off13 v162) a + S128x128.size a ≤ S4096x128.size a := fun v162 k0_hw8 => k0_hw8

def k0_off14 (v4 : BitVec 32) : Fin 1 → Nat :=
  let c16_i32_136 : BitVec 32 := 16#32
  let v170 : BitVec 32 := Scalar.subi v4 c16_i32_136
  let c1_i32_137 : BitVec 32 := 1#32
  let v171 : BitVec 32 := Scalar.addi v170 c1_i32_137
  let c2_i32_138 : BitVec 32 := 2#32
  let v172 : BitVec 32 := Scalar.addi v171 c2_i32_138
  let c32_i32_139 : BitVec 32 := 32#32
  let v173 : BitVec 32 := Scalar.addi v172 c32_i32_139
  let c32_i32_140 : BitVec 32 := 32#32
  let v174 : BitVec 32 := Scalar.remsi v173 c32_i32_140
  let v175 : Index := Scalar.indexCast v174
  ![v175.toNat]
def k0_off15 (v176 : BitVec 32) : Fin 2 → Nat :=
  let c128_i32_141 : BitVec 32 := 128#32
  let v177 : BitVec 32 := Scalar.muli v176 c128_i32_141
  let v178 : Index := Scalar.indexCast v177
  let c0_142 : Index := 0#32
  ![v178.toNat, 0]

def k0_chk9 (v176 : BitVec 32) : Prop :=
  (∀ a, (k0_off15 v176) a + S128x128.size a ≤ S4096x128.size a)
theorem k0_off15_inb : ∀ (v176 : BitVec 32) (k0_hw9 : k0_chk9 v176), ∀ a, (k0_off15 v176) a + S128x128.size a ≤ S4096x128.size a := fun v176 k0_hw9 => k0_hw9

def k0_dev9 (v9 : BitVec 32) : Nat :=
  let c0_i32_161 : BitVec 32 := 0#32
  let c1_i32_160 : BitVec 32 := 1#32
  let v196 : BitVec 32 := Scalar.muli v9 c1_i32_160
  let v197 : BitVec 32 := Scalar.addi c0_i32_161 v196
  v197.toNat
def k0_dev10 (v13 : BitVec 32) : Nat :=
  let c0_i32_177 : BitVec 32 := 0#32
  let c1_i32_176 : BitVec 32 := 1#32
  let v210 : BitVec 32 := Scalar.muli v13 c1_i32_176
  let v211 : BitVec 32 := Scalar.addi c0_i32_177 v210
  v211.toNat
def k0_dev11 (v13 : BitVec 32) : Nat :=
  let c0_i32_197 : BitVec 32 := 0#32
  let c1_i32_196 : BitVec 32 := 1#32
  let v222 : BitVec 32 := Scalar.muli v13 c1_i32_196
  let v223 : BitVec 32 := Scalar.addi c0_i32_197 v222
  v223.toNat
def k0_dev12 (v9 : BitVec 32) : Nat :=
  let c0_i32_221 : BitVec 32 := 0#32
  let c1_i32_220 : BitVec 32 := 1#32
  let v242 : BitVec 32 := Scalar.muli v9 c1_i32_220
  let v243 : BitVec 32 := Scalar.addi c0_i32_221 v242
  v243.toNat
def k0_off16 (v4 : BitVec 32) : Fin 1 → Nat :=
  let c16_i32_226 : BitVec 32 := 16#32
  let v252 : BitVec 32 := Scalar.addi v4 c16_i32_226
  let c3_i32 : BitVec 32 := 3#32
  let v253 : BitVec 32 := Scalar.subi v252 c3_i32
  let c32_i32_227 : BitVec 32 := 32#32
  let v254 : BitVec 32 := Scalar.addi v253 c32_i32_227
  let c32_i32_228 : BitVec 32 := 32#32
  let v255 : BitVec 32 := Scalar.remsi v254 c32_i32_228
  let v256 : Index := Scalar.indexCast v255
  ![v256.toNat]
def k0_off17 (v257 : BitVec 32) : Fin 2 → Nat :=
  let c128_i32_229 : BitVec 32 := 128#32
  let v258 : BitVec 32 := Scalar.muli v257 c128_i32_229
  let v259 : Index := Scalar.indexCast v258
  let c0_230 : Index := 0#32
  ![v259.toNat, 0]

def k0_chk10 (v257 : BitVec 32) : Prop :=
  (∀ a, (k0_off17 v257) a + S128x128.size a ≤ S4096x128.size a)
theorem k0_off17_inb : ∀ (v257 : BitVec 32) (k0_hw10 : k0_chk10 v257), ∀ a, (k0_off17 v257) a + S128x128.size a ≤ S4096x128.size a := fun v257 k0_hw10 => k0_hw10

def k0_off18 (v4 : BitVec 32) : Fin 1 → Nat :=
  let c16_i32_234 : BitVec 32 := 16#32
  let v265 : BitVec 32 := Scalar.subi v4 c16_i32_234
  let c1_i32_235 : BitVec 32 := 1#32
  let v266 : BitVec 32 := Scalar.addi v265 c1_i32_235
  let c3_i32_236 : BitVec 32 := 3#32
  let v267 : BitVec 32 := Scalar.addi v266 c3_i32_236
  let c32_i32_237 : BitVec 32 := 32#32
  let v268 : BitVec 32 := Scalar.addi v267 c32_i32_237
  let c32_i32_238 : BitVec 32 := 32#32
  let v269 : BitVec 32 := Scalar.remsi v268 c32_i32_238
  let v270 : Index := Scalar.indexCast v269
  ![v270.toNat]
def k0_off19 (v271 : BitVec 32) : Fin 2 → Nat :=
  let c128_i32_239 : BitVec 32 := 128#32
  let v272 : BitVec 32 := Scalar.muli v271 c128_i32_239
  let v273 : Index := Scalar.indexCast v272
  let c0_240 : Index := 0#32
  ![v273.toNat, 0]

def k0_chk11 (v271 : BitVec 32) : Prop :=
  (∀ a, (k0_off19 v271) a + S128x128.size a ≤ S4096x128.size a)
theorem k0_off19_inb : ∀ (v271 : BitVec 32) (k0_hw11 : k0_chk11 v271), ∀ a, (k0_off19 v271) a + S128x128.size a ≤ S4096x128.size a := fun v271 k0_hw11 => k0_hw11

def k0_dev13 (v9 : BitVec 32) : Nat :=
  let c0_i32_259 : BitVec 32 := 0#32
  let c1_i32_258 : BitVec 32 := 1#32
  let v291 : BitVec 32 := Scalar.muli v9 c1_i32_258
  let v292 : BitVec 32 := Scalar.addi c0_i32_259 v291
  v292.toNat
def k0_dev14 (v13 : BitVec 32) : Nat :=
  let c0_i32_275 : BitVec 32 := 0#32
  let c1_i32_274 : BitVec 32 := 1#32
  let v305 : BitVec 32 := Scalar.muli v13 c1_i32_274
  let v306 : BitVec 32 := Scalar.addi c0_i32_275 v305
  v306.toNat
def k0_dev15 (v13 : BitVec 32) : Nat :=
  let c0_i32_295 : BitVec 32 := 0#32
  let c1_i32_294 : BitVec 32 := 1#32
  let v317 : BitVec 32 := Scalar.muli v13 c1_i32_294
  let v318 : BitVec 32 := Scalar.addi c0_i32_295 v317
  v318.toNat
def k0_dev16 (v9 : BitVec 32) : Nat :=
  let c0_i32_319 : BitVec 32 := 0#32
  let c1_i32_318 : BitVec 32 := 1#32
  let v337 : BitVec 32 := Scalar.muli v9 c1_i32_318
  let v338 : BitVec 32 := Scalar.addi c0_i32_319 v337
  v338.toNat
def k0_off20 (v4 : BitVec 32) : Fin 1 → Nat :=
  let c16_i32_324 : BitVec 32 := 16#32
  let v347 : BitVec 32 := Scalar.addi v4 c16_i32_324
  let c4_i32 : BitVec 32 := 4#32
  let v348 : BitVec 32 := Scalar.subi v347 c4_i32
  let c32_i32_325 : BitVec 32 := 32#32
  let v349 : BitVec 32 := Scalar.addi v348 c32_i32_325
  let c32_i32_326 : BitVec 32 := 32#32
  let v350 : BitVec 32 := Scalar.remsi v349 c32_i32_326
  let v351 : Index := Scalar.indexCast v350
  ![v351.toNat]
def k0_off21 (v352 : BitVec 32) : Fin 2 → Nat :=
  let c128_i32_327 : BitVec 32 := 128#32
  let v353 : BitVec 32 := Scalar.muli v352 c128_i32_327
  let v354 : Index := Scalar.indexCast v353
  let c0_328 : Index := 0#32
  ![v354.toNat, 0]

def k0_chk12 (v352 : BitVec 32) : Prop :=
  (∀ a, (k0_off21 v352) a + S128x128.size a ≤ S4096x128.size a)
theorem k0_off21_inb : ∀ (v352 : BitVec 32) (k0_hw12 : k0_chk12 v352), ∀ a, (k0_off21 v352) a + S128x128.size a ≤ S4096x128.size a := fun v352 k0_hw12 => k0_hw12

def k0_off22 (v4 : BitVec 32) : Fin 1 → Nat :=
  let c16_i32_332 : BitVec 32 := 16#32
  let v360 : BitVec 32 := Scalar.subi v4 c16_i32_332
  let c1_i32_333 : BitVec 32 := 1#32
  let v361 : BitVec 32 := Scalar.addi v360 c1_i32_333
  let c4_i32_334 : BitVec 32 := 4#32
  let v362 : BitVec 32 := Scalar.addi v361 c4_i32_334
  let c32_i32_335 : BitVec 32 := 32#32
  let v363 : BitVec 32 := Scalar.addi v362 c32_i32_335
  let c32_i32_336 : BitVec 32 := 32#32
  let v364 : BitVec 32 := Scalar.remsi v363 c32_i32_336
  let v365 : Index := Scalar.indexCast v364
  ![v365.toNat]
def k0_off23 (v366 : BitVec 32) : Fin 2 → Nat :=
  let c128_i32_337 : BitVec 32 := 128#32
  let v367 : BitVec 32 := Scalar.muli v366 c128_i32_337
  let v368 : Index := Scalar.indexCast v367
  let c0_338 : Index := 0#32
  ![v368.toNat, 0]

def k0_chk13 (v366 : BitVec 32) : Prop :=
  (∀ a, (k0_off23 v366) a + S128x128.size a ≤ S4096x128.size a)
theorem k0_off23_inb : ∀ (v366 : BitVec 32) (k0_hw13 : k0_chk13 v366), ∀ a, (k0_off23 v366) a + S128x128.size a ≤ S4096x128.size a := fun v366 k0_hw13 => k0_hw13

def k0_dev17 (v9 : BitVec 32) : Nat :=
  let c0_i32_357 : BitVec 32 := 0#32
  let c1_i32_356 : BitVec 32 := 1#32
  let v386 : BitVec 32 := Scalar.muli v9 c1_i32_356
  let v387 : BitVec 32 := Scalar.addi c0_i32_357 v386
  v387.toNat
def k0_dev18 (v13 : BitVec 32) : Nat :=
  let c0_i32_373 : BitVec 32 := 0#32
  let c1_i32_372 : BitVec 32 := 1#32
  let v400 : BitVec 32 := Scalar.muli v13 c1_i32_372
  let v401 : BitVec 32 := Scalar.addi c0_i32_373 v400
  v401.toNat
def k0_dev19 (v13 : BitVec 32) : Nat :=
  let c0_i32_393 : BitVec 32 := 0#32
  let c1_i32_392 : BitVec 32 := 1#32
  let v412 : BitVec 32 := Scalar.muli v13 c1_i32_392
  let v413 : BitVec 32 := Scalar.addi c0_i32_393 v412
  v413.toNat
def k0_dev20 (v9 : BitVec 32) : Nat :=
  let c0_i32_417 : BitVec 32 := 0#32
  let c1_i32_416 : BitVec 32 := 1#32
  let v432 : BitVec 32 := Scalar.muli v9 c1_i32_416
  let v433 : BitVec 32 := Scalar.addi c0_i32_417 v432
  v433.toNat
def k0_off24 (v4 : BitVec 32) : Fin 1 → Nat :=
  let c16_i32_422 : BitVec 32 := 16#32
  let v442 : BitVec 32 := Scalar.addi v4 c16_i32_422
  let c5_i32 : BitVec 32 := 5#32
  let v443 : BitVec 32 := Scalar.subi v442 c5_i32
  let c32_i32_423 : BitVec 32 := 32#32
  let v444 : BitVec 32 := Scalar.addi v443 c32_i32_423
  let c32_i32_424 : BitVec 32 := 32#32
  let v445 : BitVec 32 := Scalar.remsi v444 c32_i32_424
  let v446 : Index := Scalar.indexCast v445
  ![v446.toNat]
def k0_off25 (v447 : BitVec 32) : Fin 2 → Nat :=
  let c128_i32_425 : BitVec 32 := 128#32
  let v448 : BitVec 32 := Scalar.muli v447 c128_i32_425
  let v449 : Index := Scalar.indexCast v448
  let c0_426 : Index := 0#32
  ![v449.toNat, 0]

def k0_chk14 (v447 : BitVec 32) : Prop :=
  (∀ a, (k0_off25 v447) a + S128x128.size a ≤ S4096x128.size a)
theorem k0_off25_inb : ∀ (v447 : BitVec 32) (k0_hw14 : k0_chk14 v447), ∀ a, (k0_off25 v447) a + S128x128.size a ≤ S4096x128.size a := fun v447 k0_hw14 => k0_hw14

def k0_off26 (v4 : BitVec 32) : Fin 1 → Nat :=
  let c16_i32_430 : BitVec 32 := 16#32
  let v455 : BitVec 32 := Scalar.subi v4 c16_i32_430
  let c1_i32_431 : BitVec 32 := 1#32
  let v456 : BitVec 32 := Scalar.addi v455 c1_i32_431
  let c5_i32_432 : BitVec 32 := 5#32
  let v457 : BitVec 32 := Scalar.addi v456 c5_i32_432
  let c32_i32_433 : BitVec 32 := 32#32
  let v458 : BitVec 32 := Scalar.addi v457 c32_i32_433
  let c32_i32_434 : BitVec 32 := 32#32
  let v459 : BitVec 32 := Scalar.remsi v458 c32_i32_434
  let v460 : Index := Scalar.indexCast v459
  ![v460.toNat]
def k0_off27 (v461 : BitVec 32) : Fin 2 → Nat :=
  let c128_i32_435 : BitVec 32 := 128#32
  let v462 : BitVec 32 := Scalar.muli v461 c128_i32_435
  let v463 : Index := Scalar.indexCast v462
  let c0_436 : Index := 0#32
  ![v463.toNat, 0]

def k0_chk15 (v461 : BitVec 32) : Prop :=
  (∀ a, (k0_off27 v461) a + S128x128.size a ≤ S4096x128.size a)
theorem k0_off27_inb : ∀ (v461 : BitVec 32) (k0_hw15 : k0_chk15 v461), ∀ a, (k0_off27 v461) a + S128x128.size a ≤ S4096x128.size a := fun v461 k0_hw15 => k0_hw15

def k0_dev21 (v9 : BitVec 32) : Nat :=
  let c0_i32_455 : BitVec 32 := 0#32
  let c1_i32_454 : BitVec 32 := 1#32
  let v481 : BitVec 32 := Scalar.muli v9 c1_i32_454
  let v482 : BitVec 32 := Scalar.addi c0_i32_455 v481
  v482.toNat
def k0_dev22 (v13 : BitVec 32) : Nat :=
  let c0_i32_471 : BitVec 32 := 0#32
  let c1_i32_470 : BitVec 32 := 1#32
  let v495 : BitVec 32 := Scalar.muli v13 c1_i32_470
  let v496 : BitVec 32 := Scalar.addi c0_i32_471 v495
  v496.toNat
def k0_dev23 (v13 : BitVec 32) : Nat :=
  let c0_i32_491 : BitVec 32 := 0#32
  let c1_i32_490 : BitVec 32 := 1#32
  let v507 : BitVec 32 := Scalar.muli v13 c1_i32_490
  let v508 : BitVec 32 := Scalar.addi c0_i32_491 v507
  v508.toNat
def k0_dev24 (v9 : BitVec 32) : Nat :=
  let c0_i32_515 : BitVec 32 := 0#32
  let c1_i32_514 : BitVec 32 := 1#32
  let v527 : BitVec 32 := Scalar.muli v9 c1_i32_514
  let v528 : BitVec 32 := Scalar.addi c0_i32_515 v527
  v528.toNat
def k0_off28 (v4 : BitVec 32) : Fin 1 → Nat :=
  let c16_i32_520 : BitVec 32 := 16#32
  let v537 : BitVec 32 := Scalar.addi v4 c16_i32_520
  let c6_i32 : BitVec 32 := 6#32
  let v538 : BitVec 32 := Scalar.subi v537 c6_i32
  let c32_i32_521 : BitVec 32 := 32#32
  let v539 : BitVec 32 := Scalar.addi v538 c32_i32_521
  let c32_i32_522 : BitVec 32 := 32#32
  let v540 : BitVec 32 := Scalar.remsi v539 c32_i32_522
  let v541 : Index := Scalar.indexCast v540
  ![v541.toNat]
def k0_off29 (v542 : BitVec 32) : Fin 2 → Nat :=
  let c128_i32_523 : BitVec 32 := 128#32
  let v543 : BitVec 32 := Scalar.muli v542 c128_i32_523
  let v544 : Index := Scalar.indexCast v543
  let c0_524 : Index := 0#32
  ![v544.toNat, 0]

def k0_chk16 (v542 : BitVec 32) : Prop :=
  (∀ a, (k0_off29 v542) a + S128x128.size a ≤ S4096x128.size a)
theorem k0_off29_inb : ∀ (v542 : BitVec 32) (k0_hw16 : k0_chk16 v542), ∀ a, (k0_off29 v542) a + S128x128.size a ≤ S4096x128.size a := fun v542 k0_hw16 => k0_hw16

def k0_off30 (v4 : BitVec 32) : Fin 1 → Nat :=
  let c16_i32_528 : BitVec 32 := 16#32
  let v550 : BitVec 32 := Scalar.subi v4 c16_i32_528
  let c1_i32_529 : BitVec 32 := 1#32
  let v551 : BitVec 32 := Scalar.addi v550 c1_i32_529
  let c6_i32_530 : BitVec 32 := 6#32
  let v552 : BitVec 32 := Scalar.addi v551 c6_i32_530
  let c32_i32_531 : BitVec 32 := 32#32
  let v553 : BitVec 32 := Scalar.addi v552 c32_i32_531
  let c32_i32_532 : BitVec 32 := 32#32
  let v554 : BitVec 32 := Scalar.remsi v553 c32_i32_532
  let v555 : Index := Scalar.indexCast v554
  ![v555.toNat]
def k0_off31 (v556 : BitVec 32) : Fin 2 → Nat :=
  let c128_i32_533 : BitVec 32 := 128#32
  let v557 : BitVec 32 := Scalar.muli v556 c128_i32_533
  let v558 : Index := Scalar.indexCast v557
  let c0_534 : Index := 0#32
  ![v558.toNat, 0]

def k0_chk17 (v556 : BitVec 32) : Prop :=
  (∀ a, (k0_off31 v556) a + S128x128.size a ≤ S4096x128.size a)
theorem k0_off31_inb : ∀ (v556 : BitVec 32) (k0_hw17 : k0_chk17 v556), ∀ a, (k0_off31 v556) a + S128x128.size a ≤ S4096x128.size a := fun v556 k0_hw17 => k0_hw17

def k0_dev25 (v9 : BitVec 32) : Nat :=
  let c0_i32_553 : BitVec 32 := 0#32
  let c1_i32_552 : BitVec 32 := 1#32
  let v576 : BitVec 32 := Scalar.muli v9 c1_i32_552
  let v577 : BitVec 32 := Scalar.addi c0_i32_553 v576
  v577.toNat
def k0_dev26 (v13 : BitVec 32) : Nat :=
  let c0_i32_569 : BitVec 32 := 0#32
  let c1_i32_568 : BitVec 32 := 1#32
  let v590 : BitVec 32 := Scalar.muli v13 c1_i32_568
  let v591 : BitVec 32 := Scalar.addi c0_i32_569 v590
  v591.toNat
def k0_dev27 (v13 : BitVec 32) : Nat :=
  let c0_i32_589 : BitVec 32 := 0#32
  let c1_i32_588 : BitVec 32 := 1#32
  let v602 : BitVec 32 := Scalar.muli v13 c1_i32_588
  let v603 : BitVec 32 := Scalar.addi c0_i32_589 v602
  v603.toNat
def k0_dev28 (v9 : BitVec 32) : Nat :=
  let c0_i32_613 : BitVec 32 := 0#32
  let c1_i32_612 : BitVec 32 := 1#32
  let v622 : BitVec 32 := Scalar.muli v9 c1_i32_612
  let v623 : BitVec 32 := Scalar.addi c0_i32_613 v622
  v623.toNat
def k0_off32 (v4 : BitVec 32) : Fin 1 → Nat :=
  let c16_i32_618 : BitVec 32 := 16#32
  let v632 : BitVec 32 := Scalar.addi v4 c16_i32_618
  let c7_i32 : BitVec 32 := 7#32
  let v633 : BitVec 32 := Scalar.subi v632 c7_i32
  let c32_i32_619 : BitVec 32 := 32#32
  let v634 : BitVec 32 := Scalar.addi v633 c32_i32_619
  let c32_i32_620 : BitVec 32 := 32#32
  let v635 : BitVec 32 := Scalar.remsi v634 c32_i32_620
  let v636 : Index := Scalar.indexCast v635
  ![v636.toNat]
def k0_off33 (v637 : BitVec 32) : Fin 2 → Nat :=
  let c128_i32_621 : BitVec 32 := 128#32
  let v638 : BitVec 32 := Scalar.muli v637 c128_i32_621
  let v639 : Index := Scalar.indexCast v638
  let c0_622 : Index := 0#32
  ![v639.toNat, 0]

def k0_chk18 (v637 : BitVec 32) : Prop :=
  (∀ a, (k0_off33 v637) a + S128x128.size a ≤ S4096x128.size a)
theorem k0_off33_inb : ∀ (v637 : BitVec 32) (k0_hw18 : k0_chk18 v637), ∀ a, (k0_off33 v637) a + S128x128.size a ≤ S4096x128.size a := fun v637 k0_hw18 => k0_hw18

def k0_off34 (v4 : BitVec 32) : Fin 1 → Nat :=
  let c16_i32_626 : BitVec 32 := 16#32
  let v645 : BitVec 32 := Scalar.subi v4 c16_i32_626
  let c1_i32_627 : BitVec 32 := 1#32
  let v646 : BitVec 32 := Scalar.addi v645 c1_i32_627
  let c7_i32_628 : BitVec 32 := 7#32
  let v647 : BitVec 32 := Scalar.addi v646 c7_i32_628
  let c32_i32_629 : BitVec 32 := 32#32
  let v648 : BitVec 32 := Scalar.addi v647 c32_i32_629
  let c32_i32_630 : BitVec 32 := 32#32
  let v649 : BitVec 32 := Scalar.remsi v648 c32_i32_630
  let v650 : Index := Scalar.indexCast v649
  ![v650.toNat]
def k0_off35 (v651 : BitVec 32) : Fin 2 → Nat :=
  let c128_i32_631 : BitVec 32 := 128#32
  let v652 : BitVec 32 := Scalar.muli v651 c128_i32_631
  let v653 : Index := Scalar.indexCast v652
  let c0_632 : Index := 0#32
  ![v653.toNat, 0]

def k0_chk19 (v651 : BitVec 32) : Prop :=
  (∀ a, (k0_off35 v651) a + S128x128.size a ≤ S4096x128.size a)
theorem k0_off35_inb : ∀ (v651 : BitVec 32) (k0_hw19 : k0_chk19 v651), ∀ a, (k0_off35 v651) a + S128x128.size a ≤ S4096x128.size a := fun v651 k0_hw19 => k0_hw19

def k0_dev29 (v9 : BitVec 32) : Nat :=
  let c0_i32_651 : BitVec 32 := 0#32
  let c1_i32_650 : BitVec 32 := 1#32
  let v671 : BitVec 32 := Scalar.muli v9 c1_i32_650
  let v672 : BitVec 32 := Scalar.addi c0_i32_651 v671
  v672.toNat
def k0_dev30 (v13 : BitVec 32) : Nat :=
  let c0_i32_667 : BitVec 32 := 0#32
  let c1_i32_666 : BitVec 32 := 1#32
  let v685 : BitVec 32 := Scalar.muli v13 c1_i32_666
  let v686 : BitVec 32 := Scalar.addi c0_i32_667 v685
  v686.toNat
def k0_dev31 (v13 : BitVec 32) : Nat :=
  let c0_i32_687 : BitVec 32 := 0#32
  let c1_i32_686 : BitVec 32 := 1#32
  let v697 : BitVec 32 := Scalar.muli v13 c1_i32_686
  let v698 : BitVec 32 := Scalar.addi c0_i32_687 v697
  v698.toNat
def k0_dev32 (v9 : BitVec 32) : Nat :=
  let c0_i32_711 : BitVec 32 := 0#32
  let c1_i32_710 : BitVec 32 := 1#32
  let v717 : BitVec 32 := Scalar.muli v9 c1_i32_710
  let v718 : BitVec 32 := Scalar.addi c0_i32_711 v717
  v718.toNat
def k0_off36 (v4 : BitVec 32) : Fin 1 → Nat :=
  let c16_i32_716 : BitVec 32 := 16#32
  let v727 : BitVec 32 := Scalar.addi v4 c16_i32_716
  let c8_i32 : BitVec 32 := 8#32
  let v728 : BitVec 32 := Scalar.subi v727 c8_i32
  let c32_i32_717 : BitVec 32 := 32#32
  let v729 : BitVec 32 := Scalar.addi v728 c32_i32_717
  let c32_i32_718 : BitVec 32 := 32#32
  let v730 : BitVec 32 := Scalar.remsi v729 c32_i32_718
  let v731 : Index := Scalar.indexCast v730
  ![v731.toNat]
def k0_off37 (v732 : BitVec 32) : Fin 2 → Nat :=
  let c128_i32_719 : BitVec 32 := 128#32
  let v733 : BitVec 32 := Scalar.muli v732 c128_i32_719
  let v734 : Index := Scalar.indexCast v733
  let c0_720 : Index := 0#32
  ![v734.toNat, 0]

def k0_chk20 (v732 : BitVec 32) : Prop :=
  (∀ a, (k0_off37 v732) a + S128x128.size a ≤ S4096x128.size a)
theorem k0_off37_inb : ∀ (v732 : BitVec 32) (k0_hw20 : k0_chk20 v732), ∀ a, (k0_off37 v732) a + S128x128.size a ≤ S4096x128.size a := fun v732 k0_hw20 => k0_hw20

def k0_off38 (v4 : BitVec 32) : Fin 1 → Nat :=
  let c16_i32_724 : BitVec 32 := 16#32
  let v740 : BitVec 32 := Scalar.subi v4 c16_i32_724
  let c1_i32_725 : BitVec 32 := 1#32
  let v741 : BitVec 32 := Scalar.addi v740 c1_i32_725
  let c8_i32_726 : BitVec 32 := 8#32
  let v742 : BitVec 32 := Scalar.addi v741 c8_i32_726
  let c32_i32_727 : BitVec 32 := 32#32
  let v743 : BitVec 32 := Scalar.addi v742 c32_i32_727
  let c32_i32_728 : BitVec 32 := 32#32
  let v744 : BitVec 32 := Scalar.remsi v743 c32_i32_728
  let v745 : Index := Scalar.indexCast v744
  ![v745.toNat]
def k0_off39 (v746 : BitVec 32) : Fin 2 → Nat :=
  let c128_i32_729 : BitVec 32 := 128#32
  let v747 : BitVec 32 := Scalar.muli v746 c128_i32_729
  let v748 : Index := Scalar.indexCast v747
  let c0_730 : Index := 0#32
  ![v748.toNat, 0]

def k0_chk21 (v746 : BitVec 32) : Prop :=
  (∀ a, (k0_off39 v746) a + S128x128.size a ≤ S4096x128.size a)
theorem k0_off39_inb : ∀ (v746 : BitVec 32) (k0_hw21 : k0_chk21 v746), ∀ a, (k0_off39 v746) a + S128x128.size a ≤ S4096x128.size a := fun v746 k0_hw21 => k0_hw21

def k0_dev33 (v9 : BitVec 32) : Nat :=
  let c0_i32_749 : BitVec 32 := 0#32
  let c1_i32_748 : BitVec 32 := 1#32
  let v766 : BitVec 32 := Scalar.muli v9 c1_i32_748
  let v767 : BitVec 32 := Scalar.addi c0_i32_749 v766
  v767.toNat
def k0_dev34 (v13 : BitVec 32) : Nat :=
  let c0_i32_765 : BitVec 32 := 0#32
  let c1_i32_764 : BitVec 32 := 1#32
  let v780 : BitVec 32 := Scalar.muli v13 c1_i32_764
  let v781 : BitVec 32 := Scalar.addi c0_i32_765 v780
  v781.toNat
def k0_dev35 (v13 : BitVec 32) : Nat :=
  let c0_i32_785 : BitVec 32 := 0#32
  let c1_i32_784 : BitVec 32 := 1#32
  let v792 : BitVec 32 := Scalar.muli v13 c1_i32_784
  let v793 : BitVec 32 := Scalar.addi c0_i32_785 v792
  v793.toNat
def k0_dev36 (v9 : BitVec 32) : Nat :=
  let c0_i32_809 : BitVec 32 := 0#32
  let c1_i32_808 : BitVec 32 := 1#32
  let v812 : BitVec 32 := Scalar.muli v9 c1_i32_808
  let v813 : BitVec 32 := Scalar.addi c0_i32_809 v812
  v813.toNat
def k0_off40 (v4 : BitVec 32) : Fin 1 → Nat :=
  let c16_i32_814 : BitVec 32 := 16#32
  let v822 : BitVec 32 := Scalar.addi v4 c16_i32_814
  let c9_i32 : BitVec 32 := 9#32
  let v823 : BitVec 32 := Scalar.subi v822 c9_i32
  let c32_i32_815 : BitVec 32 := 32#32
  let v824 : BitVec 32 := Scalar.addi v823 c32_i32_815
  let c32_i32_816 : BitVec 32 := 32#32
  let v825 : BitVec 32 := Scalar.remsi v824 c32_i32_816
  let v826 : Index := Scalar.indexCast v825
  ![v826.toNat]
def k0_off41 (v827 : BitVec 32) : Fin 2 → Nat :=
  let c128_i32_817 : BitVec 32 := 128#32
  let v828 : BitVec 32 := Scalar.muli v827 c128_i32_817
  let v829 : Index := Scalar.indexCast v828
  let c0_818 : Index := 0#32
  ![v829.toNat, 0]

def k0_chk22 (v827 : BitVec 32) : Prop :=
  (∀ a, (k0_off41 v827) a + S128x128.size a ≤ S4096x128.size a)
theorem k0_off41_inb : ∀ (v827 : BitVec 32) (k0_hw22 : k0_chk22 v827), ∀ a, (k0_off41 v827) a + S128x128.size a ≤ S4096x128.size a := fun v827 k0_hw22 => k0_hw22

def k0_off42 (v4 : BitVec 32) : Fin 1 → Nat :=
  let c16_i32_822 : BitVec 32 := 16#32
  let v835 : BitVec 32 := Scalar.subi v4 c16_i32_822
  let c1_i32_823 : BitVec 32 := 1#32
  let v836 : BitVec 32 := Scalar.addi v835 c1_i32_823
  let c9_i32_824 : BitVec 32 := 9#32
  let v837 : BitVec 32 := Scalar.addi v836 c9_i32_824
  let c32_i32_825 : BitVec 32 := 32#32
  let v838 : BitVec 32 := Scalar.addi v837 c32_i32_825
  let c32_i32_826 : BitVec 32 := 32#32
  let v839 : BitVec 32 := Scalar.remsi v838 c32_i32_826
  let v840 : Index := Scalar.indexCast v839
  ![v840.toNat]
def k0_off43 (v841 : BitVec 32) : Fin 2 → Nat :=
  let c128_i32_827 : BitVec 32 := 128#32
  let v842 : BitVec 32 := Scalar.muli v841 c128_i32_827
  let v843 : Index := Scalar.indexCast v842
  let c0_828 : Index := 0#32
  ![v843.toNat, 0]

def k0_chk23 (v841 : BitVec 32) : Prop :=
  (∀ a, (k0_off43 v841) a + S128x128.size a ≤ S4096x128.size a)
theorem k0_off43_inb : ∀ (v841 : BitVec 32) (k0_hw23 : k0_chk23 v841), ∀ a, (k0_off43 v841) a + S128x128.size a ≤ S4096x128.size a := fun v841 k0_hw23 => k0_hw23

def k0_dev37 (v9 : BitVec 32) : Nat :=
  let c0_i32_847 : BitVec 32 := 0#32
  let c1_i32_846 : BitVec 32 := 1#32
  let v861 : BitVec 32 := Scalar.muli v9 c1_i32_846
  let v862 : BitVec 32 := Scalar.addi c0_i32_847 v861
  v862.toNat
def k0_dev38 (v13 : BitVec 32) : Nat :=
  let c0_i32_863 : BitVec 32 := 0#32
  let c1_i32_862 : BitVec 32 := 1#32
  let v875 : BitVec 32 := Scalar.muli v13 c1_i32_862
  let v876 : BitVec 32 := Scalar.addi c0_i32_863 v875
  v876.toNat
def k0_dev39 (v13 : BitVec 32) : Nat :=
  let c0_i32_883 : BitVec 32 := 0#32
  let c1_i32_882 : BitVec 32 := 1#32
  let v887 : BitVec 32 := Scalar.muli v13 c1_i32_882
  let v888 : BitVec 32 := Scalar.addi c0_i32_883 v887
  v888.toNat
def k0_dev40 (v9 : BitVec 32) : Nat :=
  let c0_i32_907 : BitVec 32 := 0#32
  let c1_i32_906 : BitVec 32 := 1#32
  let v907 : BitVec 32 := Scalar.muli v9 c1_i32_906
  let v908 : BitVec 32 := Scalar.addi c0_i32_907 v907
  v908.toNat
def k0_off44 (v4 : BitVec 32) : Fin 1 → Nat :=
  let c16_i32_912 : BitVec 32 := 16#32
  let v917 : BitVec 32 := Scalar.addi v4 c16_i32_912
  let c10_i32 : BitVec 32 := 10#32
  let v918 : BitVec 32 := Scalar.subi v917 c10_i32
  let c32_i32_913 : BitVec 32 := 32#32
  let v919 : BitVec 32 := Scalar.addi v918 c32_i32_913
  let c32_i32_914 : BitVec 32 := 32#32
  let v920 : BitVec 32 := Scalar.remsi v919 c32_i32_914
  let v921 : Index := Scalar.indexCast v920
  ![v921.toNat]
def k0_off45 (v922 : BitVec 32) : Fin 2 → Nat :=
  let c128_i32_915 : BitVec 32 := 128#32
  let v923 : BitVec 32 := Scalar.muli v922 c128_i32_915
  let v924 : Index := Scalar.indexCast v923
  let c0_916 : Index := 0#32
  ![v924.toNat, 0]

def k0_chk24 (v922 : BitVec 32) : Prop :=
  (∀ a, (k0_off45 v922) a + S128x128.size a ≤ S4096x128.size a)
theorem k0_off45_inb : ∀ (v922 : BitVec 32) (k0_hw24 : k0_chk24 v922), ∀ a, (k0_off45 v922) a + S128x128.size a ≤ S4096x128.size a := fun v922 k0_hw24 => k0_hw24

def k0_off46 (v4 : BitVec 32) : Fin 1 → Nat :=
  let c16_i32_920 : BitVec 32 := 16#32
  let v930 : BitVec 32 := Scalar.subi v4 c16_i32_920
  let c1_i32_921 : BitVec 32 := 1#32
  let v931 : BitVec 32 := Scalar.addi v930 c1_i32_921
  let c10_i32_922 : BitVec 32 := 10#32
  let v932 : BitVec 32 := Scalar.addi v931 c10_i32_922
  let c32_i32_923 : BitVec 32 := 32#32
  let v933 : BitVec 32 := Scalar.addi v932 c32_i32_923
  let c32_i32_924 : BitVec 32 := 32#32
  let v934 : BitVec 32 := Scalar.remsi v933 c32_i32_924
  let v935 : Index := Scalar.indexCast v934
  ![v935.toNat]
def k0_off47 (v936 : BitVec 32) : Fin 2 → Nat :=
  let c128_i32_925 : BitVec 32 := 128#32
  let v937 : BitVec 32 := Scalar.muli v936 c128_i32_925
  let v938 : Index := Scalar.indexCast v937
  let c0_926 : Index := 0#32
  ![v938.toNat, 0]

def k0_chk25 (v936 : BitVec 32) : Prop :=
  (∀ a, (k0_off47 v936) a + S128x128.size a ≤ S4096x128.size a)
theorem k0_off47_inb : ∀ (v936 : BitVec 32) (k0_hw25 : k0_chk25 v936), ∀ a, (k0_off47 v936) a + S128x128.size a ≤ S4096x128.size a := fun v936 k0_hw25 => k0_hw25

def k0_dev41 (v9 : BitVec 32) : Nat :=
  let c0_i32_945 : BitVec 32 := 0#32
  let c1_i32_944 : BitVec 32 := 1#32
  let v956 : BitVec 32 := Scalar.muli v9 c1_i32_944
  let v957 : BitVec 32 := Scalar.addi c0_i32_945 v956
  v957.toNat
def k0_dev42 (v13 : BitVec 32) : Nat :=
  let c0_i32_961 : BitVec 32 := 0#32
  let c1_i32_960 : BitVec 32 := 1#32
  let v970 : BitVec 32 := Scalar.muli v13 c1_i32_960
  let v971 : BitVec 32 := Scalar.addi c0_i32_961 v970
  v971.toNat
def k0_dev43 (v13 : BitVec 32) : Nat :=
  let c0_i32_981 : BitVec 32 := 0#32
  let c1_i32_980 : BitVec 32 := 1#32
  let v982 : BitVec 32 := Scalar.muli v13 c1_i32_980
  let v983 : BitVec 32 := Scalar.addi c0_i32_981 v982
  v983.toNat
def k0_dev44 (v9 : BitVec 32) : Nat :=
  let c0_i32_1005 : BitVec 32 := 0#32
  let c1_i32_1004 : BitVec 32 := 1#32
  let v1002 : BitVec 32 := Scalar.muli v9 c1_i32_1004
  let v1003 : BitVec 32 := Scalar.addi c0_i32_1005 v1002
  v1003.toNat
def k0_off48 (v4 : BitVec 32) : Fin 1 → Nat :=
  let c16_i32_1010 : BitVec 32 := 16#32
  let v1012 : BitVec 32 := Scalar.addi v4 c16_i32_1010
  let c11_i32 : BitVec 32 := 11#32
  let v1013 : BitVec 32 := Scalar.subi v1012 c11_i32
  let c32_i32_1011 : BitVec 32 := 32#32
  let v1014 : BitVec 32 := Scalar.addi v1013 c32_i32_1011
  let c32_i32_1012 : BitVec 32 := 32#32
  let v1015 : BitVec 32 := Scalar.remsi v1014 c32_i32_1012
  let v1016 : Index := Scalar.indexCast v1015
  ![v1016.toNat]
def k0_off49 (v1017 : BitVec 32) : Fin 2 → Nat :=
  let c128_i32_1013 : BitVec 32 := 128#32
  let v1018 : BitVec 32 := Scalar.muli v1017 c128_i32_1013
  let v1019 : Index := Scalar.indexCast v1018
  let c0_1014 : Index := 0#32
  ![v1019.toNat, 0]

def k0_chk26 (v1017 : BitVec 32) : Prop :=
  (∀ a, (k0_off49 v1017) a + S128x128.size a ≤ S4096x128.size a)
theorem k0_off49_inb : ∀ (v1017 : BitVec 32) (k0_hw26 : k0_chk26 v1017), ∀ a, (k0_off49 v1017) a + S128x128.size a ≤ S4096x128.size a := fun v1017 k0_hw26 => k0_hw26

def k0_off50 (v4 : BitVec 32) : Fin 1 → Nat :=
  let c16_i32_1018 : BitVec 32 := 16#32
  let v1025 : BitVec 32 := Scalar.subi v4 c16_i32_1018
  let c1_i32_1019 : BitVec 32 := 1#32
  let v1026 : BitVec 32 := Scalar.addi v1025 c1_i32_1019
  let c11_i32_1020 : BitVec 32 := 11#32
  let v1027 : BitVec 32 := Scalar.addi v1026 c11_i32_1020
  let c32_i32_1021 : BitVec 32 := 32#32
  let v1028 : BitVec 32 := Scalar.addi v1027 c32_i32_1021
  let c32_i32_1022 : BitVec 32 := 32#32
  let v1029 : BitVec 32 := Scalar.remsi v1028 c32_i32_1022
  let v1030 : Index := Scalar.indexCast v1029
  ![v1030.toNat]
def k0_off51 (v1031 : BitVec 32) : Fin 2 → Nat :=
  let c128_i32_1023 : BitVec 32 := 128#32
  let v1032 : BitVec 32 := Scalar.muli v1031 c128_i32_1023
  let v1033 : Index := Scalar.indexCast v1032
  let c0_1024 : Index := 0#32
  ![v1033.toNat, 0]

def k0_chk27 (v1031 : BitVec 32) : Prop :=
  (∀ a, (k0_off51 v1031) a + S128x128.size a ≤ S4096x128.size a)
theorem k0_off51_inb : ∀ (v1031 : BitVec 32) (k0_hw27 : k0_chk27 v1031), ∀ a, (k0_off51 v1031) a + S128x128.size a ≤ S4096x128.size a := fun v1031 k0_hw27 => k0_hw27

def k0_dev45 (v9 : BitVec 32) : Nat :=
  let c0_i32_1043 : BitVec 32 := 0#32
  let c1_i32_1042 : BitVec 32 := 1#32
  let v1051 : BitVec 32 := Scalar.muli v9 c1_i32_1042
  let v1052 : BitVec 32 := Scalar.addi c0_i32_1043 v1051
  v1052.toNat
def k0_dev46 (v13 : BitVec 32) : Nat :=
  let c0_i32_1059 : BitVec 32 := 0#32
  let c1_i32_1058 : BitVec 32 := 1#32
  let v1065 : BitVec 32 := Scalar.muli v13 c1_i32_1058
  let v1066 : BitVec 32 := Scalar.addi c0_i32_1059 v1065
  v1066.toNat
def k0_dev47 (v13 : BitVec 32) : Nat :=
  let c0_i32_1079 : BitVec 32 := 0#32
  let c1_i32_1078 : BitVec 32 := 1#32
  let v1077 : BitVec 32 := Scalar.muli v13 c1_i32_1078
  let v1078 : BitVec 32 := Scalar.addi c0_i32_1079 v1077
  v1078.toNat
def k0_dev48 (v9 : BitVec 32) : Nat :=
  let c0_i32_1103 : BitVec 32 := 0#32
  let c1_i32_1102 : BitVec 32 := 1#32
  let v1097 : BitVec 32 := Scalar.muli v9 c1_i32_1102
  let v1098 : BitVec 32 := Scalar.addi c0_i32_1103 v1097
  v1098.toNat
def k0_off52 (v4 : BitVec 32) : Fin 1 → Nat :=
  let c16_i32_1108 : BitVec 32 := 16#32
  let v1107 : BitVec 32 := Scalar.addi v4 c16_i32_1108
  let c12_i32 : BitVec 32 := 12#32
  let v1108 : BitVec 32 := Scalar.subi v1107 c12_i32
  let c32_i32_1109 : BitVec 32 := 32#32
  let v1109 : BitVec 32 := Scalar.addi v1108 c32_i32_1109
  let c32_i32_1110 : BitVec 32 := 32#32
  let v1110 : BitVec 32 := Scalar.remsi v1109 c32_i32_1110
  let v1111 : Index := Scalar.indexCast v1110
  ![v1111.toNat]
def k0_off53 (v1112 : BitVec 32) : Fin 2 → Nat :=
  let c128_i32_1111 : BitVec 32 := 128#32
  let v1113 : BitVec 32 := Scalar.muli v1112 c128_i32_1111
  let v1114 : Index := Scalar.indexCast v1113
  let c0_1112 : Index := 0#32
  ![v1114.toNat, 0]

def k0_chk28 (v1112 : BitVec 32) : Prop :=
  (∀ a, (k0_off53 v1112) a + S128x128.size a ≤ S4096x128.size a)
theorem k0_off53_inb : ∀ (v1112 : BitVec 32) (k0_hw28 : k0_chk28 v1112), ∀ a, (k0_off53 v1112) a + S128x128.size a ≤ S4096x128.size a := fun v1112 k0_hw28 => k0_hw28

def k0_off54 (v4 : BitVec 32) : Fin 1 → Nat :=
  let c16_i32_1116 : BitVec 32 := 16#32
  let v1120 : BitVec 32 := Scalar.subi v4 c16_i32_1116
  let c1_i32_1117 : BitVec 32 := 1#32
  let v1121 : BitVec 32 := Scalar.addi v1120 c1_i32_1117
  let c12_i32_1118 : BitVec 32 := 12#32
  let v1122 : BitVec 32 := Scalar.addi v1121 c12_i32_1118
  let c32_i32_1119 : BitVec 32 := 32#32
  let v1123 : BitVec 32 := Scalar.addi v1122 c32_i32_1119
  let c32_i32_1120 : BitVec 32 := 32#32
  let v1124 : BitVec 32 := Scalar.remsi v1123 c32_i32_1120
  let v1125 : Index := Scalar.indexCast v1124
  ![v1125.toNat]
def k0_off55 (v1126 : BitVec 32) : Fin 2 → Nat :=
  let c128_i32_1121 : BitVec 32 := 128#32
  let v1127 : BitVec 32 := Scalar.muli v1126 c128_i32_1121
  let v1128 : Index := Scalar.indexCast v1127
  let c0_1122 : Index := 0#32
  ![v1128.toNat, 0]

def k0_chk29 (v1126 : BitVec 32) : Prop :=
  (∀ a, (k0_off55 v1126) a + S128x128.size a ≤ S4096x128.size a)
theorem k0_off55_inb : ∀ (v1126 : BitVec 32) (k0_hw29 : k0_chk29 v1126), ∀ a, (k0_off55 v1126) a + S128x128.size a ≤ S4096x128.size a := fun v1126 k0_hw29 => k0_hw29

def k0_dev49 (v9 : BitVec 32) : Nat :=
  let c0_i32_1141 : BitVec 32 := 0#32
  let c1_i32_1140 : BitVec 32 := 1#32
  let v1146 : BitVec 32 := Scalar.muli v9 c1_i32_1140
  let v1147 : BitVec 32 := Scalar.addi c0_i32_1141 v1146
  v1147.toNat
def k0_dev50 (v13 : BitVec 32) : Nat :=
  let c0_i32_1157 : BitVec 32 := 0#32
  let c1_i32_1156 : BitVec 32 := 1#32
  let v1160 : BitVec 32 := Scalar.muli v13 c1_i32_1156
  let v1161 : BitVec 32 := Scalar.addi c0_i32_1157 v1160
  v1161.toNat
def k0_dev51 (v13 : BitVec 32) : Nat :=
  let c0_i32_1177 : BitVec 32 := 0#32
  let c1_i32_1176 : BitVec 32 := 1#32
  let v1172 : BitVec 32 := Scalar.muli v13 c1_i32_1176
  let v1173 : BitVec 32 := Scalar.addi c0_i32_1177 v1172
  v1173.toNat
def k0_dev52 (v9 : BitVec 32) : Nat :=
  let c0_i32_1201 : BitVec 32 := 0#32
  let c1_i32_1200 : BitVec 32 := 1#32
  let v1192 : BitVec 32 := Scalar.muli v9 c1_i32_1200
  let v1193 : BitVec 32 := Scalar.addi c0_i32_1201 v1192
  v1193.toNat
def k0_off56 (v4 : BitVec 32) : Fin 1 → Nat :=
  let c16_i32_1206 : BitVec 32 := 16#32
  let v1202 : BitVec 32 := Scalar.addi v4 c16_i32_1206
  let c13_i32 : BitVec 32 := 13#32
  let v1203 : BitVec 32 := Scalar.subi v1202 c13_i32
  let c32_i32_1207 : BitVec 32 := 32#32
  let v1204 : BitVec 32 := Scalar.addi v1203 c32_i32_1207
  let c32_i32_1208 : BitVec 32 := 32#32
  let v1205 : BitVec 32 := Scalar.remsi v1204 c32_i32_1208
  let v1206 : Index := Scalar.indexCast v1205
  ![v1206.toNat]
def k0_off57 (v1207 : BitVec 32) : Fin 2 → Nat :=
  let c128_i32_1209 : BitVec 32 := 128#32
  let v1208 : BitVec 32 := Scalar.muli v1207 c128_i32_1209
  let v1209 : Index := Scalar.indexCast v1208
  let c0_1210 : Index := 0#32
  ![v1209.toNat, 0]

def k0_chk30 (v1207 : BitVec 32) : Prop :=
  (∀ a, (k0_off57 v1207) a + S128x128.size a ≤ S4096x128.size a)
theorem k0_off57_inb : ∀ (v1207 : BitVec 32) (k0_hw30 : k0_chk30 v1207), ∀ a, (k0_off57 v1207) a + S128x128.size a ≤ S4096x128.size a := fun v1207 k0_hw30 => k0_hw30

def k0_off58 (v4 : BitVec 32) : Fin 1 → Nat :=
  let c16_i32_1214 : BitVec 32 := 16#32
  let v1215 : BitVec 32 := Scalar.subi v4 c16_i32_1214
  let c1_i32_1215 : BitVec 32 := 1#32
  let v1216 : BitVec 32 := Scalar.addi v1215 c1_i32_1215
  let c13_i32_1216 : BitVec 32 := 13#32
  let v1217 : BitVec 32 := Scalar.addi v1216 c13_i32_1216
  let c32_i32_1217 : BitVec 32 := 32#32
  let v1218 : BitVec 32 := Scalar.addi v1217 c32_i32_1217
  let c32_i32_1218 : BitVec 32 := 32#32
  let v1219 : BitVec 32 := Scalar.remsi v1218 c32_i32_1218
  let v1220 : Index := Scalar.indexCast v1219
  ![v1220.toNat]
def k0_off59 (v1221 : BitVec 32) : Fin 2 → Nat :=
  let c128_i32_1219 : BitVec 32 := 128#32
  let v1222 : BitVec 32 := Scalar.muli v1221 c128_i32_1219
  let v1223 : Index := Scalar.indexCast v1222
  let c0_1220 : Index := 0#32
  ![v1223.toNat, 0]

def k0_chk31 (v1221 : BitVec 32) : Prop :=
  (∀ a, (k0_off59 v1221) a + S128x128.size a ≤ S4096x128.size a)
theorem k0_off59_inb : ∀ (v1221 : BitVec 32) (k0_hw31 : k0_chk31 v1221), ∀ a, (k0_off59 v1221) a + S128x128.size a ≤ S4096x128.size a := fun v1221 k0_hw31 => k0_hw31

def k0_dev53 (v9 : BitVec 32) : Nat :=
  let c0_i32_1239 : BitVec 32 := 0#32
  let c1_i32_1238 : BitVec 32 := 1#32
  let v1241 : BitVec 32 := Scalar.muli v9 c1_i32_1238
  let v1242 : BitVec 32 := Scalar.addi c0_i32_1239 v1241
  v1242.toNat
def k0_dev54 (v13 : BitVec 32) : Nat :=
  let c0_i32_1255 : BitVec 32 := 0#32
  let c1_i32_1254 : BitVec 32 := 1#32
  let v1255 : BitVec 32 := Scalar.muli v13 c1_i32_1254
  let v1256 : BitVec 32 := Scalar.addi c0_i32_1255 v1255
  v1256.toNat
def k0_dev55 (v13 : BitVec 32) : Nat :=
  let c0_i32_1275 : BitVec 32 := 0#32
  let c1_i32_1274 : BitVec 32 := 1#32
  let v1267 : BitVec 32 := Scalar.muli v13 c1_i32_1274
  let v1268 : BitVec 32 := Scalar.addi c0_i32_1275 v1267
  v1268.toNat
def k0_dev56 (v9 : BitVec 32) : Nat :=
  let c0_i32_1299 : BitVec 32 := 0#32
  let c1_i32_1298 : BitVec 32 := 1#32
  let v1287 : BitVec 32 := Scalar.muli v9 c1_i32_1298
  let v1288 : BitVec 32 := Scalar.addi c0_i32_1299 v1287
  v1288.toNat
def k0_off60 (v4 : BitVec 32) : Fin 1 → Nat :=
  let c16_i32_1304 : BitVec 32 := 16#32
  let v1297 : BitVec 32 := Scalar.addi v4 c16_i32_1304
  let c14_i32 : BitVec 32 := 14#32
  let v1298 : BitVec 32 := Scalar.subi v1297 c14_i32
  let c32_i32_1305 : BitVec 32 := 32#32
  let v1299 : BitVec 32 := Scalar.addi v1298 c32_i32_1305
  let c32_i32_1306 : BitVec 32 := 32#32
  let v1300 : BitVec 32 := Scalar.remsi v1299 c32_i32_1306
  let v1301 : Index := Scalar.indexCast v1300
  ![v1301.toNat]
def k0_off61 (v1302 : BitVec 32) : Fin 2 → Nat :=
  let c128_i32_1307 : BitVec 32 := 128#32
  let v1303 : BitVec 32 := Scalar.muli v1302 c128_i32_1307
  let v1304 : Index := Scalar.indexCast v1303
  let c0_1308 : Index := 0#32
  ![v1304.toNat, 0]

def k0_chk32 (v1302 : BitVec 32) : Prop :=
  (∀ a, (k0_off61 v1302) a + S128x128.size a ≤ S4096x128.size a)
theorem k0_off61_inb : ∀ (v1302 : BitVec 32) (k0_hw32 : k0_chk32 v1302), ∀ a, (k0_off61 v1302) a + S128x128.size a ≤ S4096x128.size a := fun v1302 k0_hw32 => k0_hw32

def k0_off62 (v4 : BitVec 32) : Fin 1 → Nat :=
  let c16_i32_1312 : BitVec 32 := 16#32
  let v1310 : BitVec 32 := Scalar.subi v4 c16_i32_1312
  let c1_i32_1313 : BitVec 32 := 1#32
  let v1311 : BitVec 32 := Scalar.addi v1310 c1_i32_1313
  let c14_i32_1314 : BitVec 32 := 14#32
  let v1312 : BitVec 32 := Scalar.addi v1311 c14_i32_1314
  let c32_i32_1315 : BitVec 32 := 32#32
  let v1313 : BitVec 32 := Scalar.addi v1312 c32_i32_1315
  let c32_i32_1316 : BitVec 32 := 32#32
  let v1314 : BitVec 32 := Scalar.remsi v1313 c32_i32_1316
  let v1315 : Index := Scalar.indexCast v1314
  ![v1315.toNat]
def k0_off63 (v1316 : BitVec 32) : Fin 2 → Nat :=
  let c128_i32_1317 : BitVec 32 := 128#32
  let v1317 : BitVec 32 := Scalar.muli v1316 c128_i32_1317
  let v1318 : Index := Scalar.indexCast v1317
  let c0_1318 : Index := 0#32
  ![v1318.toNat, 0]

def k0_chk33 (v1316 : BitVec 32) : Prop :=
  (∀ a, (k0_off63 v1316) a + S128x128.size a ≤ S4096x128.size a)
theorem k0_off63_inb : ∀ (v1316 : BitVec 32) (k0_hw33 : k0_chk33 v1316), ∀ a, (k0_off63 v1316) a + S128x128.size a ≤ S4096x128.size a := fun v1316 k0_hw33 => k0_hw33

def k0_dev57 (v9 : BitVec 32) : Nat :=
  let c0_i32_1337 : BitVec 32 := 0#32
  let c1_i32_1336 : BitVec 32 := 1#32
  let v1336 : BitVec 32 := Scalar.muli v9 c1_i32_1336
  let v1337 : BitVec 32 := Scalar.addi c0_i32_1337 v1336
  v1337.toNat
def k0_dev58 (v13 : BitVec 32) : Nat :=
  let c0_i32_1370 : BitVec 32 := 0#32
  let c1_i32_1369 : BitVec 32 := 1#32
  let v1360 : BitVec 32 := Scalar.muli v13 c1_i32_1369
  let v1361 : BitVec 32 := Scalar.addi c0_i32_1370 v1360
  v1361.toNat
def k0_dev59 (v9 : BitVec 32) : Nat :=
  let c0_i32_1394 : BitVec 32 := 0#32
  let c1_i32_1393 : BitVec 32 := 1#32
  let v1380 : BitVec 32 := Scalar.muli v9 c1_i32_1393
  let v1381 : BitVec 32 := Scalar.addi c0_i32_1394 v1380
  v1381.toNat

def k0_chk2 (v9 : BitVec 32) : Prop :=
  ((k0_dev1 v9) < nD) ∧
  ((k0_dev4 v9) < nD) ∧
  ((k0_dev5 v9) < nD) ∧
  ((k0_dev8 v9) < nD) ∧
  ((k0_dev9 v9) < nD) ∧
  ((k0_dev12 v9) < nD) ∧
  ((k0_dev13 v9) < nD) ∧
  ((k0_dev16 v9) < nD) ∧
  ((k0_dev17 v9) < nD) ∧
  ((k0_dev20 v9) < nD) ∧
  ((k0_dev21 v9) < nD) ∧
  ((k0_dev24 v9) < nD) ∧
  ((k0_dev25 v9) < nD) ∧
  ((k0_dev28 v9) < nD) ∧
  ((k0_dev29 v9) < nD) ∧
  ((k0_dev32 v9) < nD) ∧
  ((k0_dev33 v9) < nD) ∧
  ((k0_dev36 v9) < nD) ∧
  ((k0_dev37 v9) < nD) ∧
  ((k0_dev40 v9) < nD) ∧
  ((k0_dev41 v9) < nD) ∧
  ((k0_dev44 v9) < nD) ∧
  ((k0_dev45 v9) < nD) ∧
  ((k0_dev48 v9) < nD) ∧
  ((k0_dev49 v9) < nD) ∧
  ((k0_dev52 v9) < nD) ∧
  ((k0_dev53 v9) < nD) ∧
  ((k0_dev56 v9) < nD) ∧
  ((k0_dev57 v9) < nD) ∧
  ((k0_dev59 v9) < nD)
theorem k0_dev1_lt : ∀ (v9 : BitVec 32) (k0_hw2 : k0_chk2 v9), (k0_dev1 v9) < nD := fun v9 k0_hw2 => k0_hw2.1
theorem k0_dev4_lt : ∀ (v9 : BitVec 32) (k0_hw2 : k0_chk2 v9), (k0_dev4 v9) < nD := fun v9 k0_hw2 => k0_hw2.2.1
theorem k0_dev5_lt : ∀ (v9 : BitVec 32) (k0_hw2 : k0_chk2 v9), (k0_dev5 v9) < nD := fun v9 k0_hw2 => k0_hw2.2.2.1
theorem k0_dev8_lt : ∀ (v9 : BitVec 32) (k0_hw2 : k0_chk2 v9), (k0_dev8 v9) < nD := fun v9 k0_hw2 => k0_hw2.2.2.2.1
theorem k0_dev9_lt : ∀ (v9 : BitVec 32) (k0_hw2 : k0_chk2 v9), (k0_dev9 v9) < nD := fun v9 k0_hw2 => k0_hw2.2.2.2.2.1
theorem k0_dev12_lt : ∀ (v9 : BitVec 32) (k0_hw2 : k0_chk2 v9), (k0_dev12 v9) < nD := fun v9 k0_hw2 => k0_hw2.2.2.2.2.2.1
theorem k0_dev13_lt : ∀ (v9 : BitVec 32) (k0_hw2 : k0_chk2 v9), (k0_dev13 v9) < nD := fun v9 k0_hw2 => k0_hw2.2.2.2.2.2.2.1
theorem k0_dev16_lt : ∀ (v9 : BitVec 32) (k0_hw2 : k0_chk2 v9), (k0_dev16 v9) < nD := fun v9 k0_hw2 => k0_hw2.2.2.2.2.2.2.2.1
theorem k0_dev17_lt : ∀ (v9 : BitVec 32) (k0_hw2 : k0_chk2 v9), (k0_dev17 v9) < nD := fun v9 k0_hw2 => k0_hw2.2.2.2.2.2.2.2.2.1
theorem k0_dev20_lt : ∀ (v9 : BitVec 32) (k0_hw2 : k0_chk2 v9), (k0_dev20 v9) < nD := fun v9 k0_hw2 => k0_hw2.2.2.2.2.2.2.2.2.2.1
theorem k0_dev21_lt : ∀ (v9 : BitVec 32) (k0_hw2 : k0_chk2 v9), (k0_dev21 v9) < nD := fun v9 k0_hw2 => k0_hw2.2.2.2.2.2.2.2.2.2.2.1
theorem k0_dev24_lt : ∀ (v9 : BitVec 32) (k0_hw2 : k0_chk2 v9), (k0_dev24 v9) < nD := fun v9 k0_hw2 => k0_hw2.2.2.2.2.2.2.2.2.2.2.2.1
theorem k0_dev25_lt : ∀ (v9 : BitVec 32) (k0_hw2 : k0_chk2 v9), (k0_dev25 v9) < nD := fun v9 k0_hw2 => k0_hw2.2.2.2.2.2.2.2.2.2.2.2.2.1
theorem k0_dev28_lt : ∀ (v9 : BitVec 32) (k0_hw2 : k0_chk2 v9), (k0_dev28 v9) < nD := fun v9 k0_hw2 => k0_hw2.2.2.2.2.2.2.2.2.2.2.2.2.2.1
theorem k0_dev29_lt : ∀ (v9 : BitVec 32) (k0_hw2 : k0_chk2 v9), (k0_dev29 v9) < nD := fun v9 k0_hw2 => k0_hw2.2.2.2.2.2.2.2.2.2.2.2.2.2.2.1
theorem k0_dev32_lt : ∀ (v9 : BitVec 32) (k0_hw2 : k0_chk2 v9), (k0_dev32 v9) < nD := fun v9 k0_hw2 => k0_hw2.2.2.2.2.2.2.2.2.2.2.2.2.2.2.2.1
theorem k0_dev33_lt : ∀ (v9 : BitVec 32) (k0_hw2 : k0_chk2 v9), (k0_dev33 v9) < nD := fun v9 k0_hw2 => k0_hw2.2.2.2.2.2.2.2.2.2.2.2.2.2.2.2.2.1
theorem k0_dev36_lt : ∀ (v9 : BitVec 32) (k0_hw2 : k0_chk2 v9), (k0_dev36 v9) < nD := fun v9 k0_hw2 => k0_hw2.2.2.2.2.2.2.2.2.2.2.2.2.2.2.2.2.2.1
theorem k0_dev37_lt : ∀ (v9 : BitVec 32) (k0_hw2 : k0_chk2 v9), (k0_dev37 v9) < nD := fun v9 k0_hw2 => k0_hw2.2.2.2.2.2.2.2.2.2.2.2.2.2.2.2.2.2.2.1
theorem k0_dev40_lt : ∀ (v9 : BitVec 32) (k0_hw2 : k0_chk2 v9), (k0_dev40 v9) < nD := fun v9 k0_hw2 => k0_hw2.2.2.2.2.2.2.2.2.2.2.2.2.2.2.2.2.2.2.2.1
theorem k0_dev41_lt : ∀ (v9 : BitVec 32) (k0_hw2 : k0_chk2 v9), (k0_dev41 v9) < nD := fun v9 k0_hw2 => k0_hw2.2.2.2.2.2.2.2.2.2.2.2.2.2.2.2.2.2.2.2.2.1
theorem k0_dev44_lt : ∀ (v9 : BitVec 32) (k0_hw2 : k0_chk2 v9), (k0_dev44 v9) < nD := fun v9 k0_hw2 => k0_hw2.2.2.2.2.2.2.2.2.2.2.2.2.2.2.2.2.2.2.2.2.2.1
theorem k0_dev45_lt : ∀ (v9 : BitVec 32) (k0_hw2 : k0_chk2 v9), (k0_dev45 v9) < nD := fun v9 k0_hw2 => k0_hw2.2.2.2.2.2.2.2.2.2.2.2.2.2.2.2.2.2.2.2.2.2.2.1
theorem k0_dev48_lt : ∀ (v9 : BitVec 32) (k0_hw2 : k0_chk2 v9), (k0_dev48 v9) < nD := fun v9 k0_hw2 => k0_hw2.2.2.2.2.2.2.2.2.2.2.2.2.2.2.2.2.2.2.2.2.2.2.2.1
theorem k0_dev49_lt : ∀ (v9 : BitVec 32) (k0_hw2 : k0_chk2 v9), (k0_dev49 v9) < nD := fun v9 k0_hw2 => k0_hw2.2.2.2.2.2.2.2.2.2.2.2.2.2.2.2.2.2.2.2.2.2.2.2.2.1
theorem k0_dev52_lt : ∀ (v9 : BitVec 32) (k0_hw2 : k0_chk2 v9), (k0_dev52 v9) < nD := fun v9 k0_hw2 => k0_hw2.2.2.2.2.2.2.2.2.2.2.2.2.2.2.2.2.2.2.2.2.2.2.2.2.2.1
theorem k0_dev53_lt : ∀ (v9 : BitVec 32) (k0_hw2 : k0_chk2 v9), (k0_dev53 v9) < nD := fun v9 k0_hw2 => k0_hw2.2.2.2.2.2.2.2.2.2.2.2.2.2.2.2.2.2.2.2.2.2.2.2.2.2.2.1
theorem k0_dev56_lt : ∀ (v9 : BitVec 32) (k0_hw2 : k0_chk2 v9), (k0_dev56 v9) < nD := fun v9 k0_hw2 => k0_hw2.2.2.2.2.2.2.2.2.2.2.2.2.2.2.2.2.2.2.2.2.2.2.2.2.2.2.2.1
theorem k0_dev57_lt : ∀ (v9 : BitVec 32) (k0_hw2 : k0_chk2 v9), (k0_dev57 v9) < nD := fun v9 k0_hw2 => k0_hw2.2.2.2.2.2.2.2.2.2.2.2.2.2.2.2.2.2.2.2.2.2.2.2.2.2.2.2.2.1
theorem k0_dev59_lt : ∀ (v9 : BitVec 32) (k0_hw2 : k0_chk2 v9), (k0_dev59 v9) < nD := fun v9 k0_hw2 => k0_hw2.2.2.2.2.2.2.2.2.2.2.2.2.2.2.2.2.2.2.2.2.2.2.2.2.2.2.2.2.2

def k0_off64 (v4 : BitVec 32) : Fin 1 → Nat :=
  let c16_i32_1399 : BitVec 32 := 16#32
  let v1390 : BitVec 32 := Scalar.addi v4 c16_i32_1399
  let c15_i32 : BitVec 32 := 15#32
  let v1391 : BitVec 32 := Scalar.subi v1390 c15_i32
  let c32_i32_1400 : BitVec 32 := 32#32
  let v1392 : BitVec 32 := Scalar.addi v1391 c32_i32_1400
  let c32_i32_1401 : BitVec 32 := 32#32
  let v1393 : BitVec 32 := Scalar.remsi v1392 c32_i32_1401
  let v1394 : Index := Scalar.indexCast v1393
  ![v1394.toNat]

def k0_chk1_0 (v4 : BitVec 32) : Prop :=
  (∀ a, (k0_off2 v4) a + S1.size a ≤ S32.size a) ∧
  (∀ a, (k0_off3 v4) a + S1.size a ≤ S32.size a) ∧
  (∀ a, (k0_off4 v4) a + S1.size a ≤ S32.size a) ∧
  (∀ a, (k0_off6 v4) a + S1.size a ≤ S32.size a) ∧
  (∀ a, (k0_off8 v4) a + S1.size a ≤ S32.size a) ∧
  (∀ a, (k0_off10 v4) a + S1.size a ≤ S32.size a) ∧
  (∀ a, (k0_off12 v4) a + S1.size a ≤ S32.size a) ∧
  (∀ a, (k0_off14 v4) a + S1.size a ≤ S32.size a) ∧
  (∀ a, (k0_off16 v4) a + S1.size a ≤ S32.size a) ∧
  (∀ a, (k0_off18 v4) a + S1.size a ≤ S32.size a) ∧
  (∀ a, (k0_off20 v4) a + S1.size a ≤ S32.size a) ∧
  (∀ a, (k0_off22 v4) a + S1.size a ≤ S32.size a) ∧
  (∀ a, (k0_off24 v4) a + S1.size a ≤ S32.size a) ∧
  (∀ a, (k0_off26 v4) a + S1.size a ≤ S32.size a) ∧
  (∀ a, (k0_off28 v4) a + S1.size a ≤ S32.size a) ∧
  (∀ a, (k0_off30 v4) a + S1.size a ≤ S32.size a) ∧
  (∀ a, (k0_off32 v4) a + S1.size a ≤ S32.size a) ∧
  (∀ a, (k0_off34 v4) a + S1.size a ≤ S32.size a) ∧
  (∀ a, (k0_off36 v4) a + S1.size a ≤ S32.size a) ∧
  (∀ a, (k0_off38 v4) a + S1.size a ≤ S32.size a) ∧
  (∀ a, (k0_off40 v4) a + S1.size a ≤ S32.size a) ∧
  (∀ a, (k0_off42 v4) a + S1.size a ≤ S32.size a) ∧
  (∀ a, (k0_off44 v4) a + S1.size a ≤ S32.size a) ∧
  (∀ a, (k0_off46 v4) a + S1.size a ≤ S32.size a) ∧
  (∀ a, (k0_off48 v4) a + S1.size a ≤ S32.size a) ∧
  (∀ a, (k0_off50 v4) a + S1.size a ≤ S32.size a) ∧
  (∀ a, (k0_off52 v4) a + S1.size a ≤ S32.size a) ∧
  (∀ a, (k0_off54 v4) a + S1.size a ≤ S32.size a) ∧
  (∀ a, (k0_off56 v4) a + S1.size a ≤ S32.size a) ∧
  (∀ a, (k0_off58 v4) a + S1.size a ≤ S32.size a) ∧
  (∀ a, (k0_off60 v4) a + S1.size a ≤ S32.size a) ∧
  (∀ a, (k0_off62 v4) a + S1.size a ≤ S32.size a)
def k0_chk1_1 (v4 : BitVec 32) : Prop :=
  (∀ a, (k0_off64 v4) a + S1.size a ≤ S32.size a)
def k0_chk1 (v4 : BitVec 32) : Prop :=
  k0_chk1_0 v4 ∧
  k0_chk1_1 v4
theorem k0_off2_inb : ∀ (v4 : BitVec 32) (k0_hw1 : k0_chk1 v4), ∀ a, (k0_off2 v4) a + S1.size a ≤ S32.size a := fun v4 k0_hw1 => k0_hw1.1.1
theorem k0_off3_inb : ∀ (v4 : BitVec 32) (k0_hw1 : k0_chk1 v4), ∀ a, (k0_off3 v4) a + S1.size a ≤ S32.size a := fun v4 k0_hw1 => k0_hw1.1.2.1
theorem k0_off4_inb : ∀ (v4 : BitVec 32) (k0_hw1 : k0_chk1 v4), ∀ a, (k0_off4 v4) a + S1.size a ≤ S32.size a := fun v4 k0_hw1 => k0_hw1.1.2.2.1
theorem k0_off6_inb : ∀ (v4 : BitVec 32) (k0_hw1 : k0_chk1 v4), ∀ a, (k0_off6 v4) a + S1.size a ≤ S32.size a := fun v4 k0_hw1 => k0_hw1.1.2.2.2.1
theorem k0_off8_inb : ∀ (v4 : BitVec 32) (k0_hw1 : k0_chk1 v4), ∀ a, (k0_off8 v4) a + S1.size a ≤ S32.size a := fun v4 k0_hw1 => k0_hw1.1.2.2.2.2.1
theorem k0_off10_inb : ∀ (v4 : BitVec 32) (k0_hw1 : k0_chk1 v4), ∀ a, (k0_off10 v4) a + S1.size a ≤ S32.size a := fun v4 k0_hw1 => k0_hw1.1.2.2.2.2.2.1
theorem k0_off12_inb : ∀ (v4 : BitVec 32) (k0_hw1 : k0_chk1 v4), ∀ a, (k0_off12 v4) a + S1.size a ≤ S32.size a := fun v4 k0_hw1 => k0_hw1.1.2.2.2.2.2.2.1
theorem k0_off14_inb : ∀ (v4 : BitVec 32) (k0_hw1 : k0_chk1 v4), ∀ a, (k0_off14 v4) a + S1.size a ≤ S32.size a := fun v4 k0_hw1 => k0_hw1.1.2.2.2.2.2.2.2.1
theorem k0_off16_inb : ∀ (v4 : BitVec 32) (k0_hw1 : k0_chk1 v4), ∀ a, (k0_off16 v4) a + S1.size a ≤ S32.size a := fun v4 k0_hw1 => k0_hw1.1.2.2.2.2.2.2.2.2.1
theorem k0_off18_inb : ∀ (v4 : BitVec 32) (k0_hw1 : k0_chk1 v4), ∀ a, (k0_off18 v4) a + S1.size a ≤ S32.size a := fun v4 k0_hw1 => k0_hw1.1.2.2.2.2.2.2.2.2.2.1
theorem k0_off20_inb : ∀ (v4 : BitVec 32) (k0_hw1 : k0_chk1 v4), ∀ a, (k0_off20 v4) a + S1.size a ≤ S32.size a := fun v4 k0_hw1 => k0_hw1.1.2.2.2.2.2.2.2.2.2.2.1
theorem k0_off22_inb : ∀ (v4 : BitVec 32) (k0_hw1 : k0_chk1 v4), ∀ a, (k0_off22 v4) a + S1.size a ≤ S32.size a := fun v4 k0_hw1 => k0_hw1.1.2.2.2.2.2.2.2.2.2.2.2.1
theorem k0_off24_inb : ∀ (v4 : BitVec 32) (k0_hw1 : k0_chk1 v4), ∀ a, (k0_off24 v4) a + S1.size a ≤ S32.size a := fun v4 k0_hw1 => k0_hw1.1.2.2.2.2.2.2.2.2.2.2.2.2.1
theorem k0_off26_inb : ∀ (v4 : BitVec 32) (k0_hw1 : k0_chk1 v4), ∀ a, (k0_off26 v4) a + S1.size a ≤ S32.size a := fun v4 k0_hw1 => k0_hw1.1.2.2.2.2.2.2.2.2.2.2.2.2.2.1
theorem k0_off28_inb : ∀ (v4 : BitVec 32) (k0_hw1 : k0_chk1 v4), ∀ a, (k0_off28 v4) a + S1.size a ≤ S32.size a := fun v4 k0_hw1 => k0_hw1.1.2.2.2.2.2.2.2.2.2.2.2.2.2.2.1
theorem k0_off30_inb : ∀ (v4 : BitVec 32) (k0_hw1 : k0_chk1 v4), ∀ a, (k0_off30 v4) a + S1.size a ≤ S32.size a := fun v4 k0_hw1 => k0_hw1.1.2.2.2.2.2.2.2.2.2.2.2.2.2.2.2.1
theorem k0_off32_inb : ∀ (v4 : BitVec 32) (k0_hw1 : k0_chk1 v4), ∀ a, (k0_off32 v4) a + S1.size a ≤ S32.size a := fun v4 k0_hw1 => k0_hw1.1.2.2.2.2.2.2.2.2.2.2.2.2.2.2.2.2.1
theorem k0_off34_inb : ∀ (v4 : BitVec 32) (k0_hw1 : k0_chk1 v4), ∀ a, (k0_off34 v4) a + S1.size a ≤ S32.size a := fun v4 k0_hw1 => k0_hw1.1.2.2.2.2.2.2.2.2.2.2.2.2.2.2.2.2.2.1
theorem k0_off36_inb : ∀ (v4 : BitVec 32) (k0_hw1 : k0_chk1 v4), ∀ a, (k0_off36 v4) a + S1.size a ≤ S32.size a := fun v4 k0_hw1 => k0_hw1.1.2.2.2.2.2.2.2.2.2.2.2.2.2.2.2.2.2.2.1
theorem k0_off38_inb : ∀ (v4 : BitVec 32) (k0_hw1 : k0_chk1 v4), ∀ a, (k0_off38 v4) a + S1.size a ≤ S32.size a := fun v4 k0_hw1 => k0_hw1.1.2.2.2.2.2.2.2.2.2.2.2.2.2.2.2.2.2.2.2.1
theorem k0_off40_inb : ∀ (v4 : BitVec 32) (k0_hw1 : k0_chk1 v4), ∀ a, (k0_off40 v4) a + S1.size a ≤ S32.size a := fun v4 k0_hw1 => k0_hw1.1.2.2.2.2.2.2.2.2.2.2.2.2.2.2.2.2.2.2.2.2.1
theorem k0_off42_inb : ∀ (v4 : BitVec 32) (k0_hw1 : k0_chk1 v4), ∀ a, (k0_off42 v4) a + S1.size a ≤ S32.size a := fun v4 k0_hw1 => k0_hw1.1.2.2.2.2.2.2.2.2.2.2.2.2.2.2.2.2.2.2.2.2.2.1
theorem k0_off44_inb : ∀ (v4 : BitVec 32) (k0_hw1 : k0_chk1 v4), ∀ a, (k0_off44 v4) a + S1.size a ≤ S32.size a := fun v4 k0_hw1 => k0_hw1.1.2.2.2.2.2.2.2.2.2.2.2.2.2.2.2.2.2.2.2.2.2.2.1
theorem k0_off46_inb : ∀ (v4 : BitVec 32) (k0_hw1 : k0_chk1 v4), ∀ a, (k0_off46 v4) a + S1.size a ≤ S32.size a := fun v4 k0_hw1 => k0_hw1.1.2.2.2.2.2.2.2.2.2.2.2.2.2.2.2.2.2.2.2.2.2.2.2.1
theorem k0_off48_inb : ∀ (v4 : BitVec 32) (k0_hw1 : k0_chk1 v4), ∀ a, (k0_off48 v4) a + S1.size a ≤ S32.size a := fun v4 k0_hw1 => k0_hw1.1.2.2.2.2.2.2.2.2.2.2.2.2.2.2.2.2.2.2.2.2.2.2.2.2.1
theorem k0_off50_inb : ∀ (v4 : BitVec 32) (k0_hw1 : k0_chk1 v4), ∀ a, (k0_off50 v4) a + S1.size a ≤ S32.size a := fun v4 k0_hw1 => k0_hw1.1.2.2.2.2.2.2.2.2.2.2.2.2.2.2.2.2.2.2.2.2.2.2.2.2.2.1
theorem k0_off52_inb : ∀ (v4 : BitVec 32) (k0_hw1 : k0_chk1 v4), ∀ a, (k0_off52 v4) a + S1.size a ≤ S32.size a := fun v4 k0_hw1 => k0_hw1.1.2.2.2.2.2.2.2.2.2.2.2.2.2.2.2.2.2.2.2.2.2.2.2.2.2.2.1
theorem k0_off54_inb : ∀ (v4 : BitVec 32) (k0_hw1 : k0_chk1 v4), ∀ a, (k0_off54 v4) a + S1.size a ≤ S32.size a := fun v4 k0_hw1 => k0_hw1.1.2.2.2.2.2.2.2.2.2.2.2.2.2.2.2.2.2.2.2.2.2.2.2.2.2.2.2.1
theorem k0_off56_inb : ∀ (v4 : BitVec 32) (k0_hw1 : k0_chk1 v4), ∀ a, (k0_off56 v4) a + S1.size a ≤ S32.size a := fun v4 k0_hw1 => k0_hw1.1.2.2.2.2.2.2.2.2.2.2.2.2.2.2.2.2.2.2.2.2.2.2.2.2.2.2.2.2.1
theorem k0_off58_inb : ∀ (v4 : BitVec 32) (k0_hw1 : k0_chk1 v4), ∀ a, (k0_off58 v4) a + S1.size a ≤ S32.size a := fun v4 k0_hw1 => k0_hw1.1.2.2.2.2.2.2.2.2.2.2.2.2.2.2.2.2.2.2.2.2.2.2.2.2.2.2.2.2.2.1
theorem k0_off60_inb : ∀ (v4 : BitVec 32) (k0_hw1 : k0_chk1 v4), ∀ a, (k0_off60 v4) a + S1.size a ≤ S32.size a := fun v4 k0_hw1 => k0_hw1.1.2.2.2.2.2.2.2.2.2.2.2.2.2.2.2.2.2.2.2.2.2.2.2.2.2.2.2.2.2.2.1
theorem k0_off62_inb : ∀ (v4 : BitVec 32) (k0_hw1 : k0_chk1 v4), ∀ a, (k0_off62 v4) a + S1.size a ≤ S32.size a := fun v4 k0_hw1 => k0_hw1.1.2.2.2.2.2.2.2.2.2.2.2.2.2.2.2.2.2.2.2.2.2.2.2.2.2.2.2.2.2.2.2
theorem k0_off64_inb : ∀ (v4 : BitVec 32) (k0_hw1 : k0_chk1 v4), ∀ a, (k0_off64 v4) a + S1.size a ≤ S32.size a := fun v4 k0_hw1 => k0_hw1.2

def k0_off65 (v1395 : BitVec 32) : Fin 2 → Nat :=
  let c128_i32_1402 : BitVec 32 := 128#32
  let v1396 : BitVec 32 := Scalar.muli v1395 c128_i32_1402
  let v1397 : Index := Scalar.indexCast v1396
  let c0_1403 : Index := 0#32
  ![v1397.toNat, 0]

def k0_chk34 (v1395 : BitVec 32) : Prop :=
  (∀ a, (k0_off65 v1395) a + S128x128.size a ≤ S4096x128.size a)
theorem k0_off65_inb : ∀ (v1395 : BitVec 32) (k0_hw34 : k0_chk34 v1395), ∀ a, (k0_off65 v1395) a + S128x128.size a ≤ S4096x128.size a := fun v1395 k0_hw34 => k0_hw34

def k0_dev60 (v13 : BitVec 32) : Nat :=
  let c0_i32_1452 : BitVec 32 := 0#32
  let c1_i32_1451 : BitVec 32 := 1#32
  let v1436 : BitVec 32 := Scalar.muli v13 c1_i32_1451
  let v1437 : BitVec 32 := Scalar.addi c0_i32_1452 v1436
  v1437.toNat

def k0_chk3 (v13 : BitVec 32) : Prop :=
  ((k0_dev2 v13) < nD) ∧
  ((k0_dev3 v13) < nD) ∧
  ((k0_dev6 v13) < nD) ∧
  ((k0_dev7 v13) < nD) ∧
  ((k0_dev10 v13) < nD) ∧
  ((k0_dev11 v13) < nD) ∧
  ((k0_dev14 v13) < nD) ∧
  ((k0_dev15 v13) < nD) ∧
  ((k0_dev18 v13) < nD) ∧
  ((k0_dev19 v13) < nD) ∧
  ((k0_dev22 v13) < nD) ∧
  ((k0_dev23 v13) < nD) ∧
  ((k0_dev26 v13) < nD) ∧
  ((k0_dev27 v13) < nD) ∧
  ((k0_dev30 v13) < nD) ∧
  ((k0_dev31 v13) < nD) ∧
  ((k0_dev34 v13) < nD) ∧
  ((k0_dev35 v13) < nD) ∧
  ((k0_dev38 v13) < nD) ∧
  ((k0_dev39 v13) < nD) ∧
  ((k0_dev42 v13) < nD) ∧
  ((k0_dev43 v13) < nD) ∧
  ((k0_dev46 v13) < nD) ∧
  ((k0_dev47 v13) < nD) ∧
  ((k0_dev50 v13) < nD) ∧
  ((k0_dev51 v13) < nD) ∧
  ((k0_dev54 v13) < nD) ∧
  ((k0_dev55 v13) < nD) ∧
  ((k0_dev58 v13) < nD) ∧
  ((k0_dev60 v13) < nD)
theorem k0_dev2_lt : ∀ (v13 : BitVec 32) (k0_hw3 : k0_chk3 v13), (k0_dev2 v13) < nD := fun v13 k0_hw3 => k0_hw3.1
theorem k0_dev3_lt : ∀ (v13 : BitVec 32) (k0_hw3 : k0_chk3 v13), (k0_dev3 v13) < nD := fun v13 k0_hw3 => k0_hw3.2.1
theorem k0_dev6_lt : ∀ (v13 : BitVec 32) (k0_hw3 : k0_chk3 v13), (k0_dev6 v13) < nD := fun v13 k0_hw3 => k0_hw3.2.2.1
theorem k0_dev7_lt : ∀ (v13 : BitVec 32) (k0_hw3 : k0_chk3 v13), (k0_dev7 v13) < nD := fun v13 k0_hw3 => k0_hw3.2.2.2.1
theorem k0_dev10_lt : ∀ (v13 : BitVec 32) (k0_hw3 : k0_chk3 v13), (k0_dev10 v13) < nD := fun v13 k0_hw3 => k0_hw3.2.2.2.2.1
theorem k0_dev11_lt : ∀ (v13 : BitVec 32) (k0_hw3 : k0_chk3 v13), (k0_dev11 v13) < nD := fun v13 k0_hw3 => k0_hw3.2.2.2.2.2.1
theorem k0_dev14_lt : ∀ (v13 : BitVec 32) (k0_hw3 : k0_chk3 v13), (k0_dev14 v13) < nD := fun v13 k0_hw3 => k0_hw3.2.2.2.2.2.2.1
theorem k0_dev15_lt : ∀ (v13 : BitVec 32) (k0_hw3 : k0_chk3 v13), (k0_dev15 v13) < nD := fun v13 k0_hw3 => k0_hw3.2.2.2.2.2.2.2.1
theorem k0_dev18_lt : ∀ (v13 : BitVec 32) (k0_hw3 : k0_chk3 v13), (k0_dev18 v13) < nD := fun v13 k0_hw3 => k0_hw3.2.2.2.2.2.2.2.2.1
theorem k0_dev19_lt : ∀ (v13 : BitVec 32) (k0_hw3 : k0_chk3 v13), (k0_dev19 v13) < nD := fun v13 k0_hw3 => k0_hw3.2.2.2.2.2.2.2.2.2.1
theorem k0_dev22_lt : ∀ (v13 : BitVec 32) (k0_hw3 : k0_chk3 v13), (k0_dev22 v13) < nD := fun v13 k0_hw3 => k0_hw3.2.2.2.2.2.2.2.2.2.2.1
theorem k0_dev23_lt : ∀ (v13 : BitVec 32) (k0_hw3 : k0_chk3 v13), (k0_dev23 v13) < nD := fun v13 k0_hw3 => k0_hw3.2.2.2.2.2.2.2.2.2.2.2.1
theorem k0_dev26_lt : ∀ (v13 : BitVec 32) (k0_hw3 : k0_chk3 v13), (k0_dev26 v13) < nD := fun v13 k0_hw3 => k0_hw3.2.2.2.2.2.2.2.2.2.2.2.2.1
theorem k0_dev27_lt : ∀ (v13 : BitVec 32) (k0_hw3 : k0_chk3 v13), (k0_dev27 v13) < nD := fun v13 k0_hw3 => k0_hw3.2.2.2.2.2.2.2.2.2.2.2.2.2.1
theorem k0_dev30_lt : ∀ (v13 : BitVec 32) (k0_hw3 : k0_chk3 v13), (k0_dev30 v13) < nD := fun v13 k0_hw3 => k0_hw3.2.2.2.2.2.2.2.2.2.2.2.2.2.2.1
theorem k0_dev31_lt : ∀ (v13 : BitVec 32) (k0_hw3 : k0_chk3 v13), (k0_dev31 v13) < nD := fun v13 k0_hw3 => k0_hw3.2.2.2.2.2.2.2.2.2.2.2.2.2.2.2.1
theorem k0_dev34_lt : ∀ (v13 : BitVec 32) (k0_hw3 : k0_chk3 v13), (k0_dev34 v13) < nD := fun v13 k0_hw3 => k0_hw3.2.2.2.2.2.2.2.2.2.2.2.2.2.2.2.2.1
theorem k0_dev35_lt : ∀ (v13 : BitVec 32) (k0_hw3 : k0_chk3 v13), (k0_dev35 v13) < nD := fun v13 k0_hw3 => k0_hw3.2.2.2.2.2.2.2.2.2.2.2.2.2.2.2.2.2.1
theorem k0_dev38_lt : ∀ (v13 : BitVec 32) (k0_hw3 : k0_chk3 v13), (k0_dev38 v13) < nD := fun v13 k0_hw3 => k0_hw3.2.2.2.2.2.2.2.2.2.2.2.2.2.2.2.2.2.2.1
theorem k0_dev39_lt : ∀ (v13 : BitVec 32) (k0_hw3 : k0_chk3 v13), (k0_dev39 v13) < nD := fun v13 k0_hw3 => k0_hw3.2.2.2.2.2.2.2.2.2.2.2.2.2.2.2.2.2.2.2.1
theorem k0_dev42_lt : ∀ (v13 : BitVec 32) (k0_hw3 : k0_chk3 v13), (k0_dev42 v13) < nD := fun v13 k0_hw3 => k0_hw3.2.2.2.2.2.2.2.2.2.2.2.2.2.2.2.2.2.2.2.2.1
theorem k0_dev43_lt : ∀ (v13 : BitVec 32) (k0_hw3 : k0_chk3 v13), (k0_dev43 v13) < nD := fun v13 k0_hw3 => k0_hw3.2.2.2.2.2.2.2.2.2.2.2.2.2.2.2.2.2.2.2.2.2.1
theorem k0_dev46_lt : ∀ (v13 : BitVec 32) (k0_hw3 : k0_chk3 v13), (k0_dev46 v13) < nD := fun v13 k0_hw3 => k0_hw3.2.2.2.2.2.2.2.2.2.2.2.2.2.2.2.2.2.2.2.2.2.2.1
theorem k0_dev47_lt : ∀ (v13 : BitVec 32) (k0_hw3 : k0_chk3 v13), (k0_dev47 v13) < nD := fun v13 k0_hw3 => k0_hw3.2.2.2.2.2.2.2.2.2.2.2.2.2.2.2.2.2.2.2.2.2.2.2.1
theorem k0_dev50_lt : ∀ (v13 : BitVec 32) (k0_hw3 : k0_chk3 v13), (k0_dev50 v13) < nD := fun v13 k0_hw3 => k0_hw3.2.2.2.2.2.2.2.2.2.2.2.2.2.2.2.2.2.2.2.2.2.2.2.2.1
theorem k0_dev51_lt : ∀ (v13 : BitVec 32) (k0_hw3 : k0_chk3 v13), (k0_dev51 v13) < nD := fun v13 k0_hw3 => k0_hw3.2.2.2.2.2.2.2.2.2.2.2.2.2.2.2.2.2.2.2.2.2.2.2.2.2.1
theorem k0_dev54_lt : ∀ (v13 : BitVec 32) (k0_hw3 : k0_chk3 v13), (k0_dev54 v13) < nD := fun v13 k0_hw3 => k0_hw3.2.2.2.2.2.2.2.2.2.2.2.2.2.2.2.2.2.2.2.2.2.2.2.2.2.2.1
theorem k0_dev55_lt : ∀ (v13 : BitVec 32) (k0_hw3 : k0_chk3 v13), (k0_dev55 v13) < nD := fun v13 k0_hw3 => k0_hw3.2.2.2.2.2.2.2.2.2.2.2.2.2.2.2.2.2.2.2.2.2.2.2.2.2.2.2.1
theorem k0_dev58_lt : ∀ (v13 : BitVec 32) (k0_hw3 : k0_chk3 v13), (k0_dev58 v13) < nD := fun v13 k0_hw3 => k0_hw3.2.2.2.2.2.2.2.2.2.2.2.2.2.2.2.2.2.2.2.2.2.2.2.2.2.2.2.2.1
theorem k0_dev60_lt : ∀ (v13 : BitVec 32) (k0_hw3 : k0_chk3 v13), (k0_dev60 v13) < nD := fun v13 k0_hw3 => k0_hw3.2.2.2.2.2.2.2.2.2.2.2.2.2.2.2.2.2.2.2.2.2.2.2.2.2.2.2.2.2

def k0_off66 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1457 : BitVec 32 := 128#32
  let v1446 : BitVec 32 := Scalar.muli v2 c128_i32_1457
  let v1447 : Index := Scalar.indexCast v1446
  let c0_1458 : Index := 0#32
  ![v1447.toNat, 0]
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1518 : BitVec 32 := 0#32
  let v1500 : BitVec 1 := Scalar.cmpi .ne v2 c0_i32_1518
  let v1501 : BitVec 32 := Scalar.extui v1500
  let c0_i32_1520 : BitVec 32 := 0#32
  let v1502 : BitVec 1 := Scalar.cmpi .ne v1501 c0_i32_1520
  v1502

def k0_off67 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off68 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1965 : BitVec 32 := 0#32
  let c0_i32_1966 : BitVec 32 := 0#32
  ![v2.toNat, 0, 0]
def k0_dev61 : Nat :=
  let c0_i32_1964 : BitVec 32 := 0#32
  let c0_i32_1962 : BitVec 32 := 0#32
  let c1_i32_1963 : BitVec 32 := 1#32
  let v1964 : BitVec 32 := Scalar.muli c0_i32_1962 c1_i32_1963
  let v1965 : BitVec 32 := Scalar.addi c0_i32_1964 v1964
  v1965.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1521 : BitVec 32 := 1#32
  let v1503 : BitVec 1 := Scalar.cmpi .ne v2 c1_i32_1521
  let v1504 : BitVec 32 := Scalar.extui v1503
  let c0_i32_1523 : BitVec 32 := 0#32
  let v1505 : BitVec 1 := Scalar.cmpi .ne v1504 c0_i32_1523
  v1505

def k0_off69 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off70 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1965 : BitVec 32 := 0#32
  let c0_i32_1966 : BitVec 32 := 0#32
  ![v2.toNat, 0, 0]
def k0_dev62 : Nat :=
  let c0_i32_1964 : BitVec 32 := 0#32
  let c1_i32_1962 : BitVec 32 := 1#32
  let c1_i32_1963 : BitVec 32 := 1#32
  let v1964 : BitVec 32 := Scalar.muli c1_i32_1962 c1_i32_1963
  let v1965 : BitVec 32 := Scalar.addi c0_i32_1964 v1964
  v1965.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1524 : BitVec 32 := 2#32
  let v1506 : BitVec 1 := Scalar.cmpi .ne v2 c2_i32_1524
  let v1507 : BitVec 32 := Scalar.extui v1506
  let c0_i32_1526 : BitVec 32 := 0#32
  let v1508 : BitVec 1 := Scalar.cmpi .ne v1507 c0_i32_1526
  v1508

def k0_off71 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off72 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1965 : BitVec 32 := 0#32
  let c0_i32_1966 : BitVec 32 := 0#32
  ![v2.toNat, 0, 0]
def k0_dev63 : Nat :=
  let c0_i32_1964 : BitVec 32 := 0#32
  let c2_i32_1962 : BitVec 32 := 2#32
  let c1_i32_1963 : BitVec 32 := 1#32
  let v1964 : BitVec 32 := Scalar.muli c2_i32_1962 c1_i32_1963
  let v1965 : BitVec 32 := Scalar.addi c0_i32_1964 v1964
  v1965.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1527 : BitVec 32 := 3#32
  let v1509 : BitVec 1 := Scalar.cmpi .ne v2 c3_i32_1527
  let v1510 : BitVec 32 := Scalar.extui v1509
  let c0_i32_1529 : BitVec 32 := 0#32
  let v1511 : BitVec 1 := Scalar.cmpi .ne v1510 c0_i32_1529
  v1511

def k0_off73 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off74 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1965 : BitVec 32 := 0#32
  let c0_i32_1966 : BitVec 32 := 0#32
  ![v2.toNat, 0, 0]
def k0_dev64 : Nat :=
  let c0_i32_1964 : BitVec 32 := 0#32
  let c3_i32_1962 : BitVec 32 := 3#32
  let c1_i32_1963 : BitVec 32 := 1#32
  let v1964 : BitVec 32 := Scalar.muli c3_i32_1962 c1_i32_1963
  let v1965 : BitVec 32 := Scalar.addi c0_i32_1964 v1964
  v1965.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1530 : BitVec 32 := 4#32
  let v1512 : BitVec 1 := Scalar.cmpi .ne v2 c4_i32_1530
  let v1513 : BitVec 32 := Scalar.extui v1512
  let c0_i32_1532 : BitVec 32 := 0#32
  let v1514 : BitVec 1 := Scalar.cmpi .ne v1513 c0_i32_1532
  v1514

def k0_off75 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off76 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1965 : BitVec 32 := 0#32
  let c0_i32_1966 : BitVec 32 := 0#32
  ![v2.toNat, 0, 0]
def k0_dev65 : Nat :=
  let c0_i32_1964 : BitVec 32 := 0#32
  let c4_i32_1962 : BitVec 32 := 4#32
  let c1_i32_1963 : BitVec 32 := 1#32
  let v1964 : BitVec 32 := Scalar.muli c4_i32_1962 c1_i32_1963
  let v1965 : BitVec 32 := Scalar.addi c0_i32_1964 v1964
  v1965.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1533 : BitVec 32 := 5#32
  let v1515 : BitVec 1 := Scalar.cmpi .ne v2 c5_i32_1533
  let v1516 : BitVec 32 := Scalar.extui v1515
  let c0_i32_1535 : BitVec 32 := 0#32
  let v1517 : BitVec 1 := Scalar.cmpi .ne v1516 c0_i32_1535
  v1517

def k0_off77 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off78 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1965 : BitVec 32 := 0#32
  let c0_i32_1966 : BitVec 32 := 0#32
  ![v2.toNat, 0, 0]
def k0_dev66 : Nat :=
  let c0_i32_1964 : BitVec 32 := 0#32
  let c5_i32_1962 : BitVec 32 := 5#32
  let c1_i32_1963 : BitVec 32 := 1#32
  let v1964 : BitVec 32 := Scalar.muli c5_i32_1962 c1_i32_1963
  let v1965 : BitVec 32 := Scalar.addi c0_i32_1964 v1964
  v1965.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1536 : BitVec 32 := 6#32
  let v1518 : BitVec 1 := Scalar.cmpi .ne v2 c6_i32_1536
  let v1519 : BitVec 32 := Scalar.extui v1518
  let c0_i32_1538 : BitVec 32 := 0#32
  let v1520 : BitVec 1 := Scalar.cmpi .ne v1519 c0_i32_1538
  v1520

def k0_off79 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off80 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1965 : BitVec 32 := 0#32
  let c0_i32_1966 : BitVec 32 := 0#32
  ![v2.toNat, 0, 0]
def k0_dev67 : Nat :=
  let c0_i32_1964 : BitVec 32 := 0#32
  let c6_i32_1962 : BitVec 32 := 6#32
  let c1_i32_1963 : BitVec 32 := 1#32
  let v1964 : BitVec 32 := Scalar.muli c6_i32_1962 c1_i32_1963
  let v1965 : BitVec 32 := Scalar.addi c0_i32_1964 v1964
  v1965.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1539 : BitVec 32 := 7#32
  let v1521 : BitVec 1 := Scalar.cmpi .ne v2 c7_i32_1539
  let v1522 : BitVec 32 := Scalar.extui v1521
  let c0_i32_1541 : BitVec 32 := 0#32
  let v1523 : BitVec 1 := Scalar.cmpi .ne v1522 c0_i32_1541
  v1523

def k0_off81 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off82 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1965 : BitVec 32 := 0#32
  let c0_i32_1966 : BitVec 32 := 0#32
  ![v2.toNat, 0, 0]
def k0_dev68 : Nat :=
  let c0_i32_1964 : BitVec 32 := 0#32
  let c7_i32_1962 : BitVec 32 := 7#32
  let c1_i32_1963 : BitVec 32 := 1#32
  let v1964 : BitVec 32 := Scalar.muli c7_i32_1962 c1_i32_1963
  let v1965 : BitVec 32 := Scalar.addi c0_i32_1964 v1964
  v1965.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1542 : BitVec 32 := 8#32
  let v1524 : BitVec 1 := Scalar.cmpi .ne v2 c8_i32_1542
  let v1525 : BitVec 32 := Scalar.extui v1524
  let c0_i32_1544 : BitVec 32 := 0#32
  let v1526 : BitVec 1 := Scalar.cmpi .ne v1525 c0_i32_1544
  v1526

def k0_off83 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off84 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1965 : BitVec 32 := 0#32
  let c0_i32_1966 : BitVec 32 := 0#32
  ![v2.toNat, 0, 0]
def k0_dev69 : Nat :=
  let c0_i32_1964 : BitVec 32 := 0#32
  let c8_i32_1962 : BitVec 32 := 8#32
  let c1_i32_1963 : BitVec 32 := 1#32
  let v1964 : BitVec 32 := Scalar.muli c8_i32_1962 c1_i32_1963
  let v1965 : BitVec 32 := Scalar.addi c0_i32_1964 v1964
  v1965.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1545 : BitVec 32 := 9#32
  let v1527 : BitVec 1 := Scalar.cmpi .ne v2 c9_i32_1545
  let v1528 : BitVec 32 := Scalar.extui v1527
  let c0_i32_1547 : BitVec 32 := 0#32
  let v1529 : BitVec 1 := Scalar.cmpi .ne v1528 c0_i32_1547
  v1529

def k0_off85 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off86 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1965 : BitVec 32 := 0#32
  let c0_i32_1966 : BitVec 32 := 0#32
  ![v2.toNat, 0, 0]
def k0_dev70 : Nat :=
  let c0_i32_1964 : BitVec 32 := 0#32
  let c9_i32_1962 : BitVec 32 := 9#32
  let c1_i32_1963 : BitVec 32 := 1#32
  let v1964 : BitVec 32 := Scalar.muli c9_i32_1962 c1_i32_1963
  let v1965 : BitVec 32 := Scalar.addi c0_i32_1964 v1964
  v1965.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1548 : BitVec 32 := 10#32
  let v1530 : BitVec 1 := Scalar.cmpi .ne v2 c10_i32_1548
  let v1531 : BitVec 32 := Scalar.extui v1530
  let c0_i32_1550 : BitVec 32 := 0#32
  let v1532 : BitVec 1 := Scalar.cmpi .ne v1531 c0_i32_1550
  v1532

def k0_off87 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off88 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1965 : BitVec 32 := 0#32
  let c0_i32_1966 : BitVec 32 := 0#32
  ![v2.toNat, 0, 0]
def k0_dev71 : Nat :=
  let c0_i32_1964 : BitVec 32 := 0#32
  let c10_i32_1962 : BitVec 32 := 10#32
  let c1_i32_1963 : BitVec 32 := 1#32
  let v1964 : BitVec 32 := Scalar.muli c10_i32_1962 c1_i32_1963
  let v1965 : BitVec 32 := Scalar.addi c0_i32_1964 v1964
  v1965.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1551 : BitVec 32 := 11#32
  let v1533 : BitVec 1 := Scalar.cmpi .ne v2 c11_i32_1551
  let v1534 : BitVec 32 := Scalar.extui v1533
  let c0_i32_1553 : BitVec 32 := 0#32
  let v1535 : BitVec 1 := Scalar.cmpi .ne v1534 c0_i32_1553
  v1535

def k0_off89 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off90 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1965 : BitVec 32 := 0#32
  let c0_i32_1966 : BitVec 32 := 0#32
  ![v2.toNat, 0, 0]
def k0_dev72 : Nat :=
  let c0_i32_1964 : BitVec 32 := 0#32
  let c11_i32_1962 : BitVec 32 := 11#32
  let c1_i32_1963 : BitVec 32 := 1#32
  let v1964 : BitVec 32 := Scalar.muli c11_i32_1962 c1_i32_1963
  let v1965 : BitVec 32 := Scalar.addi c0_i32_1964 v1964
  v1965.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1554 : BitVec 32 := 12#32
  let v1536 : BitVec 1 := Scalar.cmpi .ne v2 c12_i32_1554
  let v1537 : BitVec 32 := Scalar.extui v1536
  let c0_i32_1556 : BitVec 32 := 0#32
  let v1538 : BitVec 1 := Scalar.cmpi .ne v1537 c0_i32_1556
  v1538

def k0_off91 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off92 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1965 : BitVec 32 := 0#32
  let c0_i32_1966 : BitVec 32 := 0#32
  ![v2.toNat, 0, 0]
def k0_dev73 : Nat :=
  let c0_i32_1964 : BitVec 32 := 0#32
  let c12_i32_1962 : BitVec 32 := 12#32
  let c1_i32_1963 : BitVec 32 := 1#32
  let v1964 : BitVec 32 := Scalar.muli c12_i32_1962 c1_i32_1963
  let v1965 : BitVec 32 := Scalar.addi c0_i32_1964 v1964
  v1965.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1557 : BitVec 32 := 13#32
  let v1539 : BitVec 1 := Scalar.cmpi .ne v2 c13_i32_1557
  let v1540 : BitVec 32 := Scalar.extui v1539
  let c0_i32_1559 : BitVec 32 := 0#32
  let v1541 : BitVec 1 := Scalar.cmpi .ne v1540 c0_i32_1559
  v1541

def k0_off93 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off94 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1965 : BitVec 32 := 0#32
  let c0_i32_1966 : BitVec 32 := 0#32
  ![v2.toNat, 0, 0]
def k0_dev74 : Nat :=
  let c0_i32_1964 : BitVec 32 := 0#32
  let c13_i32_1962 : BitVec 32 := 13#32
  let c1_i32_1963 : BitVec 32 := 1#32
  let v1964 : BitVec 32 := Scalar.muli c13_i32_1962 c1_i32_1963
  let v1965 : BitVec 32 := Scalar.addi c0_i32_1964 v1964
  v1965.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1560 : BitVec 32 := 14#32
  let v1542 : BitVec 1 := Scalar.cmpi .ne v2 c14_i32_1560
  let v1543 : BitVec 32 := Scalar.extui v1542
  let c0_i32_1562 : BitVec 32 := 0#32
  let v1544 : BitVec 1 := Scalar.cmpi .ne v1543 c0_i32_1562
  v1544

def k0_off95 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off96 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1965 : BitVec 32 := 0#32
  let c0_i32_1966 : BitVec 32 := 0#32
  ![v2.toNat, 0, 0]
def k0_dev75 : Nat :=
  let c0_i32_1964 : BitVec 32 := 0#32
  let c14_i32_1962 : BitVec 32 := 14#32
  let c1_i32_1963 : BitVec 32 := 1#32
  let v1964 : BitVec 32 := Scalar.muli c14_i32_1962 c1_i32_1963
  let v1965 : BitVec 32 := Scalar.addi c0_i32_1964 v1964
  v1965.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1563 : BitVec 32 := 15#32
  let v1545 : BitVec 1 := Scalar.cmpi .ne v2 c15_i32_1563
  let v1546 : BitVec 32 := Scalar.extui v1545
  let c0_i32_1565 : BitVec 32 := 0#32
  let v1547 : BitVec 1 := Scalar.cmpi .ne v1546 c0_i32_1565
  v1547

def k0_off97 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off98 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1965 : BitVec 32 := 0#32
  let c0_i32_1966 : BitVec 32 := 0#32
  ![v2.toNat, 0, 0]
def k0_dev76 : Nat :=
  let c0_i32_1964 : BitVec 32 := 0#32
  let c15_i32_1962 : BitVec 32 := 15#32
  let c1_i32_1963 : BitVec 32 := 1#32
  let v1964 : BitVec 32 := Scalar.muli c15_i32_1962 c1_i32_1963
  let v1965 : BitVec 32 := Scalar.addi c0_i32_1964 v1964
  v1965.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1566 : BitVec 32 := 16#32
  let v1548 : BitVec 1 := Scalar.cmpi .ne v2 c16_i32_1566
  let v1549 : BitVec 32 := Scalar.extui v1548
  let c0_i32_1568 : BitVec 32 := 0#32
  let v1550 : BitVec 1 := Scalar.cmpi .ne v1549 c0_i32_1568
  v1550

def k0_off99 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off100 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1965 : BitVec 32 := 0#32
  let c0_i32_1966 : BitVec 32 := 0#32
  ![v2.toNat, 0, 0]
def k0_dev77 : Nat :=
  let c0_i32_1964 : BitVec 32 := 0#32
  let c16_i32_1962 : BitVec 32 := 16#32
  let c1_i32_1963 : BitVec 32 := 1#32
  let v1964 : BitVec 32 := Scalar.muli c16_i32_1962 c1_i32_1963
  let v1965 : BitVec 32 := Scalar.addi c0_i32_1964 v1964
  v1965.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v1551 : BitVec 1 := Scalar.cmpi .ne v2 c17_i32
  let v1552 : BitVec 32 := Scalar.extui v1551
  let c0_i32_1570 : BitVec 32 := 0#32
  let v1553 : BitVec 1 := Scalar.cmpi .ne v1552 c0_i32_1570
  v1553

def k0_off101 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off102 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1965 : BitVec 32 := 0#32
  let c0_i32_1966 : BitVec 32 := 0#32
  ![v2.toNat, 0, 0]
def k0_dev78 : Nat :=
  let c0_i32_1964 : BitVec 32 := 0#32
  let c17_i32_1962 : BitVec 32 := 17#32
  let c1_i32_1963 : BitVec 32 := 1#32
  let v1964 : BitVec 32 := Scalar.muli c17_i32_1962 c1_i32_1963
  let v1965 : BitVec 32 := Scalar.addi c0_i32_1964 v1964
  v1965.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v1554 : BitVec 1 := Scalar.cmpi .ne v2 c18_i32
  let v1555 : BitVec 32 := Scalar.extui v1554
  let c0_i32_1572 : BitVec 32 := 0#32
  let v1556 : BitVec 1 := Scalar.cmpi .ne v1555 c0_i32_1572
  v1556

def k0_off103 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off104 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1965 : BitVec 32 := 0#32
  let c0_i32_1966 : BitVec 32 := 0#32
  ![v2.toNat, 0, 0]
def k0_dev79 : Nat :=
  let c0_i32_1964 : BitVec 32 := 0#32
  let c18_i32_1962 : BitVec 32 := 18#32
  let c1_i32_1963 : BitVec 32 := 1#32
  let v1964 : BitVec 32 := Scalar.muli c18_i32_1962 c1_i32_1963
  let v1965 : BitVec 32 := Scalar.addi c0_i32_1964 v1964
  v1965.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v1557 : BitVec 1 := Scalar.cmpi .ne v2 c19_i32
  let v1558 : BitVec 32 := Scalar.extui v1557
  let c0_i32_1574 : BitVec 32 := 0#32
  let v1559 : BitVec 1 := Scalar.cmpi .ne v1558 c0_i32_1574
  v1559

def k0_off105 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off106 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1965 : BitVec 32 := 0#32
  let c0_i32_1966 : BitVec 32 := 0#32
  ![v2.toNat, 0, 0]
def k0_dev80 : Nat :=
  let c0_i32_1964 : BitVec 32 := 0#32
  let c19_i32_1962 : BitVec 32 := 19#32
  let c1_i32_1963 : BitVec 32 := 1#32
  let v1964 : BitVec 32 := Scalar.muli c19_i32_1962 c1_i32_1963
  let v1965 : BitVec 32 := Scalar.addi c0_i32_1964 v1964
  v1965.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v1560 : BitVec 1 := Scalar.cmpi .ne v2 c20_i32
  let v1561 : BitVec 32 := Scalar.extui v1560
  let c0_i32_1576 : BitVec 32 := 0#32
  let v1562 : BitVec 1 := Scalar.cmpi .ne v1561 c0_i32_1576
  v1562

def k0_off107 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off108 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1965 : BitVec 32 := 0#32
  let c0_i32_1966 : BitVec 32 := 0#32
  ![v2.toNat, 0, 0]
def k0_dev81 : Nat :=
  let c0_i32_1964 : BitVec 32 := 0#32
  let c20_i32_1962 : BitVec 32 := 20#32
  let c1_i32_1963 : BitVec 32 := 1#32
  let v1964 : BitVec 32 := Scalar.muli c20_i32_1962 c1_i32_1963
  let v1965 : BitVec 32 := Scalar.addi c0_i32_1964 v1964
  v1965.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v1563 : BitVec 1 := Scalar.cmpi .ne v2 c21_i32
  let v1564 : BitVec 32 := Scalar.extui v1563
  let c0_i32_1578 : BitVec 32 := 0#32
  let v1565 : BitVec 1 := Scalar.cmpi .ne v1564 c0_i32_1578
  v1565

def k0_off109 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off110 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1965 : BitVec 32 := 0#32
  let c0_i32_1966 : BitVec 32 := 0#32
  ![v2.toNat, 0, 0]
def k0_dev82 : Nat :=
  let c0_i32_1964 : BitVec 32 := 0#32
  let c21_i32_1962 : BitVec 32 := 21#32
  let c1_i32_1963 : BitVec 32 := 1#32
  let v1964 : BitVec 32 := Scalar.muli c21_i32_1962 c1_i32_1963
  let v1965 : BitVec 32 := Scalar.addi c0_i32_1964 v1964
  v1965.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v1566 : BitVec 1 := Scalar.cmpi .ne v2 c22_i32
  let v1567 : BitVec 32 := Scalar.extui v1566
  let c0_i32_1580 : BitVec 32 := 0#32
  let v1568 : BitVec 1 := Scalar.cmpi .ne v1567 c0_i32_1580
  v1568

def k0_off111 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off112 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1965 : BitVec 32 := 0#32
  let c0_i32_1966 : BitVec 32 := 0#32
  ![v2.toNat, 0, 0]
def k0_dev83 : Nat :=
  let c0_i32_1964 : BitVec 32 := 0#32
  let c22_i32_1962 : BitVec 32 := 22#32
  let c1_i32_1963 : BitVec 32 := 1#32
  let v1964 : BitVec 32 := Scalar.muli c22_i32_1962 c1_i32_1963
  let v1965 : BitVec 32 := Scalar.addi c0_i32_1964 v1964
  v1965.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v1569 : BitVec 1 := Scalar.cmpi .ne v2 c23_i32
  let v1570 : BitVec 32 := Scalar.extui v1569
  let c0_i32_1582 : BitVec 32 := 0#32
  let v1571 : BitVec 1 := Scalar.cmpi .ne v1570 c0_i32_1582
  v1571

def k0_off113 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off114 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1965 : BitVec 32 := 0#32
  let c0_i32_1966 : BitVec 32 := 0#32
  ![v2.toNat, 0, 0]
def k0_dev84 : Nat :=
  let c0_i32_1964 : BitVec 32 := 0#32
  let c23_i32_1962 : BitVec 32 := 23#32
  let c1_i32_1963 : BitVec 32 := 1#32
  let v1964 : BitVec 32 := Scalar.muli c23_i32_1962 c1_i32_1963
  let v1965 : BitVec 32 := Scalar.addi c0_i32_1964 v1964
  v1965.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v1572 : BitVec 1 := Scalar.cmpi .ne v2 c24_i32
  let v1573 : BitVec 32 := Scalar.extui v1572
  let c0_i32_1584 : BitVec 32 := 0#32
  let v1574 : BitVec 1 := Scalar.cmpi .ne v1573 c0_i32_1584
  v1574

def k0_off115 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off116 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1965 : BitVec 32 := 0#32
  let c0_i32_1966 : BitVec 32 := 0#32
  ![v2.toNat, 0, 0]
def k0_dev85 : Nat :=
  let c0_i32_1964 : BitVec 32 := 0#32
  let c24_i32_1962 : BitVec 32 := 24#32
  let c1_i32_1963 : BitVec 32 := 1#32
  let v1964 : BitVec 32 := Scalar.muli c24_i32_1962 c1_i32_1963
  let v1965 : BitVec 32 := Scalar.addi c0_i32_1964 v1964
  v1965.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v1575 : BitVec 1 := Scalar.cmpi .ne v2 c25_i32
  let v1576 : BitVec 32 := Scalar.extui v1575
  let c0_i32_1586 : BitVec 32 := 0#32
  let v1577 : BitVec 1 := Scalar.cmpi .ne v1576 c0_i32_1586
  v1577

def k0_off117 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off118 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1965 : BitVec 32 := 0#32
  let c0_i32_1966 : BitVec 32 := 0#32
  ![v2.toNat, 0, 0]
def k0_dev86 : Nat :=
  let c0_i32_1964 : BitVec 32 := 0#32
  let c25_i32_1962 : BitVec 32 := 25#32
  let c1_i32_1963 : BitVec 32 := 1#32
  let v1964 : BitVec 32 := Scalar.muli c25_i32_1962 c1_i32_1963
  let v1965 : BitVec 32 := Scalar.addi c0_i32_1964 v1964
  v1965.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v1578 : BitVec 1 := Scalar.cmpi .ne v2 c26_i32
  let v1579 : BitVec 32 := Scalar.extui v1578
  let c0_i32_1588 : BitVec 32 := 0#32
  let v1580 : BitVec 1 := Scalar.cmpi .ne v1579 c0_i32_1588
  v1580

def k0_off119 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off120 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1965 : BitVec 32 := 0#32
  let c0_i32_1966 : BitVec 32 := 0#32
  ![v2.toNat, 0, 0]
def k0_dev87 : Nat :=
  let c0_i32_1964 : BitVec 32 := 0#32
  let c26_i32_1962 : BitVec 32 := 26#32
  let c1_i32_1963 : BitVec 32 := 1#32
  let v1964 : BitVec 32 := Scalar.muli c26_i32_1962 c1_i32_1963
  let v1965 : BitVec 32 := Scalar.addi c0_i32_1964 v1964
  v1965.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v1581 : BitVec 1 := Scalar.cmpi .ne v2 c27_i32
  let v1582 : BitVec 32 := Scalar.extui v1581
  let c0_i32_1590 : BitVec 32 := 0#32
  let v1583 : BitVec 1 := Scalar.cmpi .ne v1582 c0_i32_1590
  v1583

def k0_off121 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off122 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1965 : BitVec 32 := 0#32
  let c0_i32_1966 : BitVec 32 := 0#32
  ![v2.toNat, 0, 0]
def k0_dev88 : Nat :=
  let c0_i32_1964 : BitVec 32 := 0#32
  let c27_i32_1962 : BitVec 32 := 27#32
  let c1_i32_1963 : BitVec 32 := 1#32
  let v1964 : BitVec 32 := Scalar.muli c27_i32_1962 c1_i32_1963
  let v1965 : BitVec 32 := Scalar.addi c0_i32_1964 v1964
  v1965.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v1584 : BitVec 1 := Scalar.cmpi .ne v2 c28_i32
  let v1585 : BitVec 32 := Scalar.extui v1584
  let c0_i32_1592 : BitVec 32 := 0#32
  let v1586 : BitVec 1 := Scalar.cmpi .ne v1585 c0_i32_1592
  v1586

def k0_off123 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off124 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1965 : BitVec 32 := 0#32
  let c0_i32_1966 : BitVec 32 := 0#32
  ![v2.toNat, 0, 0]
def k0_dev89 : Nat :=
  let c0_i32_1964 : BitVec 32 := 0#32
  let c28_i32_1962 : BitVec 32 := 28#32
  let c1_i32_1963 : BitVec 32 := 1#32
  let v1964 : BitVec 32 := Scalar.muli c28_i32_1962 c1_i32_1963
  let v1965 : BitVec 32 := Scalar.addi c0_i32_1964 v1964
  v1965.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v1587 : BitVec 1 := Scalar.cmpi .ne v2 c29_i32
  let v1588 : BitVec 32 := Scalar.extui v1587
  let c0_i32_1594 : BitVec 32 := 0#32
  let v1589 : BitVec 1 := Scalar.cmpi .ne v1588 c0_i32_1594
  v1589

def k0_off125 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off126 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1965 : BitVec 32 := 0#32
  let c0_i32_1966 : BitVec 32 := 0#32
  ![v2.toNat, 0, 0]
def k0_dev90 : Nat :=
  let c0_i32_1964 : BitVec 32 := 0#32
  let c29_i32_1962 : BitVec 32 := 29#32
  let c1_i32_1963 : BitVec 32 := 1#32
  let v1964 : BitVec 32 := Scalar.muli c29_i32_1962 c1_i32_1963
  let v1965 : BitVec 32 := Scalar.addi c0_i32_1964 v1964
  v1965.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v1590 : BitVec 1 := Scalar.cmpi .ne v2 c30_i32
  let v1591 : BitVec 32 := Scalar.extui v1590
  let c0_i32_1596 : BitVec 32 := 0#32
  let v1592 : BitVec 1 := Scalar.cmpi .ne v1591 c0_i32_1596
  v1592

def k0_off127 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off128 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1965 : BitVec 32 := 0#32
  let c0_i32_1966 : BitVec 32 := 0#32
  ![v2.toNat, 0, 0]
def k0_dev91 : Nat :=
  let c0_i32_1964 : BitVec 32 := 0#32
  let c30_i32_1962 : BitVec 32 := 30#32
  let c1_i32_1963 : BitVec 32 := 1#32
  let v1964 : BitVec 32 := Scalar.muli c30_i32_1962 c1_i32_1963
  let v1965 : BitVec 32 := Scalar.addi c0_i32_1964 v1964
  v1965.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v1593 : BitVec 1 := Scalar.cmpi .ne v2 c31_i32
  let v1594 : BitVec 32 := Scalar.extui v1593
  let c0_i32_1598 : BitVec 32 := 0#32
  let v1595 : BitVec 1 := Scalar.cmpi .ne v1594 c0_i32_1598
  v1595

def k0_off129 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off130 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1965 : BitVec 32 := 0#32
  let c0_i32_1966 : BitVec 32 := 0#32
  ![v2.toNat, 0, 0]
def k0_dev92 : Nat :=
  let c0_i32_1964 : BitVec 32 := 0#32
  let c31_i32_1962 : BitVec 32 := 31#32
  let c1_i32_1963 : BitVec 32 := 1#32
  let v1964 : BitVec 32 := Scalar.muli c31_i32_1962 c1_i32_1963
  let v1965 : BitVec 32 := Scalar.addi c0_i32_1964 v1964
  v1965.toNat
def k0_cond65 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1857 : BitVec 32 := 0#32
  let v1852 : BitVec 1 := Scalar.cmpi .ne v2 c0_i32_1857
  let v1853 : BitVec 32 := Scalar.extui v1852
  let c0_i32_1859 : BitVec 32 := 0#32
  let v1854 : BitVec 1 := Scalar.cmpi .ne v1853 c0_i32_1859
  v1854

def k0_off131 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1964 : BitVec 32 := 0#32
  let c0_i32_1965 : BitVec 32 := 0#32
  ![v2.toNat, 0, 0]
def k0_cond66 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1860 : BitVec 32 := 1#32
  let v1855 : BitVec 1 := Scalar.cmpi .ne v2 c1_i32_1860
  let v1856 : BitVec 32 := Scalar.extui v1855
  let c0_i32_1862 : BitVec 32 := 0#32
  let v1857 : BitVec 1 := Scalar.cmpi .ne v1856 c0_i32_1862
  v1857

def k0_off132 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1964 : BitVec 32 := 0#32
  let c0_i32_1965 : BitVec 32 := 0#32
  ![v2.toNat, 0, 0]
def k0_cond67 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1863 : BitVec 32 := 2#32
  let v1858 : BitVec 1 := Scalar.cmpi .ne v2 c2_i32_1863
  let v1859 : BitVec 32 := Scalar.extui v1858
  let c0_i32_1865 : BitVec 32 := 0#32
  let v1860 : BitVec 1 := Scalar.cmpi .ne v1859 c0_i32_1865
  v1860

def k0_off133 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1964 : BitVec 32 := 0#32
  let c0_i32_1965 : BitVec 32 := 0#32
  ![v2.toNat, 0, 0]
def k0_cond68 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1866 : BitVec 32 := 3#32
  let v1861 : BitVec 1 := Scalar.cmpi .ne v2 c3_i32_1866
  let v1862 : BitVec 32 := Scalar.extui v1861
  let c0_i32_1868 : BitVec 32 := 0#32
  let v1863 : BitVec 1 := Scalar.cmpi .ne v1862 c0_i32_1868
  v1863

def k0_off134 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1964 : BitVec 32 := 0#32
  let c0_i32_1965 : BitVec 32 := 0#32
  ![v2.toNat, 0, 0]
def k0_cond69 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1869 : BitVec 32 := 4#32
  let v1864 : BitVec 1 := Scalar.cmpi .ne v2 c4_i32_1869
  let v1865 : BitVec 32 := Scalar.extui v1864
  let c0_i32_1871 : BitVec 32 := 0#32
  let v1866 : BitVec 1 := Scalar.cmpi .ne v1865 c0_i32_1871
  v1866

def k0_off135 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1964 : BitVec 32 := 0#32
  let c0_i32_1965 : BitVec 32 := 0#32
  ![v2.toNat, 0, 0]
def k0_cond70 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1872 : BitVec 32 := 5#32
  let v1867 : BitVec 1 := Scalar.cmpi .ne v2 c5_i32_1872
  let v1868 : BitVec 32 := Scalar.extui v1867
  let c0_i32_1874 : BitVec 32 := 0#32
  let v1869 : BitVec 1 := Scalar.cmpi .ne v1868 c0_i32_1874
  v1869

def k0_off136 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1964 : BitVec 32 := 0#32
  let c0_i32_1965 : BitVec 32 := 0#32
  ![v2.toNat, 0, 0]
def k0_cond71 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1875 : BitVec 32 := 6#32
  let v1870 : BitVec 1 := Scalar.cmpi .ne v2 c6_i32_1875
  let v1871 : BitVec 32 := Scalar.extui v1870
  let c0_i32_1877 : BitVec 32 := 0#32
  let v1872 : BitVec 1 := Scalar.cmpi .ne v1871 c0_i32_1877
  v1872

def k0_off137 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1964 : BitVec 32 := 0#32
  let c0_i32_1965 : BitVec 32 := 0#32
  ![v2.toNat, 0, 0]
def k0_cond72 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1878 : BitVec 32 := 7#32
  let v1873 : BitVec 1 := Scalar.cmpi .ne v2 c7_i32_1878
  let v1874 : BitVec 32 := Scalar.extui v1873
  let c0_i32_1880 : BitVec 32 := 0#32
  let v1875 : BitVec 1 := Scalar.cmpi .ne v1874 c0_i32_1880
  v1875

def k0_off138 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1964 : BitVec 32 := 0#32
  let c0_i32_1965 : BitVec 32 := 0#32
  ![v2.toNat, 0, 0]
def k0_cond73 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1881 : BitVec 32 := 8#32
  let v1876 : BitVec 1 := Scalar.cmpi .ne v2 c8_i32_1881
  let v1877 : BitVec 32 := Scalar.extui v1876
  let c0_i32_1883 : BitVec 32 := 0#32
  let v1878 : BitVec 1 := Scalar.cmpi .ne v1877 c0_i32_1883
  v1878

def k0_off139 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1964 : BitVec 32 := 0#32
  let c0_i32_1965 : BitVec 32 := 0#32
  ![v2.toNat, 0, 0]
def k0_cond74 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1884 : BitVec 32 := 9#32
  let v1879 : BitVec 1 := Scalar.cmpi .ne v2 c9_i32_1884
  let v1880 : BitVec 32 := Scalar.extui v1879
  let c0_i32_1886 : BitVec 32 := 0#32
  let v1881 : BitVec 1 := Scalar.cmpi .ne v1880 c0_i32_1886
  v1881

def k0_off140 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1964 : BitVec 32 := 0#32
  let c0_i32_1965 : BitVec 32 := 0#32
  ![v2.toNat, 0, 0]
def k0_cond75 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1887 : BitVec 32 := 10#32
  let v1882 : BitVec 1 := Scalar.cmpi .ne v2 c10_i32_1887
  let v1883 : BitVec 32 := Scalar.extui v1882
  let c0_i32_1889 : BitVec 32 := 0#32
  let v1884 : BitVec 1 := Scalar.cmpi .ne v1883 c0_i32_1889
  v1884

def k0_off141 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1964 : BitVec 32 := 0#32
  let c0_i32_1965 : BitVec 32 := 0#32
  ![v2.toNat, 0, 0]
def k0_cond76 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1890 : BitVec 32 := 11#32
  let v1885 : BitVec 1 := Scalar.cmpi .ne v2 c11_i32_1890
  let v1886 : BitVec 32 := Scalar.extui v1885
  let c0_i32_1892 : BitVec 32 := 0#32
  let v1887 : BitVec 1 := Scalar.cmpi .ne v1886 c0_i32_1892
  v1887

def k0_off142 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1964 : BitVec 32 := 0#32
  let c0_i32_1965 : BitVec 32 := 0#32
  ![v2.toNat, 0, 0]
def k0_cond77 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1893 : BitVec 32 := 12#32
  let v1888 : BitVec 1 := Scalar.cmpi .ne v2 c12_i32_1893
  let v1889 : BitVec 32 := Scalar.extui v1888
  let c0_i32_1895 : BitVec 32 := 0#32
  let v1890 : BitVec 1 := Scalar.cmpi .ne v1889 c0_i32_1895
  v1890

def k0_off143 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1964 : BitVec 32 := 0#32
  let c0_i32_1965 : BitVec 32 := 0#32
  ![v2.toNat, 0, 0]
def k0_cond78 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1896 : BitVec 32 := 13#32
  let v1891 : BitVec 1 := Scalar.cmpi .ne v2 c13_i32_1896
  let v1892 : BitVec 32 := Scalar.extui v1891
  let c0_i32_1898 : BitVec 32 := 0#32
  let v1893 : BitVec 1 := Scalar.cmpi .ne v1892 c0_i32_1898
  v1893

def k0_off144 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1964 : BitVec 32 := 0#32
  let c0_i32_1965 : BitVec 32 := 0#32
  ![v2.toNat, 0, 0]
def k0_cond79 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1899 : BitVec 32 := 14#32
  let v1894 : BitVec 1 := Scalar.cmpi .ne v2 c14_i32_1899
  let v1895 : BitVec 32 := Scalar.extui v1894
  let c0_i32_1901 : BitVec 32 := 0#32
  let v1896 : BitVec 1 := Scalar.cmpi .ne v1895 c0_i32_1901
  v1896

def k0_off145 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1964 : BitVec 32 := 0#32
  let c0_i32_1965 : BitVec 32 := 0#32
  ![v2.toNat, 0, 0]
def k0_cond80 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1902 : BitVec 32 := 15#32
  let v1897 : BitVec 1 := Scalar.cmpi .ne v2 c15_i32_1902
  let v1898 : BitVec 32 := Scalar.extui v1897
  let c0_i32_1904 : BitVec 32 := 0#32
  let v1899 : BitVec 1 := Scalar.cmpi .ne v1898 c0_i32_1904
  v1899

def k0_off146 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1964 : BitVec 32 := 0#32
  let c0_i32_1965 : BitVec 32 := 0#32
  ![v2.toNat, 0, 0]
def k0_cond81 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1905 : BitVec 32 := 16#32
  let v1900 : BitVec 1 := Scalar.cmpi .ne v2 c16_i32_1905
  let v1901 : BitVec 32 := Scalar.extui v1900
  let c0_i32_1907 : BitVec 32 := 0#32
  let v1902 : BitVec 1 := Scalar.cmpi .ne v1901 c0_i32_1907
  v1902

def k0_off147 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1964 : BitVec 32 := 0#32
  let c0_i32_1965 : BitVec 32 := 0#32
  ![v2.toNat, 0, 0]
def k0_cond82 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1908 : BitVec 32 := 17#32
  let v1903 : BitVec 1 := Scalar.cmpi .ne v2 c17_i32_1908
  let v1904 : BitVec 32 := Scalar.extui v1903
  let c0_i32_1910 : BitVec 32 := 0#32
  let v1905 : BitVec 1 := Scalar.cmpi .ne v1904 c0_i32_1910
  v1905

def k0_off148 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1964 : BitVec 32 := 0#32
  let c0_i32_1965 : BitVec 32 := 0#32
  ![v2.toNat, 0, 0]
def k0_cond83 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1911 : BitVec 32 := 18#32
  let v1906 : BitVec 1 := Scalar.cmpi .ne v2 c18_i32_1911
  let v1907 : BitVec 32 := Scalar.extui v1906
  let c0_i32_1913 : BitVec 32 := 0#32
  let v1908 : BitVec 1 := Scalar.cmpi .ne v1907 c0_i32_1913
  v1908

def k0_off149 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1964 : BitVec 32 := 0#32
  let c0_i32_1965 : BitVec 32 := 0#32
  ![v2.toNat, 0, 0]
def k0_cond84 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1914 : BitVec 32 := 19#32
  let v1909 : BitVec 1 := Scalar.cmpi .ne v2 c19_i32_1914
  let v1910 : BitVec 32 := Scalar.extui v1909
  let c0_i32_1916 : BitVec 32 := 0#32
  let v1911 : BitVec 1 := Scalar.cmpi .ne v1910 c0_i32_1916
  v1911

def k0_off150 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1964 : BitVec 32 := 0#32
  let c0_i32_1965 : BitVec 32 := 0#32
  ![v2.toNat, 0, 0]
def k0_cond85 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1917 : BitVec 32 := 20#32
  let v1912 : BitVec 1 := Scalar.cmpi .ne v2 c20_i32_1917
  let v1913 : BitVec 32 := Scalar.extui v1912
  let c0_i32_1919 : BitVec 32 := 0#32
  let v1914 : BitVec 1 := Scalar.cmpi .ne v1913 c0_i32_1919
  v1914

def k0_off151 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1964 : BitVec 32 := 0#32
  let c0_i32_1965 : BitVec 32 := 0#32
  ![v2.toNat, 0, 0]
def k0_cond86 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1920 : BitVec 32 := 21#32
  let v1915 : BitVec 1 := Scalar.cmpi .ne v2 c21_i32_1920
  let v1916 : BitVec 32 := Scalar.extui v1915
  let c0_i32_1922 : BitVec 32 := 0#32
  let v1917 : BitVec 1 := Scalar.cmpi .ne v1916 c0_i32_1922
  v1917

def k0_off152 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1964 : BitVec 32 := 0#32
  let c0_i32_1965 : BitVec 32 := 0#32
  ![v2.toNat, 0, 0]
def k0_cond87 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1923 : BitVec 32 := 22#32
  let v1918 : BitVec 1 := Scalar.cmpi .ne v2 c22_i32_1923
  let v1919 : BitVec 32 := Scalar.extui v1918
  let c0_i32_1925 : BitVec 32 := 0#32
  let v1920 : BitVec 1 := Scalar.cmpi .ne v1919 c0_i32_1925
  v1920

def k0_off153 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1964 : BitVec 32 := 0#32
  let c0_i32_1965 : BitVec 32 := 0#32
  ![v2.toNat, 0, 0]
def k0_cond88 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1926 : BitVec 32 := 23#32
  let v1921 : BitVec 1 := Scalar.cmpi .ne v2 c23_i32_1926
  let v1922 : BitVec 32 := Scalar.extui v1921
  let c0_i32_1928 : BitVec 32 := 0#32
  let v1923 : BitVec 1 := Scalar.cmpi .ne v1922 c0_i32_1928
  v1923

def k0_off154 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1964 : BitVec 32 := 0#32
  let c0_i32_1965 : BitVec 32 := 0#32
  ![v2.toNat, 0, 0]
def k0_cond89 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1929 : BitVec 32 := 24#32
  let v1924 : BitVec 1 := Scalar.cmpi .ne v2 c24_i32_1929
  let v1925 : BitVec 32 := Scalar.extui v1924
  let c0_i32_1931 : BitVec 32 := 0#32
  let v1926 : BitVec 1 := Scalar.cmpi .ne v1925 c0_i32_1931
  v1926

def k0_off155 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1964 : BitVec 32 := 0#32
  let c0_i32_1965 : BitVec 32 := 0#32
  ![v2.toNat, 0, 0]
def k0_cond90 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1932 : BitVec 32 := 25#32
  let v1927 : BitVec 1 := Scalar.cmpi .ne v2 c25_i32_1932
  let v1928 : BitVec 32 := Scalar.extui v1927
  let c0_i32_1934 : BitVec 32 := 0#32
  let v1929 : BitVec 1 := Scalar.cmpi .ne v1928 c0_i32_1934
  v1929

def k0_off156 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1964 : BitVec 32 := 0#32
  let c0_i32_1965 : BitVec 32 := 0#32
  ![v2.toNat, 0, 0]
def k0_cond91 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1935 : BitVec 32 := 26#32
  let v1930 : BitVec 1 := Scalar.cmpi .ne v2 c26_i32_1935
  let v1931 : BitVec 32 := Scalar.extui v1930
  let c0_i32_1937 : BitVec 32 := 0#32
  let v1932 : BitVec 1 := Scalar.cmpi .ne v1931 c0_i32_1937
  v1932

def k0_off157 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1964 : BitVec 32 := 0#32
  let c0_i32_1965 : BitVec 32 := 0#32
  ![v2.toNat, 0, 0]
def k0_cond92 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1938 : BitVec 32 := 27#32
  let v1933 : BitVec 1 := Scalar.cmpi .ne v2 c27_i32_1938
  let v1934 : BitVec 32 := Scalar.extui v1933
  let c0_i32_1940 : BitVec 32 := 0#32
  let v1935 : BitVec 1 := Scalar.cmpi .ne v1934 c0_i32_1940
  v1935

def k0_off158 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1964 : BitVec 32 := 0#32
  let c0_i32_1965 : BitVec 32 := 0#32
  ![v2.toNat, 0, 0]
def k0_cond93 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1941 : BitVec 32 := 28#32
  let v1936 : BitVec 1 := Scalar.cmpi .ne v2 c28_i32_1941
  let v1937 : BitVec 32 := Scalar.extui v1936
  let c0_i32_1943 : BitVec 32 := 0#32
  let v1938 : BitVec 1 := Scalar.cmpi .ne v1937 c0_i32_1943
  v1938

def k0_off159 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1964 : BitVec 32 := 0#32
  let c0_i32_1965 : BitVec 32 := 0#32
  ![v2.toNat, 0, 0]
def k0_cond94 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1944 : BitVec 32 := 29#32
  let v1939 : BitVec 1 := Scalar.cmpi .ne v2 c29_i32_1944
  let v1940 : BitVec 32 := Scalar.extui v1939
  let c0_i32_1946 : BitVec 32 := 0#32
  let v1941 : BitVec 1 := Scalar.cmpi .ne v1940 c0_i32_1946
  v1941

def k0_off160 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1964 : BitVec 32 := 0#32
  let c0_i32_1965 : BitVec 32 := 0#32
  ![v2.toNat, 0, 0]
def k0_cond95 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1947 : BitVec 32 := 30#32
  let v1942 : BitVec 1 := Scalar.cmpi .ne v2 c30_i32_1947
  let v1943 : BitVec 32 := Scalar.extui v1942
  let c0_i32_1949 : BitVec 32 := 0#32
  let v1944 : BitVec 1 := Scalar.cmpi .ne v1943 c0_i32_1949
  v1944

def k0_off161 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1964 : BitVec 32 := 0#32
  let c0_i32_1965 : BitVec 32 := 0#32
  ![v2.toNat, 0, 0]
def k0_cond96 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1950 : BitVec 32 := 31#32
  let v1945 : BitVec 1 := Scalar.cmpi .ne v2 c31_i32_1950
  let v1946 : BitVec 32 := Scalar.extui v1945
  let c0_i32_1952 : BitVec 32 := 0#32
  let v1947 : BitVec 1 := Scalar.cmpi .ne v1946 c0_i32_1952
  v1947

def k0_off162 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1964 : BitVec 32 := 0#32
  let c0_i32_1965 : BitVec 32 := 0#32
  ![v2.toNat, 0, 0]
abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S32 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S32 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩
abbrev S1x1 : Shape := ⟨2, ![1, 1]⟩

abbrev nBuf : Space → Nat
  | .hbm => 22
  | .vmem => 3
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x4096, .f32⟩
  | .hbm, ⟨3, _⟩ => ⟨S4096x8192, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S_, .f32⟩
  | .hbm, ⟨18, _⟩ => ⟨S4096x8192, .f32⟩
  | .hbm, ⟨19, _⟩ => ⟨S4096x8192, .f32⟩
  | .hbm, ⟨20, _⟩ => ⟨S1x1, .f32⟩
  | .hbm, ⟨21, _⟩ => ⟨S4096x8192, .f32⟩
  | .local _ .vmem, ⟨0, _⟩ => ⟨S4096x8192, .f32⟩
  | .local _ .vmem, ⟨1, _⟩ => ⟨S1x1, .f32⟩
  | .local _ .vmem, ⟨2, _⟩ => ⟨S4096x8192, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Prog.lean ====
module

public import proofs.«01_k».proof.Proof.Gen.KernelIdeal.Skeleton
public import Mathlib.Tactic.IntervalCases

@[expose] public section

/-!
# The kernel's body as a structured program

The printed body lists some eight hundred operations in a row. Here they are grouped as the source groups them: the ring's
hops, each a few steps in each of two directions, and the three loops of the exchange of maxima. The printed body is that
program (`body_eq`).
-/

namespace Cert.KernelIdeal

open Idealize.ShloMosaic Idealize.SL.Sem Cert.KernelIdeal.Gen

variable {F : FTy → Type} [FloatOps F]

/-! ## Values -/

/-- A device's share of one block of rows of the product: a block of its columns of `x` times its rows of `w`. -/
noncomputable def part (x : Vec F S128x128 .bf16) (w : Vec F S128x8192 .bf16) : FVec F S128x8192 .f32 :=
  matmul dot_S128x128_S128x8192_S128x8192_1_0_0_1_n_n none (shapeCast S128x128 x shapeCasts_S128x128_S128x128)
    (shapeCast S128x8192 w shapeCasts_S128x8192_S128x8192) (constant S128x8192 .f32 0x00000000#32)

/-- A running sum as a message: rounded to bf16. -/
noncomputable def pack (a : FVec F S128x8192 .f32) : FVec F S1x128x8192 .bf16 :=
  shapeCast S1x128x8192 (truncf .bf16 a bitsLt_bf16_f32) shapeCasts_S128x8192_S1x128x8192

/-- A message received, as a block of f32. -/
noncomputable def unpack (r : Vec F S1x128x8192 .bf16) : FVec F S128x8192 .f32 :=
  extf .f32 (shapeCast S128x8192 r shapeCasts_S1x128x8192_S128x8192) bitsLt_bf16_f32

/-- A device's new running sum: its share plus what came in. -/
noncomputable def next (p : FVec F S128x8192 .f32) (r : Vec F S1x128x8192 .bf16) : FVec F S128x8192 .f32 := addf p (unpack r)

/-- The device's block of the product: its share plus the sums of the two directions. -/
noncomputable def total (p : FVec F S128x8192 .f32) (r l : Vec F S1x128x8192 .bf16) : FVec F S128x8192 .f32 :=
  addf (addf p (unpack r)) (unpack l)

/-- One step of the maximum over the devices: device `j`'s maximum taken into `m`, the device's own in its own place. -/
noncomputable def maxStep (v2 : BitVec 32) (own : FVec F S1x1 .f32) (j : ℕ) (m : FVec F S1x1 .f32) (r : Vec F S1x1x1 .f32) :
    FVec F S1x1 .f32 :=
  maximumf m (Scalar.select (Scalar.cmpi .eq v2 (BitVec.ofNat 32 j)) own (shapeCast S1x1 r shapeCasts_S1x1x1_S1x1))

/-! ## Offsets -/

/-- Where the ring's table holds the device that hop `s` of the rightward half sums for. -/
def tabR (v4 : BitVec 32) (s : ℕ) : Fin 1 → ℕ :=
  ![(Scalar.indexCast (Scalar.remsi (Scalar.addi (Scalar.subi (Scalar.addi v4 16#32) (BitVec.ofNat 32 s)) 32#32) 32#32)).toNat]

/-- Where the ring's table holds the device that hop `s` of the leftward half sums for. -/
def tabL (v4 : BitVec 32) (s : ℕ) : Fin 1 → ℕ :=
  ![(Scalar.indexCast (Scalar.remsi (Scalar.addi (Scalar.addi (Scalar.addi (Scalar.subi v4 16#32) 1#32) (BitVec.ofNat 32 s)) 32#32)
    32#32)).toNat]

/-- The first row of `x` of the block of device `w`. -/
def rowOf (w : BitVec 32) : Fin 2 → ℕ := ![(Scalar.indexCast (Scalar.muli w 128#32)).toNat, 0]

/-- That block is within `x`. -/
def RowIn (w : BitVec 32) : Prop := ∀ a, rowOf w a + S128x128.size a ≤ S4096x128.size a

/-- Whether a block lies within `x` can be decided. -/
instance RowIn.dec (w : BitVec 32) : Decidable (RowIn w) := decidable_of_iff' _ (Iff.of_eq (RowIn.eq_1 w))

/-- The device a word names. -/
def nbr (w : BitVec 32) : ℕ := (Scalar.addi 0#32 (Scalar.muli w 1#32)).toNat

/-- Slot `p` of a two-slot buffer. -/
abbrev slotAt (p : Fin 2) : Fin 3 → ℕ := ![p.val, 0, 0]

/-- Either slot lies within its buffer. -/
theorem slotAt_inb (p : Fin 2) : ∀ a, slotAt p a + S1x128x8192.size a ≤ S2x128x8192.size a := by
  revert p; decide

/-- A slot of a buffer of bf16 is made of whole words. -/
theorem slotAt_words (p : Fin 2) :
    (Rect.unit (s := S2x128x8192) (slotAt p) S1x128x8192.size (slotAt_inb p)).WholeWords (EltTy.packing .bf16) := by
  fin_cases p
  · exact wordsbf16_S2x128x8192_S1x128x8192_0_0_0
  · exact wordsbf16_S2x128x8192_S1x128x8192_1_0_0

/-- A slot of a buffer of bf16 is made of whole packed rows. -/
theorem slotAt_packed (p : Fin 2) :
    (Rect.unit (s := S2x128x8192) (slotAt p) S1x128x8192.size (slotAt_inb p)).PackedRows (EltTy.packing .bf16) := by
  fin_cases p
  · exact packedbf16_S2x128x8192_S1x128x8192_0_0_0
  · exact packedbf16_S2x128x8192_S1x128x8192_1_0_0

/-- Either semaphore lies within its pair. -/
theorem semAt_inb (p : Fin 2) : ∀ a, (![p.val] : Fin 1 → ℕ) a + S1.size a ≤ S2.size a := by
  revert p; decide

/-- Each of the thirty-two semaphores lies within its array. -/
theorem cellAt_inb (j : Fin 32) : ∀ a, (![j.val] : Fin 1 → ℕ) a + S1.size a ≤ S32.size a := by
  revert j; decide

/-- Each entry lies within the buffer of maxima. -/
theorem maxAt_inb (j : Fin 32) : ∀ a, (![j.val, 0, 0] : Fin 3 → ℕ) a + S1x1x1.size a ≤ S32x1x1.size a := by
  revert j; decide

/-- The checks on a table index bound the reads of both halves. -/
theorem tab_inb {v4 : BitVec 32} (h : k0_chk1 v4) :
    (∀ s, s < 16 → ∀ a, tabR v4 s a + S1.size a ≤ S32.size a) ∧ (∀ s, s < 15 → ∀ a, tabL v4 s a + S1.size a ≤ S32.size a) := by
  constructor <;> intro s hs <;> interval_cases s
  exacts [k0_off4_inb v4 h, k0_off8_inb v4 h, k0_off12_inb v4 h, k0_off16_inb v4 h, k0_off20_inb v4 h, k0_off24_inb v4 h, k0_off28_inb v4 h, k0_off32_inb v4 h, k0_off36_inb v4 h, k0_off40_inb v4 h, k0_off44_inb v4 h, k0_off48_inb v4 h, k0_off52_inb v4 h, k0_off56_inb v4 h, k0_off60_inb v4 h, k0_off64_inb v4 h,
    k0_off6_inb v4 h, k0_off10_inb v4 h, k0_off14_inb v4 h, k0_off18_inb v4 h, k0_off22_inb v4 h, k0_off26_inb v4 h, k0_off30_inb v4 h, k0_off34_inb v4 h, k0_off38_inb v4 h, k0_off42_inb v4 h, k0_off46_inb v4 h, k0_off50_inb v4 h, k0_off54_inb v4 h, k0_off58_inb v4 h, k0_off62_inb v4 h]

/-- The device's own number, as the kernel computes it. -/
abbrev me (d : Dev nD) : BitVec 32 := Scalar.remsi (Scalar.divsi (Dev.word d) 1#32) 32#32

/-! ## The steps -/

/-- Slot `p` of a two-slot buffer, as a memref. -/
abbrev slot (m : Memref sig .tc .vmem S2x128x8192 .bf16) (p : Fin 2) : Memref sig .tc .vmem S128x8192 .bf16 :=
  (m.slice (Rect.unit (s := S2x128x8192) (slotAt p) S1x128x8192.size (slotAt_inb p)) (fun _ => rfl)).squeeze S128x8192
    squeezes_S1x128x8192_S128x8192

/-- Semaphore `p` of a pair. -/
abbrev semOf (a : DmaSems sig S2) (p : Fin 2) : DmaSem sig :=
  ((a.slice (Rect.unit (s := S2) (![p.val] : Fin 1 → ℕ) S1.size (semAt_inb p))).squeeze S_ squeezes_S1_S_).sem

/-- A slot of a whole buffer can be copied in whole words. -/
theorem slot_wordExact {m : Memref sig .tc .vmem S2x128x8192 .bf16} (hm : m.IsWhole) (p : Fin 2) : (slot m p).view.WordExact :=
  (hm.wordExact_slice rfl _ (slotAt_words p)).reshape _ _

/-- Semaphore `j` of thirty-two. -/
abbrev cellOf (a : DmaSems sig S32) (j : Fin 32) : DmaSem sig :=
  ((a.slice (Rect.unit (s := S32) (![j.val] : Fin 1 → ℕ) S1.size (cellAt_inb j))).squeeze S_ squeezes_S1_S_).sem

/-- Entry `j` of the buffer of maxima, as a memref. -/
abbrev maxOf (m : Memref sig .tc .vmem S32x1x1 .f32) (j : Fin 32) : Memref sig .tc .vmem S1x1 .f32 :=
  (m.slice (Rect.unit (s := S32x1x1) (![j.val, 0, 0] : Fin 3 → ℕ) S1x1x1.size (maxAt_inb j)) (fun _ => rfl)).squeeze S1x1
    squeezes_S1x1x1_S1x1

/-- Programs of the kernel's body. -/
abbrev P (F : FTy → Type) (α : Type) := Prog (TpuEff nD τ sig (Elt F) Λ₀ .tc) α

/-- A share of the product at the device the table holds at `off`. -/
noncomputable def pPart (x : Memref sig .tc .vmem S4096x128 .bf16) (w : Memref sig .tc .vmem S128x8192 .bf16)
    (tab : Memref sig .tc .smem S32 .i32) (off : Fin 1 → ℕ) (h : ∀ a, off a + S1.size a ≤ S32.size a) :
    P F (FVec F S128x8192 .f32) := do
  let v : Elt F .i32 ← smemLoad tab (Rect.unit (s := S32) off S1.size h) numel1_S1 rfl
  have hv : RowIn v := (← Prog.lift (TpuEff.assume (RowIn v) (RowIn.dec v))).down
  let a : Vec F S128x128 .bf16 ← Prog.lift (.load x (Rect.unit (s := S4096x128) (rowOf v) S128x128.size hv).toLoadRect (View.loadsAt_vmem h_S128x128))
  let b : Vec F S128x8192 .bf16 ← Prog.lift (.load w (Rect.unit (s := S128x8192) ![0, 0] S128x8192.size inb_S128x8192_S128x8192_0_0).toLoadRect (View.loadsAt_vmem h_S128x8192))
  pure (part a b)

/-- The device's own share of its own block. -/
noncomputable def pOwn (x : Memref sig .tc .vmem S4096x128 .bf16) (w : Memref sig .tc .vmem S128x8192 .bf16) (d : Dev nD) :
    P F (FVec F S128x8192 .f32) := do
  let a : Vec F S128x128 .bf16 ← Prog.lift (.load x (Rect.unit (s := S4096x128) (k0_off66 d) S128x128.size (k0_off66_inb d)).toLoadRect (View.loadsAt_vmem h_S128x128))
  let b : Vec F S128x8192 .bf16 ← Prog.lift (.load w (Rect.unit (s := S128x8192) ![0, 0] S128x8192.size inb_S128x8192_S128x8192_0_0).toLoadRect (View.loadsAt_vmem h_S128x8192))
  pure (part a b)

/-- Before a slot is used again: a credit from the receiver, and the last message out of the slot sent. -/
noncomputable def pReuse (sb rb : Memref sig .tc .vmem S2x128x8192 .bf16) (hs : sb.IsWhole) (hr : rb.IsWhole)
    (ss : DmaSems sig S2) (cr : Sems sig S_) (p : Fin 2) : P F PUnit := do
  semWaitWord cr.sem 1#32
  Prog.lift (.waitDma2 (semOf ss p) (slot rb p) (slot sb p) (slot_wordExact hr p) (slot_wordExact hs p))

/-- A message stored and sent to the neighbour. -/
noncomputable def pSend (sb rb : Memref sig .tc .vmem S2x128x8192 .bf16) (hs : sb.IsWhole) (hr : rb.IsWhole)
    (ss rs : DmaSems sig S2) (dst : Dev nD) (p : Fin 2) (a : FVec F S1x128x8192 .bf16) : P F PUnit := do
  let _v : Vec F S1x128x8192 .bf16 ← Prog.lift (.load sb (Rect.unit (s := S2x128x8192) (slotAt p) S1x128x8192.size (slotAt_inb p)).toLoadRect (View.loadsAt_vmem h_S1x128x8192))
  Prog.lift (.store sb (Rect.unit (s := S2x128x8192) (slotAt p) S1x128x8192.size (slotAt_inb p)) a Finset.univ (View.stores_vmem h_S1x128x8192 (hs.storeExact_slice rfl _ (slotAt_packed p)) (fun _ => rfl)) (.inl rfl))
  Prog.lift (.enqueueDma (slot sb p) (.remote (Dev.tc dst) (slot rb p) (.dma (semOf ss p))) (.dma (semOf rs p)) (slot_wordExact hs p) (slot_wordExact hr p) ⟨⟨rfl, Or.inl rfl⟩, trivial⟩)

/-- A message awaited and read. -/
noncomputable def pRecv (sb rb : Memref sig .tc .vmem S2x128x8192 .bf16) (hs : sb.IsWhole) (hr : rb.IsWhole)
    (rs : DmaSems sig S2) (p : Fin 2) : P F (Vec F S1x128x8192 .bf16) := do
  Prog.lift (.waitDma2 (semOf rs p) (slot sb p) (slot rb p) (slot_wordExact hs p) (slot_wordExact hr p))
  Prog.lift (.load rb (Rect.unit (s := S2x128x8192) (slotAt p) S1x128x8192.size (slotAt_inb p)).toLoadRect (View.loadsAt_vmem h_S1x128x8192))

/-- The end of a slot's last send. -/
noncomputable def pDrain (sb rb : Memref sig .tc .vmem S2x128x8192 .bf16) (hs : sb.IsWhole) (hr : rb.IsWhole)
    (ss : DmaSems sig S2) (p : Fin 2) : P F PUnit :=
  Prog.lift (.waitDma2 (semOf ss p) (slot rb p) (slot sb p) (slot_wordExact hr p) (slot_wordExact hs p))

/-- The slot of hop `s`. -/
abbrev par (s : ℕ) : Fin 2 := ⟨s % 2, Nat.mod_lt _ two_pos⟩

section Ring

variable (arg0 : Memref sig .tc .vmem S4096x128 .bf16) (arg1 : Memref sig .tc .vmem S128x8192 .bf16)
  (arg2 : Memref sig .tc .smem S32 .i32)
  (arg6 : Memref sig .tc .vmem S2x128x8192 .bf16) (harg6 : arg6.IsWhole) (arg7 : Memref sig .tc .vmem S2x128x8192 .bf16) (harg7 : arg7.IsWhole)
  (arg8 : Memref sig .tc .vmem S2x128x8192 .bf16) (harg8 : arg8.IsWhole) (arg9 : Memref sig .tc .vmem S2x128x8192 .bf16) (harg9 : arg9.IsWhole)
  (arg10 arg11 arg12 arg13 : DmaSems sig S2) (arg14 arg15 : Sems sig S_)

/-- The sends of hop `s`, both ways. -/
noncomputable def pOut (L R : Dev nD) (s : ℕ) (a b : FVec F S128x8192 .f32) : P F PUnit := do
  let _u ← if 2 ≤ s then pReuse arg6 arg7 harg6 harg7 arg10 arg14 (par s) else pure ⟨⟩
  pSend arg6 arg7 harg6 harg7 arg10 arg11 R (par s) (pack a)
  let _u ← if 2 ≤ s then pReuse arg8 arg9 harg8 harg9 arg12 arg15 (par s) else pure ⟨⟩
  pSend arg8 arg9 harg8 harg9 arg12 arg13 L (par s) (pack b)

/-- Hop `s` of the ring, for `s` below 14: both messages out, both shares of the next blocks, both messages in, and the
slots given back to the senders that will use them again. -/
noncomputable def pHop {v4 : BitVec 32} (h : k0_chk1 v4) (L R : Dev nD) (s : ℕ) (hs : s < 14) (a b : FVec F S128x8192 .f32) :
    P F (FVec F S128x8192 .f32 × FVec F S128x8192 .f32) := do
  pOut arg6 harg6 arg7 harg7 arg8 harg8 arg9 harg9 arg10 arg11 arg12 arg13 arg14 arg15 L R s a b
  let p ← pPart arg0 arg1 arg2 (tabR v4 (s + 1)) ((tab_inb h).1 (s + 1) (by omega))
  let q ← pPart arg0 arg1 arg2 (tabL v4 (s + 1)) ((tab_inb h).2 (s + 1) (by omega))
  let r ← pRecv arg6 arg7 harg6 harg7 arg11 (par s)
  semSignalWord L arg14.sem 1#32
  let l ← pRecv arg8 arg9 harg8 harg9 arg13 (par s)
  let _u ← if s ≤ 12 then semSignalWord R arg15.sem 1#32 else pure ⟨⟩
  pure (next p r, next q l)

/-- The hops from `s`, `n` of them. -/
noncomputable def pHops {v4 : BitVec 32} (h : k0_chk1 v4) (L R : Dev nD) : (n s : ℕ) → n + s = 14 → FVec F S128x8192 .f32 → FVec F S128x8192 .f32 →
    P F (FVec F S128x8192 .f32 × FVec F S128x8192 .f32)
  | 0, _, _, a, b => pure (a, b)
  | n + 1, s, hs, a, b => do
    let ab ← pHop arg0 arg1 arg2 arg6 harg6 arg7 harg7 arg8 harg8 arg9 harg9 arg10 arg11 arg12 arg13 arg14 arg15 h L R s (by omega) a b
    pHops h L R n (s + 1) (by omega) ab.1 ab.2

/-- The ring: sixteen hops to the right and fifteen to the left, and the device's block of the product. -/
noncomputable def pRing (d : Dev nD) {v4 : BitVec 32} (h : k0_chk1 v4) (L R : Dev nD) : P F (FVec F S128x8192 .f32) := do
  let a ← pPart arg0 arg1 arg2 (tabR v4 0) ((tab_inb h).1 0 (by omega))
  let b ← pPart arg0 arg1 arg2 (tabL v4 0) ((tab_inb h).2 0 (by omega))
  let ab ← pHops arg0 arg1 arg2 arg6 harg6 arg7 harg7 arg8 harg8 arg9 harg9 arg10 arg11 arg12 arg13 arg14 arg15 h L R 14 0 rfl a b
  pOut arg6 harg6 arg7 harg7 arg8 harg8 arg9 harg9 arg10 arg11 arg12 arg13 arg14 arg15 L R 14 ab.1 ab.2
  let p ← pPart arg0 arg1 arg2 (tabR v4 15) ((tab_inb h).1 15 (by omega))
  let r ← pRecv arg6 arg7 harg6 harg7 arg11 (par 14)
  let l ← pRecv arg8 arg9 harg8 harg9 arg13 (par 14)
  pReuse arg6 arg7 harg6 harg7 arg10 arg14 (par 15)
  pSend arg6 arg7 harg6 harg7 arg10 arg11 R (par 15) (pack (next p r))
  let o ← pOwn arg0 arg1 d
  let y ← pRecv arg6 arg7 harg6 harg7 arg11 (par 15)
  pDrain arg6 arg7 harg6 harg7 arg10 0
  pDrain arg6 arg7 harg6 harg7 arg10 1
  pDrain arg8 arg9 harg8 harg9 arg12 0
  pDrain arg8 arg9 harg8 harg9 arg12 1
  pure (total o y l)

end Ring

/-! ## The exchange of maxima -/

/-- A device's number, as the kernel computes it, is below thirty-two. -/
theorem me_lt (d : Dev nD) : (me d).toNat < 32 := by
  revert d; decide

/-- The device's own number, as an index. -/
abbrev meAt (d : Dev nD) : Fin 32 := ⟨(me d).toNat, me_lt d⟩

/-- Whether device `j` is another one. -/
abbrev other (d : Dev nD) (j : ℕ) : BitVec 1 :=
  Scalar.cmpi .ne (Scalar.extui (Scalar.cmpi .ne (me d) (BitVec.ofNat 32 j)) : BitVec 32) 0#32

/-- The largest absolute value of a block. -/
noncomputable def amaxOf (y : FVec F S128x8192 .f32) : FVec F S1x1 .f32 := k0_pay97 y

/-- The result: the block quantised at the scale of the maximum, and back. -/
noncomputable def quant (m : FVec F S1x1 .f32) (y : Vec F S128x8192 .f32) : FVec F S128x8192 .f32 := k0_pay109 m y

section Exchange

variable (arg5 : Memref sig .tc .vmem S1x1 .f32) (harg5 : arg5.IsWhole)
  (arg16 : Memref sig .tc .vmem S32x1x1 .f32) (harg16 : arg16.IsWhole) (arg17 arg18 : DmaSems sig S32)

/-- The maximum sent to device `j`, if that is another one. -/
noncomputable def pTell1 (d : Dev nD) (j : Fin 32) : P F PUnit :=
  if other d j.val = 1#1 then
    Prog.lift (.enqueueDma arg5 (.remote (Dev.tc (j : Dev nD)) (maxOf arg16 (meAt d)) (.dma (cellOf arg17 j))) (.dma (cellOf arg18 (meAt d)))
      harg5.wordExact ((View.wordExact_bits rfl).reshape _ _) ⟨⟨rfl, Or.inl rfl⟩, trivial⟩)
  else pure ⟨⟩

/-- The maximum of device `j` awaited, if that is another one. -/
noncomputable def pHear1 (d : Dev nD) (j : Fin 32) : P F PUnit :=
  if other d j.val = 1#1 then
    Prog.lift (.waitDma2 (cellOf arg18 j) arg5 (maxOf arg16 j) harg5.wordExact ((View.wordExact_bits rfl).reshape _ _))
  else pure ⟨⟩

/-- The end of the send to device `j`, if that is another one. -/
noncomputable def pSent1 (d : Dev nD) (j : Fin 32) : P F PUnit :=
  if other d j.val = 1#1 then
    Prog.lift (.waitDma2 (cellOf arg17 j) (maxOf arg16 (meAt d)) arg5 ((View.wordExact_bits rfl).reshape _ _) harg5.wordExact)
  else pure ⟨⟩

/-- The maximum sent to the devices from `j`, `n` of them. -/
noncomputable def pTell (d : Dev nD) : (n j : ℕ) → n + j = 32 → P F PUnit
  | 0, _, _ => pure ⟨⟩
  | n + 1, j, h => do
    pTell1 arg5 harg5 arg16 arg17 arg18 d ⟨j, by omega⟩
    pTell d n (j + 1) (by omega)

/-- The maxima of the devices from `j`, `n` of them, taken into `m`. -/
noncomputable def pHear (d : Dev nD) (own : FVec F S1x1 .f32) : (n j : ℕ) → n + j = 32 → FVec F S1x1 .f32 → P F (FVec F S1x1 .f32)
  | 0, _, _, m => pure m
  | n + 1, j, h, m => do
    pHear1 arg5 harg5 arg16 arg18 d ⟨j, by omega⟩
    let r : Vec F S1x1x1 .f32 ← Prog.lift (.load arg16 (Rect.unit (s := S32x1x1) (![j, 0, 0] : Fin 3 → ℕ) S1x1x1.size (maxAt_inb ⟨j, by omega⟩)).toLoadRect (View.loadsAt_vmem h_S1x1x1))
    pHear d own n (j + 1) (by omega) (maxStep (me d) own j m r)

/-- The ends of the sends to the devices from `j`, `n` of them. -/
noncomputable def pSent (d : Dev nD) : (n j : ℕ) → n + j = 32 → P F PUnit
  | 0, _, _ => pure ⟨⟩
  | n + 1, j, h => do
    pSent1 arg5 harg5 arg16 arg17 d ⟨j, by omega⟩
    pSent d n (j + 1) (by omega)

end Exchange

/-! ## The body -/

section Body

variable (arg0 : Memref sig .tc .vmem S4096x128 .bf16) (arg1 : Memref sig .tc .vmem S128x8192 .bf16)
  (arg2 arg3 : Memref sig .tc .smem S32 .i32)
  (arg4 : Memref sig .tc .vmem S128x8192 .f32) (arg5 : Memref sig .tc .vmem S1x1 .f32) (harg5 : arg5.IsWhole)
  (arg6 : Memref sig .tc .vmem S2x128x8192 .bf16) (harg6 : arg6.IsWhole) (arg7 : Memref sig .tc .vmem S2x128x8192 .bf16) (harg7 : arg7.IsWhole)
  (arg8 : Memref sig .tc .vmem S2x128x8192 .bf16) (harg8 : arg8.IsWhole) (arg9 : Memref sig .tc .vmem S2x128x8192 .bf16) (harg9 : arg9.IsWhole)
  (arg10 arg11 arg12 arg13 : DmaSems sig S2) (arg14 arg15 : Sems sig S_)
  (arg16 : Memref sig .tc .vmem S32x1x1 .f32) (arg17 arg18 : DmaSems sig S32)

/-- What follows the ring: the block and its maximum stored, the maxima exchanged, the block quantised. -/
noncomputable def pTail (d : Dev nD) (y : FVec F S128x8192 .f32) : P F PUnit := do
  let _v : Vec F S128x8192 .f32 ← Prog.lift (.load arg4 (Rect.unit (s := S128x8192) ![0, 0] S128x8192.size inb_S128x8192_S128x8192_0_0).toLoadRect (View.loadsAt_vmem h_S128x8192))
  Prog.lift (.store arg4 (Rect.unit (s := S128x8192) ![0, 0] S128x8192.size inb_S128x8192_S128x8192_0_0) y Finset.univ (View.stores_vmem_bits_univ h_S128x8192 rfl) (.inl rfl))
  let _v : Vec F S1x1 .f32 ← Prog.lift (.load arg5 (Rect.unit (s := S1x1) ![0, 0] S1x1.size inb_S1x1_S1x1_0_0).toLoadRect (View.loadsAt_vmem h_S1x1))
  Prog.lift (.store arg5 (Rect.unit (s := S1x1) ![0, 0] S1x1.size inb_S1x1_S1x1_0_0) (amaxOf y) Finset.univ (View.stores_vmem_bits_univ h_S1x1 rfl) (.inl rfl))
  let own : Vec F S1x1 .f32 ← Prog.lift (.load arg5 (Rect.unit (s := S1x1) ![0, 0] S1x1.size inb_S1x1_S1x1_0_0).toLoadRect (View.loadsAt_vmem h_S1x1))
  pTell arg5 harg5 arg16 arg17 arg18 d 32 0 rfl
  let m ← pHear arg5 harg5 arg16 arg18 d (k0_pay98 own) 32 0 rfl (k0_pay98 own)
  pSent arg5 harg5 arg16 arg17 d 32 0 rfl
  let _v : Vec F S1x1 .f32 ← Prog.lift (.load arg5 (Rect.unit (s := S1x1) ![0, 0] S1x1.size inb_S1x1_S1x1_0_0).toLoadRect (View.loadsAt_vmem h_S1x1))
  Prog.lift (.store arg5 (Rect.unit (s := S1x1) ![0, 0] S1x1.size inb_S1x1_S1x1_0_0) m Finset.univ (View.stores_vmem_bits_univ h_S1x1 rfl) (.inl rfl))
  let y : Vec F S128x8192 .f32 ← Prog.lift (.load arg4 (Rect.unit (s := S128x8192) ![0, 0] S128x8192.size inb_S128x8192_S128x8192_0_0).toLoadRect (View.loadsAt_vmem h_S128x8192))
  let _v : Vec F S128x8192 .f32 ← Prog.lift (.load arg4 (Rect.unit (s := S128x8192) ![0, 0] S128x8192.size inb_S128x8192_S128x8192_0_0).toLoadRect (View.loadsAt_vmem h_S128x8192))
  Prog.lift (.store arg4 (Rect.unit (s := S128x8192) ![0, 0] S128x8192.size inb_S128x8192_S128x8192_0_0) (quant m y) Finset.univ (View.stores_vmem_bits_univ h_S128x8192 rfl) (.inl rfl))

/-- The kernel's body. -/
noncomputable def pBody : P F PUnit := do
  let d : Dev nD ← Prog.lift .deviceId
  let v4 : Elt F .i32 ← smemLoad arg3 (Rect.unit (s := S32) (k0_off1 d) S1.size (k0_off1_inb d)) numel1_S1 rfl
  have h1 : k0_chk1 v4 := (← Prog.lift (TpuEff.assume (k0_chk1 v4) (k0_chk1.dec v4))).down
  let v9 : Elt F .i32 ← smemLoad arg2 (Rect.unit (s := S32) (k0_off2 v4) S1.size (k0_off2_inb v4 h1)) numel1_S1 rfl
  have h2 : k0_chk2 v9 := (← Prog.lift (TpuEff.assume (k0_chk2 v9) (k0_chk2.dec v9))).down
  let v13 : Elt F .i32 ← smemLoad arg2 (Rect.unit (s := S32) (k0_off3 v4) S1.size (k0_off3_inb v4 h1)) numel1_S1 rfl
  have h3 : k0_chk3 v13 := (← Prog.lift (TpuEff.assume (k0_chk3 v13) (k0_chk3.dec v13))).down
  semSignalWord (⟨nbr v9, k0_dev1_lt v9 h2⟩ : Dev nD) (sig.barrier 0 rfl) 1#32
  semSignalWord (⟨nbr v13, k0_dev2_lt v13 h3⟩ : Dev nD) (sig.barrier 0 rfl) 1#32
  semWaitWord (sig.barrier 0 rfl) 2#32
  let y ← pRing arg0 arg1 arg2 arg6 harg6 arg7 harg7 arg8 harg8 arg9 harg9 arg10 arg11 arg12 arg13 arg14 arg15 d h1
    ⟨nbr v9, k0_dev1_lt v9 h2⟩ ⟨nbr v13, k0_dev2_lt v13 h3⟩
  pTail arg4 arg5 harg5 arg16 arg17 arg18 d y

end Body

end Cert.KernelIdeal
-- ==== Proof.Ring.lean ====
module

public import proofs.«01_k».proof.Proof.Prog

@[expose] public section

/-!
# The ring

The host's two tables order the devices in a ring: `lit0` lists them, `lit1` is a device's place. A device's neighbours, and the
device each hop of each direction sums for, are read from them.
-/

namespace Cert.KernelIdeal

open Idealize.ShloMosaic Idealize.SL.Sem Cert.KernelIdeal.Gen

/-- A device's place in the ring. -/
noncomputable def pos (c : Dev nD) : ℕ := (lit1 c).toNat

/-- The device at a place, counted around the ring. -/
noncomputable def dev (n : ℕ) : Dev nD := ⟨(lit0 ⟨n % 32, Nat.mod_lt _ (by decide)⟩).toNat % 32, Nat.mod_lt _ (by decide)⟩

/-- A device's neighbour: the next one for `true`, the one before for `false`. -/
noncomputable def nb (b : Bool) (c : Dev nD) : Dev nD := dev (pos c + bif b then 1 else 31)

/-- The device whose block hop `s` of a direction sums. -/
noncomputable def tgt (b : Bool) (c : Dev nD) (s : ℕ) : Dev nD := dev (pos c + bif b then 48 - s else 17 + s)

/-- A device is the neighbour, the other way, of its neighbour. -/
theorem nb_nb (b : Bool) (c : Dev nD) : nb (!b) (nb b c) = c := by revert b c; decide

/-- The same, starting the other way. -/
theorem nb_nb' (b : Bool) (c : Dev nD) : nb b (nb (!b) c) = c := by revert b c; decide

/-- Devices with the same neighbour are the same. -/
theorem nb_inj (b : Bool) {c d : Dev nD} (h : nb b c = nb b d) : c = d := by rw [← nb_nb b c, h, nb_nb]

/-- A message's block is the receiver's next. -/
theorem tgt_succ (b : Bool) (c : Dev nD) (s : ℕ) (hs : s < 16) : tgt b (nb (!b) c) s = tgt b c (s + 1) := by
  have h : ∀ (b : Bool) (c : Dev nD) (s : Fin 16), tgt b (nb (!b) c) s.val = tgt b c (s.val + 1) := by decide +kernel
  exact h b c ⟨s, hs⟩

/-- The last sum that each direction brings to a device is of its own block. -/
theorem tgt_last : ∀ c : Dev nD, tgt true c 16 = c ∧ tgt false c 15 = c := by decide

/-! ## The words the kernel computes -/

/-- The kernel's checks on the table indices hold at every device. -/
theorem chk1_at : ∀ c : Dev nD, k0_chk1 (lit1 c) := by decide +kernel

/-- A device reads its place in the ring at its own number. -/
theorem off1_at : ∀ c : Dev nD, k0_off1 c 0 = c.val := by decide +kernel

/-- The word a table of the ring holds at an offset. -/
noncomputable def wordAt (off : Fin 1 → ℕ) : BitVec 32 := lit0 ⟨off 0 % 32, Nat.mod_lt _ (by decide)⟩

/-- The kernel's left neighbour passes its check and is the device before. -/
theorem left_at : ∀ c : Dev nD, k0_chk2 (wordAt (k0_off2 (lit1 c))) ∧ nbr (wordAt (k0_off2 (lit1 c))) = (nb false c).val := by
  decide +kernel

/-- The kernel's right neighbour passes its check and is the device after. -/
theorem right_at : ∀ c : Dev nD, k0_chk3 (wordAt (k0_off3 (lit1 c))) ∧ nbr (wordAt (k0_off3 (lit1 c))) = (nb true c).val := by
  decide +kernel

/-- The first row of a device's block of `x`. -/
abbrev rowsAt (e : Dev nD) : Fin 2 → ℕ := ![128 * e.val, 0]

/-- Every device's block of rows lies within `x`. -/
theorem rowsAt_inb (e : Dev nD) : ∀ a, rowsAt e a + S128x128.size a ≤ S4096x128.size a := by revert e; decide

/-- Where the table holds the device a hop sums for. -/
abbrev tabAt (b : Bool) (v4 : BitVec 32) (s : ℕ) : Fin 1 → ℕ := bif b then tabR v4 s else tabL v4 s

/-- The rows a hop reads lie within `x` and are those of the device the hop sums for. -/
theorem row_at : ∀ (b : Bool) (c : Dev nD) (s : Fin 16), RowIn (wordAt (tabAt b (lit1 c) s.val))
    ∧ rowOf (wordAt (tabAt b (lit1 c) s.val)) = rowsAt (tgt b c s.val) := by
  decide +kernel

/-- The rows a device reads for its own share are those of its own block. -/
theorem off66_at : ∀ c : Dev nD, k0_off66 c = rowsAt c := by decide +kernel

/-- A device's number, as the kernel computes it, is the device. -/
theorem meAt_eq : ∀ d : Dev nD, meAt d = (d : Fin 32) := by decide +kernel

/-- The same, as a word. -/
theorem me_word : ∀ d : Dev nD, me d = BitVec.ofNat 32 d.val := by decide +kernel

/-- The kernel's test for another device holds exactly at the other devices. -/
theorem other_iff : ∀ (d : Dev nD) (j : Fin 32), other d j.val = 1#1 ↔ j ≠ (d : Fin 32) := by decide +kernel

/-! ## What a device has heard of -/

/-- The devices whose word reaches `c` along one direction before it sends hop `s`. -/
noncomputable def kn (b : Bool) (c : Dev nD) : ℕ → Finset (Dev nD)
  | 0 => {c}
  | s + 1 => insert c (kn b (nb (!b) c) s)

/-- By the end, everyone. -/
theorem kn_all : ∀ c e : Dev nD, e ∈ kn true c 16 ∪ kn false c 15 := by decide +kernel

end Cert.KernelIdeal
-- ==== Proof.Proto.lean ====
module

public import proofs.«01_k».proof.Proof.Ring
public import Idealize.ShloMosaic.Lib.Pipeline.Regions
public import Idealize.ShloMosaic.Lib.Pipeline.Kit
public import Idealize.ShloMosaic.Lib.Rounds
public import Idealize.ShloMosaic.Lib.Release
public import Idealize.ShloMosaic.Lib.StableHlo
public import Idealize.ShloMosaic.Lib.ShareLeaves
public import Idealize.ShloMosaic.Lib.Tactic
public import Idealize.ShloMosaic.PureOps
public import Idealize.ShloMosaic.Lib.Pipeline.RegionTalk
public import Idealize.ShloMosaic.Harness.Basic

@[expose] public section

/-!
# The protocol

Every semaphore's rounds: who credits it, by how much, and what each credit hands to the owner. The values the messages carry are
functions of all devices' operands.
-/

noncomputable section

namespace Cert.KernelIdeal

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen

variable {F : FTy → Type} [FloatOps F]

/-! ## The ghost algebra -/

/-- A slot a neighbour or another device writes: of a two-slot buffer of a direction, or of the buffer of maxima. -/
abbrev Key : Type := Dev nD × (Bool × Fin 2 ⊕ Fin 32)

/-- The pipeline's rounds, the kernel's rounds, the slots. -/
abbrev UT : Type := UR sig nD τ × (URounds (GSem nD τ sig) ℕ × Release.USlots Key)

local notation "𝕄" => MT nD τ sig ℕ (Elt F) ℕ UT ℕ

/-- Where the ghost state holds the rounds of the staging copies. -/
abbrev EP : Emb (UR sig nD τ) 𝕄 := embL

/-- Where it holds the rounds of the kernel's own semaphores. -/
def ER : Emb (URounds (GSem nD τ sig) ℕ) 𝕄 := Emb.inl.trans embR

/-- Where it holds the slots. -/
def ES : Emb (Release.USlots Key) 𝕄 := Emb.inr.trans embR

/-- The rounds of the semaphores may be named in invariants. -/
instance ER_landsIn : (ER : Emb _ 𝕄).LandsIn (upEmb : UEmb _ 𝕄) := by unfold ER; infer_instance

/-- The slots may be named in invariants. -/
instance ES_landsIn : (ES : Emb _ 𝕄).LandsIn (upEmb : UEmb _ 𝕄) := by unfold ES; infer_instance

/-! ## Buffers and semaphores of a direction -/

/-- The two slots a direction sends from. -/
abbrev sbuf (b : Bool) : Memref sig .tc .vmem S2x128x8192 .bf16 := bif b then Memref.whole cc0_scratch0 else Memref.whole cc0_scratch2

/-- The two slots a direction receives into. -/
abbrev rbuf (b : Bool) : Memref sig .tc .vmem S2x128x8192 .bf16 := bif b then Memref.whole cc0_scratch1 else Memref.whole cc0_scratch3

/-- The semaphores of a direction's sends. -/
abbrev ssem (b : Bool) : DmaSems sig S2 := bif b then cc0_scratch4 else cc0_scratch6

/-- The semaphores of a direction's arrivals. -/
abbrev rsem (b : Bool) : DmaSems sig S2 := bif b then cc0_scratch5 else cc0_scratch7

/-- The semaphore of a direction's credits. -/
abbrev crs (b : Bool) : Sems sig S_ := bif b then cc0_scratch8 else cc0_scratch9

/-- The buffer of maxima. -/
abbrev mbuf : Memref sig .tc .vmem S32x1x1 .f32 := Memref.whole cc0_scratch10

/-- The staging buffer of the second result, which holds a device's own maximum. -/
abbrev abuf : Memref sig .tc .vmem S1x1 .f32 := Memref.whole cc0_stg5_0

/-- The slots sent from are a whole buffer. -/
theorem sbuf_whole (b : Bool) : (sbuf b).IsWhole := by cases b <;> exact Memref.isWhole_whole _

/-- The slots received into are a whole buffer. -/
theorem rbuf_whole (b : Bool) : (rbuf b).IsWhole := by cases b <;> exact Memref.isWhole_whole _

/-- Device `c`'s barrier semaphore. -/
abbrev barC (c : Dev nD) : GSem nD τ sig := ((c : Thread nD τ), .reg (sig.barrier 0 rfl))

/-- Device `c`'s semaphore of a direction's credits. -/
abbrev crC (b : Bool) (c : Dev nD) : GSem nD τ sig := ((c : Thread nD τ), .reg (crs b).sem)

/-- Device `c`'s semaphore of the sends from slot `p`. -/
abbrev sC (b : Bool) (c : Dev nD) (p : Fin 2) : GSem nD τ sig := ((c : Thread nD τ), .dma (semOf (ssem b) p))

/-- Device `c`'s semaphore of the arrivals in slot `p`. -/
abbrev rC (b : Bool) (c : Dev nD) (p : Fin 2) : GSem nD τ sig := ((c : Thread nD τ), .dma (semOf (rsem b) p))

/-- Device `c`'s semaphore of sending its maximum to device `j`. -/
abbrev asC (c : Dev nD) (j : Fin 32) : GSem nD τ sig := ((c : Thread nD τ), .dma (cellOf cc0_scratch11 j))

/-- Device `c`'s semaphore of the arrival of device `j`'s maximum. -/
abbrev arC (c : Dev nD) (j : Fin 32) : GSem nD τ sig := ((c : Thread nD τ), .dma (cellOf cc0_scratch12 j))

/-- What a semaphore is for. -/
inductive Use where
  | none
  | bar
  | cr (b : Bool)
  | snd (b : Bool) (p : Fin 2)
  | rcv (b : Bool) (p : Fin 2)
  | asnd (j : Fin 32)
  | arcv (j : Fin 32)
  deriving DecidableEq

/-- The use of each semaphore. -/
def useOf : SemLoc sig → Use
  | .reg n => if n.val = 0 then .cr true else if n.val = 1 then .cr false else .bar
  | .dma n => if n.val < 6 then .none
    else if n.val < 8 then .snd true ⟨(n.val - 6) % 2, Nat.mod_lt _ two_pos⟩
    else if n.val < 10 then .rcv true ⟨(n.val - 8) % 2, Nat.mod_lt _ two_pos⟩
    else if n.val < 12 then .snd false ⟨(n.val - 10) % 2, Nat.mod_lt _ two_pos⟩
    else if n.val < 14 then .rcv false ⟨(n.val - 12) % 2, Nat.mod_lt _ two_pos⟩
    else if n.val < 46 then .asnd ⟨(n.val - 14) % 32, Nat.mod_lt _ (by decide)⟩
    else .arcv ⟨(n.val - 46) % 32, Nat.mod_lt _ (by decide)⟩

/-- The barrier semaphore is used as the barrier. -/
theorem use_bar : useOf (.reg (sig.barrier 0 rfl)) = .bar := by decide

/-- A direction's credit semaphore is used for its credits. -/
theorem use_cr : ∀ b, useOf (.reg (crs b).sem) = .cr b := by decide

/-- A slot's send semaphore is used for its sends. -/
theorem use_snd : ∀ b p, useOf (.dma (semOf (ssem b) p)) = .snd b p := by decide

/-- A slot's arrival semaphore is used for its arrivals. -/
theorem use_rcv : ∀ b p, useOf (.dma (semOf (rsem b) p)) = .rcv b p := by decide

/-- The semaphore of a maximum's send is used for that send. -/
theorem use_asnd : ∀ j, useOf (.dma (cellOf cc0_scratch11 j)) = .asnd j := by decide

/-- The semaphore of a maximum's arrival is used for that arrival. -/
theorem use_arcv : ∀ j, useOf (.dma (cellOf cc0_scratch12 j)) = .arcv j := by decide

/-- How many messages a direction has. -/
abbrev hops (b : Bool) : ℕ := bif b then 16 else 15

/-- How many of a direction's messages wait for a credit. -/
abbrev creds (b : Bool) : ℕ := bif b then 14 else 13

/-- The units one message credits. -/
abbrev N : ℕ := (slot (Memref.whole cc0_scratch0) 0).view.dmaCredit

/-- The units one maximum credits. -/
abbrev Na : ℕ := (Memref.whole cc0_stg5_0 : Memref sig .tc .vmem S1x1 .f32).view.dmaCredit

/-- A message credits something. -/
theorem N_pos : 0 < N := View.dmaCredit_pos _ (by decide)

/-- A maximum credits something. -/
theorem Na_pos : 0 < Na := View.dmaCredit_pos _ (by decide)

/-- A copy of any slot credits what one message credits. -/
theorem credit_slot (m : Memref sig .tc .vmem S2x128x8192 .bf16) (p : Fin 2) : (slot m p).view.dmaCredit = N := rfl

/-- A copy to any entry of the buffer of maxima credits what one maximum credits. -/
theorem credit_max (m : Memref sig .tc .vmem S32x1x1 .f32) (j : Fin 32) : (maxOf m j).view.dmaCredit = Na := rfl

/-! ## Values -/

section Values

variable (X : Dev nD → Vec F S4096x128 .bf16) (Wt : Dev nD → Vec F S128x8192 .bf16)

/-- The block of rows of `x` that sums to a device's block. -/
def blkOf (x : Vec F S4096x128 .bf16) (e : Dev nD) : Vec F S128x128 .bf16 :=
  ((Memref.whole cc0_stg0_0 : Memref sig .tc .vmem S4096x128 .bf16).access (Rect.unit (s := S4096x128) (rowsAt e) S128x128.size (rowsAt_inb e))).read (Elt F) x

/-- Device `c`'s share of device `e`'s block. -/
def share (c e : Dev nD) : FVec F S128x8192 .f32 := part (blkOf (X c) e) (Wt c)

/-- The running sum device `c` sends at a hop. -/
def acc (b : Bool) : Dev nD → ℕ → FVec F S128x8192 .f32
  | c, 0 => share X Wt c (tgt b c 0)
  | c, s + 1 => next (share X Wt c (tgt b c (s + 1))) (pack (acc b (nb (!b) c) s))

/-- The message device `c` sends at a hop. -/
def msg (b : Bool) (c : Dev nD) (s : ℕ) : Vec F S1x128x8192 .bf16 := pack (acc X Wt b c s)

/-- Device `c`'s block of the product. -/
def block (c : Dev nD) : FVec F S128x8192 .f32 :=
  total (share X Wt c c) (msg X Wt true (nb false c) 15) (msg X Wt false (nb true c) 14)

/-- Its largest absolute value. -/
def peak (c : Dev nD) : Vec F S1x1 .f32 := amaxOf (block X Wt c)

/-- A maximum as an entry of the buffer of maxima. -/
def entry (a : Vec F S1x1 .f32) : Vec F S1x1x1 .f32 :=
  fun x => a ((Shape.reshapeEquiv (s := S1x1x1) (s' := S1x1) squeezes_S1x1x1_S1x1.numel_eq).symm x)

/-- The maximum over the devices below `n`, and the device's own. -/
def peaks (c : Dev nD) : ℕ → FVec F S1x1 .f32
  | 0 => k0_pay98 (peak X Wt c)
  | n + 1 => maxStep (me c) (k0_pay98 (peak X Wt c)) n (peaks c n)
      (entry (peak X Wt ⟨n % 32, Nat.mod_lt _ (by decide)⟩))

/-- What the kernel leaves: the block quantised at the scale of the maximum over the devices. -/
def result (c : Dev nD) : FVec F S128x8192 .f32 := quant (peaks X Wt c 32) (block X Wt c)

end Values

/-! ## Slots -/

/-- Slot `p` of a two-slot buffer, as a load or a store addresses it. -/
abbrev slotView (m : Memref sig .tc .vmem S2x128x8192 .bf16) (p : Fin 2) : View sig .tc .vmem S1x128x8192 .bf16 :=
  m.access (Rect.unit (s := S2x128x8192) (slotAt p) S1x128x8192.size (slotAt_inb p))

/-- Entry `j` of the buffer of maxima, as a load addresses it. -/
abbrev maxView (j : Fin 32) : View sig .tc .vmem S1x1x1 .f32 :=
  mbuf.access (Rect.unit (s := S32x1x1) (![j.val, 0, 0] : Fin 3 → ℕ) S1x1x1.size (maxAt_inb j))

/-- A part of a buffer at contents not named. -/
def free {s : Shape} {e : EltTy} (v : View sig .tc .vmem s e) (c : Dev nD) : sProp 𝕄 :=
  Release.slot (v.loc (c : Thread nD τ)) v.set

/-- A part of a buffer that reads as `x`. -/
def has {s : Shape} {e : EltTy} (v : View sig .tc .vmem s e) (c : Dev nD) (x : Vec F s e) : sProp 𝕄 :=
  iprop(∃ f, ⌜v.read (Elt F) f = x⌝ ∗ (v.loc (c : Thread nD τ)) ↦[v.set]{fullShare} f)

/-- A part of a buffer at known contents is one at some contents. -/
theorem has_free {s : Shape} {e : EltTy} (v : View sig .tc .vmem s e) (c : Dev nD) (x : Vec F s e) :
    (has v c x : sProp 𝕄) ⊢ free v c := by
  unfold has free Release.slot
  iintro ⟨%f, -, H⟩; iexists f; iexact H

/-- A part of a buffer at some contents may lie in an invariant. -/
instance free_storable {s : Shape} {e : EltTy} (v : View sig .tc .vmem s e) (c : Dev nD) :
    BI.Storable (upEmb : UEmb _ 𝕄) (free (F := F) v c) := by unfold free; infer_instance

/-- A part of a buffer at known contents may lie in an invariant. -/
instance has_storable {s : Shape} {e : EltTy} (v : View sig .tc .vmem s e) (c : Dev nD) (x : Vec F s e) :
    BI.Storable (upEmb : UEmb _ 𝕄) (has v c x) := by unfold has; infer_instance

/-- The slot a key names. -/
def slotOf (k : Key) : sProp 𝕄 :=
  match k.2 with
  | .inl (b, p) => free (slotView (rbuf b) p) k.1
  | .inr j => free (maxView j) k.1

/-- The slot a key names may lie in an invariant. -/
instance slotOf_storable (k : Key) : BI.Storable (upEmb : UEmb _ 𝕄) (slotOf (F := F) k) := by
  unfold slotOf; split <;> infer_instance

/-- The key of slot `p` that device `c` receives into. -/
abbrev ringKey (b : Bool) (c : Dev nD) (p : Fin 2) : Key := (c, .inl (b, p))

/-- The key of device `c`'s entry for the maximum of device `j`. -/
abbrev maxKey (c : Dev nD) (j : Fin 32) : Key := (c, .inr j)

/-! ## What devices tell each other -/

/-- Device `c` is ready for message `s` of a direction. -/
def readyAt (b : Bool) (c : Dev nD) (s : ℕ) : sProp 𝕄 :=
  iprop(Release.released ES (ringKey b c (par s)) (s / 2 + 1) ∗ reached ER (rC b c (par s)) (s / 2))

/-- Device `c` is in the kernel: its slots are there to be written and its semaphores count from zero. -/
def hello (c : Dev nD) : sProp 𝕄 :=
  iprop((readyAt true c 0 ∗ readyAt true c 1) ∗ (readyAt false c 0 ∗ readyAt false c 1)
    ∗ (reached ER (crC true c) 0 ∗ reached ER (crC false c) 0)
    ∗ bigSep Finset.univ fun j : Fin 32 => iprop(Release.released ES (maxKey c j) 1 ∗ reached ER (arC c j) 0))

/-- The credit of message `d`: the receiver is ready for two messages more. -/
def freed (b : Bool) (c : Dev nD) (d : ℕ) : sProp 𝕄 := bigSep (Finset.range (d + 3)) (readyAt b c)

/-- That a device is ready for a message stays true. -/
instance readyAt_persistent (b : Bool) (c : Dev nD) (s : ℕ) : BI.Persistent (readyAt (F := F) b c s) := by
  unfold readyAt; infer_instance

/-- That a device is in the kernel stays true. -/
instance hello_persistent (c : Dev nD) : BI.Persistent (hello (F := F) c) := by unfold hello; infer_instance

/-- What a credit says stays true. -/
instance freed_persistent (b : Bool) (c : Dev nD) (d : ℕ) : BI.Persistent (freed (F := F) b c d) := by unfold freed; infer_instance

/-- That a device is ready for a message may lie in an invariant. -/
instance readyAt_storable (b : Bool) (c : Dev nD) (s : ℕ) : BI.Storable (upEmb : UEmb _ 𝕄) (readyAt (F := F) b c s) := by
  unfold readyAt; infer_instance

/-- That a device is in the kernel may lie in an invariant. -/
instance hello_storable (c : Dev nD) : BI.Storable (upEmb : UEmb _ 𝕄) (hello (F := F) c) := by unfold hello; infer_instance

/-- What a credit says may lie in an invariant. -/
instance freed_storable (b : Bool) (c : Dev nD) (d : ℕ) : BI.Storable (upEmb : UEmb _ 𝕄) (freed (F := F) b c d) := by
  unfold freed; infer_instance

/-! ## The schedule -/

section Schedule

variable (X : Dev nD → Vec F S4096x128 .bf16) (Wt : Dev nD → Vec F S128x8192 .bf16)

/-- A device's own maximum, in the staging buffer of the second result: the share lent to send `j`. -/
def lent (c : Dev nD) (j : Fin 32) : sProp 𝕄 :=
  (abuf.view.loc (c : Thread nD τ)) ↦[abuf.view.set]{ShareLeaves.leaf 5 fullShare j} peak X Wt c

/-- What the arrival of message `s` hands the receiver `c`: the slot filled, and what the sender has heard. -/
def arrival (b : Bool) (c : Dev nD) (s : ℕ) : sProp 𝕄 :=
  iprop(has (slotView (rbuf b) (par s)) c (msg X Wt b (nb (!b) c) s) ∗ Release.heard hello (kn b (nb (!b) c) s))

/-- The duties of a round. -/
def dutiesAt (c : Dev nD) : Use → ℕ → Finset ℕ
  | .none, _ => ∅
  | .bar, r => if r = 0 then {0, 1} else ∅
  | .cr b, r => if r = 0 then Finset.range (creds b) else ∅
  | .snd b p, r => if 2 * r + p.val < hops b then {0} else ∅
  | .rcv b p, r => if 2 * r + p.val < hops b then {0} else ∅
  | .asnd j, r => if r = 0 ∧ j ≠ (c : Fin 32) then {0} else ∅
  | .arcv j, r => if r = 0 ∧ j ≠ (c : Fin 32) then {0} else ∅

/-- The units of a duty. -/
def amountAt : Use → ℕ
  | .none | .bar | .cr _ => 1
  | .snd _ _ | .rcv _ _ => N
  | .asnd _ | .arcv _ => Na

/-- What a duty hands the owner. -/
def payAt (c : Dev nD) : Use → ℕ → ℕ → sProp 𝕄
  | .none, _, _ => iprop(emp)
  | .bar, _, d => hello (nb (decide (d = 1)) c)
  | .cr b, _, d => freed b (nb b c) d
  | .snd b p, _, _ => free (slotView (sbuf b) p) c
  | .rcv b p, r, _ => arrival X Wt b c (2 * r + p.val)
  | .asnd j, _, _ => lent X Wt c j
  | .arcv j, _, _ => has (maxView j) c (entry (peak X Wt (j : Dev nD)))

/-- Every duty adds a positive amount to its semaphore. -/
theorem amountAt_pos (u : Use) : 0 < amountAt u := by
  cases u <;> first | exact Nat.one_pos | exact N_pos | exact Na_pos

/-- The rounds of every semaphore. -/
def Rd : Rounds.Schedule (GSem nD τ sig) ℕ 𝕄 where
  duties g r := if g.1.2 = .tc then dutiesAt g.1.1 (useOf g.2) r else ∅
  unitless _ := False
  amount g _ _ := amountAt (useOf g.2)
  payload g r d := payAt X Wt g.1.1 (useOf g.2) r d
  amount_pos g _ _ _ := amountAt_pos _

/-- What any duty hands over may lie in an invariant. -/
instance payload_storable (g : GSem nD τ sig) (r d : ℕ) : BI.Storable (upEmb : UEmb _ 𝕄) ((Rd X Wt).payload g r d) := by
  show BI.Storable (upEmb : UEmb _ 𝕄) (payAt X Wt g.1.1 (useOf g.2) r d)
  unfold payAt arrival lent
  split <;> infer_instance

/-- The duties of a semaphore's round, told from its use. -/
theorem duties_tc (c : Dev nD) (sm : SemLoc sig) (r : ℕ) :
    (Rd X Wt).duties ((c : Thread nD τ), sm) r = dutiesAt c (useOf sm) r := by
  dsimp only [Rd]; exact if_pos rfl

/-- The amount of a semaphore's duty, told from its use. -/
theorem amount_tc (c : Dev nD) (sm : SemLoc sig) (r d : ℕ) : (Rd X Wt).amount ((c : Thread nD τ), sm) r d = amountAt (useOf sm) := rfl

/-- What a semaphore's duty hands over, told from its use. -/
theorem payload_tc (c : Dev nD) (sm : SemLoc sig) (r d : ℕ) :
    (Rd X Wt).payload ((c : Thread nD τ), sm) r d = payAt X Wt c (useOf sm) r d := rfl

/-- What a semaphore counts to in a round: its duties times their amount. -/
theorem expect_tc (c : Dev nD) (sm : SemLoc sig) (r : ℕ) :
    (Rd X Wt).expect ((c : Thread nD τ), sm) r = (dutiesAt c (useOf sm) r).card * amountAt (useOf sm) := by
  unfold Schedule.expect Schedule.amountOf
  rw [duties_tc, Finset.sum_congr rfl (fun d _ => amount_tc X Wt c sm r d), Finset.sum_const, smul_eq_mul]

/-- The rounds after which a semaphore owes nothing more. -/
def ends (c : Dev nD) : Use → ℕ
  | .none => 0
  | .bar | .cr _ => 1
  | .snd b p | .rcv b p => (hops b + 1 - p.val) / 2
  | .asnd j | .arcv j => if j = (c : Fin 32) then 0 else 1

/-- After a semaphore's last round there are no duties. -/
theorem duties_end (c : Dev nD) (sm : SemLoc sig) (r : ℕ) (h : ends c (useOf sm) ≤ r) :
    (Rd X Wt).duties ((c : Thread nD τ), sm) r = ∅ := by
  rw [duties_tc]
  revert h
  generalize useOf sm = u
  intro h
  cases u <;> simp only [ends, dutiesAt] at h ⊢
  · exact if_neg (by omega)
  · exact if_neg (by omega)
  · exact if_neg (by omega)
  · exact if_neg (by omega)
  · split at h
    · next e => exact if_neg fun hh => hh.2 e
    · exact if_neg (by omega)
  · split at h
    · next e => exact if_neg fun hh => hh.2 e
    · exact if_neg (by omega)

end Schedule

/-! ## Debts -/

/-- What a device owes: a unit to a neighbour's barrier, a message, a credit, its maximum to another device. -/
inductive Debt where
  | bar (b : Bool)
  | msg (b : Bool) (s : Fin 16)
  | cred (b : Bool) (d : Fin 14)
  | peak (j : Fin 32)
  deriving DecidableEq

/-- Debts by kind. -/
abbrev DebtIx : Type := Bool ⊕ (Bool × Fin 16) ⊕ (Bool × Fin 14) ⊕ Fin 32

/-- A debt as one of its kind. -/
def debtEquiv : DebtIx ≃ Debt where
  toFun | .inl b => .bar b | .inr (.inl x) => .msg x.1 x.2 | .inr (.inr (.inl x)) => .cred x.1 x.2 | .inr (.inr (.inr j)) => .peak j
  invFun | .bar b => .inl b | .msg b s => .inr (.inl (b, s)) | .cred b d => .inr (.inr (.inl (b, d))) | .peak j => .inr (.inr (.inr j))
  left_inv x := by rcases x with b | ⟨b, s⟩ | ⟨b, d⟩ | j <;> rfl
  right_inv x := by cases x <;> rfl

/-- There are finitely many debts. -/
instance : Fintype Debt := Fintype.ofEquiv DebtIx debtEquiv

/-- The semaphore a debt is owed to. -/
def Debt.cell (c : Dev nD) : Debt → GSem nD τ sig
  | .bar b => barC (nb b c)
  | .msg b s => rC b (nb b c) (par s)
  | .cred b _ => crC b (nb (!b) c)
  | .peak j => arC (j : Dev nD) (c : Fin 32)

/-- The name under which it is owed there. -/
def Debt.ix : Debt → ℕ
  | .bar _ => 0
  | .msg _ s => s
  | .cred _ d => d
  | .peak _ => 0

/-- Its units. -/
def Debt.amt : Debt → ℕ
  | .bar _ => 1
  | .msg _ _ => N
  | .cred _ _ => 1
  | .peak _ => Na

/-- When it is due. -/
def Debt.due : Debt → ℕ
  | .bar _ => 1
  | .msg _ s => 2 * s + 2
  | .cred _ d => 2 * d + 3
  | .peak _ => 100

/-- The debts there are. -/
def Debt.real (c : Dev nD) : Debt → Bool
  | .bar _ => true
  | .msg b s => decide (s.val < hops b)
  | .cred b d => decide (d.val < creds b)
  | .peak j => decide (j ≠ (c : Fin 32))

/-- A set of debts as tallies. -/
def owing (c : Dev nD) (T : Finset Debt) : CellTallies nD τ sig ℕ := ∑ x ∈ T, tallyAt (x.cell c) x.ix x.amt

/-- What a set of debts owes is what one of them owes and what the others owe. -/
theorem owing_erase (c : Dev nD) {T : Finset Debt} {x : Debt} (h : x ∈ T) :
    owing c T = owing c (T.erase x) + tallyAt (x.cell c) x.ix x.amt := (Finset.sum_erase_add T _ h).symm

/-- No debts owe nothing. -/
theorem owing_empty (c : Dev nD) : owing c ∅ = 0 := Finset.sum_empty

/-- Whatever is owed is owed by one of the debts. -/
theorem owing_pos (c : Dev nD) (T : Finset Debt) (g : GSem nD τ sig) (i : ℕ) (h : 0 < owing c T g i) :
    ∃ x ∈ T, g = x.cell c ∧ i = x.ix := by
  by_contra hn
  push Not at hn
  refine absurd h (Nat.not_lt.mpr (Nat.le_of_eq ?_))
  unfold owing
  rw [Finset.sum_apply, Finsupp.finset_sum_apply]
  refine Finset.sum_eq_zero fun x hx => ?_
  rw [tallyAt_apply]
  exact if_neg fun hh => hn x hx hh.1 hh.2

/-- The names in use. -/
def L (g : GSem nD τ sig) : Finset ℕ := if g.1.2 = .tc then Finset.range 16 else ∅

/-- When a name is due, by the semaphore's use. -/
def dueAt : Use → ℕ → ℕ
  | .bar, _ => 1
  | .rcv _ _, i => 2 * i + 2
  | .cr _, i => 2 * i + 3
  | .arcv _, _ => 100
  | _, _ => 0

/-- The moment at which a semaphore's unit of a name is due. -/
def lv (g : GSem nD τ sig) (i : ℕ) : ℕ := dueAt (useOf g.2) i

/-- The names a device's semaphore may be waited for under are the first sixteen. -/
theorem L_tc (c : Dev nD) (sm : SemLoc sig) : L ((c : Thread nD τ), sm) = Finset.range 16 := if_pos rfl

/-- A semaphore of no device's own thread has no names. -/
theorem L_of_ne (g : GSem nD τ sig) (h : g.1.2 ≠ .tc) : L g = ∅ := if_neg h

/-- The moment of a debt's semaphore and name is the moment the debt is due. -/
theorem lv_debt (c : Dev nD) (x : Debt) : lv (x.cell c) x.ix = x.due := by
  unfold lv
  cases x <;> simp only [Debt.cell, Debt.ix, Debt.due]
  · rw [use_bar]; rfl
  · rw [use_rcv]; rfl
  · rw [use_cr]; rfl
  · rw [use_arcv]; rfl

/-- A debt's name is below sixteen. -/
theorem ix_lt (x : Debt) : x.ix < 16 := by
  cases x <;> simp only [Debt.ix] <;> omega

/-- A debt's name is one its semaphore may be waited for under. -/
theorem ix_mem (c : Dev nD) (x : Debt) : x.ix ∈ L (x.cell c) := by
  have h : L (x.cell c) = Finset.range 16 := by cases x <;> exact L_tc _ _
  rw [h]; exact Finset.mem_range.mpr (ix_lt x)

/-- A wait on names due at most at `n` is below debts due later. -/
theorem mayOwe (c : Dev nD) (T : Finset Debt) (n : ℕ) (Ws : Waits sig ℕ)
    (hW : ∀ p ∈ Ws, p.2 < 16 ∧ dueAt (useOf p.1) p.2 ≤ n) (hT : ∀ x ∈ T, n < x.due) :
    (levAts L lv : sProp 𝕄) ⊢ MayOwe (c : Thread nD τ) Ws (owing c T) :=
  MayOwe.of_cut (L := L) (lev := lv) n (fun p hp => by rw [L_tc]; exact Finset.mem_range.mpr (hW p hp).1)
    (fun g i h => by
      obtain ⟨x, -, rfl, rfl⟩ := owing_pos c T g i h
      exact ix_mem c x)
    (fun p hp => (hW p hp).2)
    (fun g i h => by
      obtain ⟨x, hx, rfl, rfl⟩ := owing_pos c T g i h
      rw [lv_debt]; exact hT x hx)

/-- What a device still owes from hop `s` on. -/
def rem (c : Dev nD) (n : ℕ) : Finset Debt := Finset.univ.filter fun x => x.real c = true ∧ n ≤ x.due

end Cert.KernelIdeal

end
-- ==== Proof.World.lean ====
module

public import proofs.«01_k».proof.Proof.Proto

@[expose] public section

/-!
# The invariants

All semaphores' and slots' invariants together, known to every device.
-/

noncomputable section

namespace Cert.KernelIdeal

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen

variable {F : FTy → Type} [FloatOps F]

local notation "𝕄" => MT nD τ sig ℕ (Elt F) ℕ UT ℕ

/-- The kernel's own semaphores, by kind. -/
abbrev Own : Type := Bool ⊕ (Bool × Fin 2) ⊕ (Bool × Fin 2) ⊕ Fin 32 ⊕ Fin 32

/-- The semaphore that each of a device's own uses has. -/
def osem : Own → SemLoc sig
  | .inl b => .reg (crs b).sem
  | .inr (.inl x) => .dma (semOf (ssem x.1) x.2)
  | .inr (.inr (.inl x)) => .dma (semOf (rsem x.1) x.2)
  | .inr (.inr (.inr (.inl j))) => .dma (cellOf cc0_scratch11 j)
  | .inr (.inr (.inr (.inr j))) => .dma (cellOf cc0_scratch12 j)

/-- The use of an own semaphore. -/
def ownUse : Own → Use
  | .inl b => .cr b
  | .inr (.inl x) => .snd x.1 x.2
  | .inr (.inr (.inl x)) => .rcv x.1 x.2
  | .inr (.inr (.inr (.inl j))) => .asnd j
  | .inr (.inr (.inr (.inr j))) => .arcv j

/-- That semaphore is used as said. -/
theorem use_osem (k : Own) : useOf (osem k) = ownUse k := by
  rcases k with b | ⟨b, p⟩ | ⟨b, p⟩ | j | j
  exacts [use_cr b, use_snd b p, use_rcv b p, use_asnd j, use_arcv j]

/-- Different semaphores of a device have different uses. -/
theorem ownUse_inj : Function.Injective ownUse := by
  rintro (b | ⟨b, p⟩ | ⟨b, p⟩ | j | j) (b' | ⟨b', p'⟩ | ⟨b', p'⟩ | j' | j') h <;> simp only [ownUse, Use.cr.injEq, Use.snd.injEq, Use.rcv.injEq, Use.asnd.injEq, Use.arcv.injEq, reduceCtorEq] at h
  · rw [h]
  · rw [h.1, h.2]
  · rw [h.1, h.2]
  · rw [h]
  · rw [h]

/-- Different uses have different semaphores. -/
theorem osem_inj : Function.Injective osem := fun a b h => ownUse_inj (by rw [← use_osem, ← use_osem, h])

/-- Every device's barrier; every device's own semaphores. -/
def bars : Finset (GSem nD τ sig) := Finset.univ.map ⟨fun c : Dev nD => barC c, fun a b h => by
  have := congrArg (fun g : GSem nD τ sig => g.1.1) h; exact this⟩

/-- All devices' semaphores beside the barrier's. -/
def owns : Finset (GSem nD τ sig) := Finset.univ.map ⟨fun x : Dev nD × Own => (((x.1 : Dev nD) : Thread nD τ), osem x.2), fun a b h => by
  have h1 : a.1 = b.1 := congrArg (fun g : GSem nD τ sig => g.1.1) h
  have h2 : osem a.2 = osem b.2 := congrArg (fun g : GSem nD τ sig => g.2) h
  exact Prod.ext h1 (osem_inj h2)⟩

/-- A device's barrier semaphore is one of the protocol's. -/
theorem mem_bar (c : Dev nD) : barC c ∈ bars ∪ owns := Finset.mem_union_left _ (Finset.mem_map.mpr ⟨c, Finset.mem_univ _, rfl⟩)

/-- Each of a device's own semaphores is one of the protocol's. -/
theorem mem_own (c : Dev nD) (k : Own) : (((c : Thread nD τ), osem k) : GSem nD τ sig) ∈ bars ∪ owns :=
  Finset.mem_union_right _ (Finset.mem_map.mpr ⟨(c, k), Finset.mem_univ _, rfl⟩)

/-- The semaphores of the credits are the protocol's. -/
theorem mem_cr (b : Bool) (c : Dev nD) : crC b c ∈ bars ∪ owns := mem_own c (.inl b)

/-- The semaphores of the sends are the protocol's. -/
theorem mem_snd (b : Bool) (c : Dev nD) (p : Fin 2) : sC b c p ∈ bars ∪ owns := mem_own c (.inr (.inl (b, p)))

/-- The semaphores of the arrivals are the protocol's. -/
theorem mem_rcv (b : Bool) (c : Dev nD) (p : Fin 2) : rC b c p ∈ bars ∪ owns := mem_own c (.inr (.inr (.inl (b, p))))

/-- The semaphores of the maxima's sends are the protocol's. -/
theorem mem_asnd (c : Dev nD) (j : Fin 32) : asC c j ∈ bars ∪ owns := mem_own c (.inr (.inr (.inr (.inl j))))

/-- The semaphores of the maxima's arrivals are the protocol's. -/
theorem mem_arcv (c : Dev nD) (j : Fin 32) : arC c j ∈ bars ∪ owns := mem_own c (.inr (.inr (.inr (.inr j))))

section World

variable (X : Dev nD → Vec F S4096x128 .bf16) (Wt : Dev nD → Vec F S128x8192 .bf16)
variable (K : GSem nD τ sig → ℕ) (κ : Key → ℕ)

/-- Every semaphore's and every slot's invariant, and the levels of the names. -/
def world : sProp 𝕄 :=
  iprop(bigSep (bars ∪ owns) (fun g => cellInv ER (Rd X Wt) (K g) g)
    ∗ bigSep Finset.univ (fun k : Key => Release.slotInv ES (κ k) k (slotOf (F := F) k)) ∗ levAts L lv)

/-- The protocol's invariants stay true. -/
instance world_persistent : BI.Persistent (world X Wt K κ) := by unfold world; infer_instance

/-- The protocol's invariants hold each semaphore's. -/
theorem world_cell {g : GSem nD τ sig} (h : g ∈ bars ∪ owns) : world X Wt K κ ⊢ cellInv ER (Rd X Wt) (K g) g := by
  unfold world
  iintro ⟨H, -, -⟩
  have h2 : bigSep (bars ∪ owns) (fun g => cellInv ER (Rd X Wt) (K g) g) ⊢ (cellInv ER (Rd X Wt) (K g) g : sProp 𝕄) := bigSep_elim h
  iapply h2
  iexact H

/-- The protocol's invariants hold each slot's. -/
theorem world_slot (k : Key) : world X Wt K κ ⊢ Release.slotInv ES (κ k) k (slotOf (F := F) k) := by
  unfold world
  iintro ⟨-, H, -⟩
  have h2 : bigSep Finset.univ (fun k : Key => Release.slotInv ES (κ k) k (slotOf (F := F) k)) ⊢ (Release.slotInv ES (κ k) k (slotOf (F := F) k) : sProp 𝕄) :=
    bigSep_elim (Finset.mem_univ k)
  iapply h2
  iexact H

end World

end Cert.KernelIdeal

end
-- ==== Proof.Steps.lean ====
module

public import proofs.«01_k».proof.Proof.World

@[expose] public section

/-!
# The steps of a hop

Each step of the ring as a rule: what it takes and what it leaves.
-/

noncomputable section

namespace Cert.KernelIdeal

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen

variable {F : FTy → Type} [FloatOps F]

local notation "𝕄" => MT nD τ sig ℕ (Elt F) ℕ UT ℕ

/-- No loop needs a variant. -/
abbrev 𝒱₀ : Variants := Variants.none

/-- The staging buffer of a device's columns of `x`. -/
abbrev xbuf : Memref sig .tc .vmem S4096x128 .bf16 := Memref.whole cc0_stg0_0

/-- The staging buffer of a device's rows of `w`. -/
abbrev wbuf : Memref sig .tc .vmem S128x8192 .bf16 := Memref.whole cc0_stg1_0

/-- The staging buffer of the table of the devices around the ring. -/
abbrev pbuf : Memref sig .tc .smem S32 .i32 := Memref.whole cc0_stg2_0

/-- The staging buffer of the table of the devices' places. -/
abbrev ibuf : Memref sig .tc .smem S32 .i32 := Memref.whole cc0_stg3_0

/-- A whole staging buffer at its contents. -/
abbrev at' (c : Dev nD) (b : Ref sig .tc) (f : b.ty.Contents (Elt F)) : sProp 𝕄 := ((c : Thread nD τ).loc b) ↦{fullShare} f

/-- The table of the devices around the ring. -/
def permTab : Vec F S32 .i32 := fun i => lit0 (S32.rowMajor i)

/-- The table of the devices' places in the ring. -/
def invTab : Vec F S32 .i32 := fun i => lit1 (S32.rowMajor i)

section

variable (X : Dev nD → Vec F S4096x128 .bf16) (Wt : Dev nD → Vec F S128x8192 .bf16)

/-- The operands staged on a device. -/
def ops (c : Dev nD) : sProp 𝕄 :=
  iprop(at' c cc0_stg0_0 (X c) ∗ at' c cc0_stg1_0 (Wt c) ∗ at' c cc0_stg2_0 (permTab (F := F)) ∗ at' c cc0_stg3_0 (invTab (F := F)))

/-- An index of a table is its own place in it. -/
theorem row_val (x : S32.Idx) : (S32.rowMajor x : ℕ) = x 0 := by
  show ((Shape.rowMajorPi S32.size x : Fin _) : ℕ) = x 0
  rw [Shape.rowMajorPi_succ_val]
  simp [Shape.rowMajorPi, Shape.rankPi]

/-- The one entry read at an offset is the one at that offset. -/
theorem tab_index (off : Fin 1 → ℕ) (h : ∀ a, off a + S1.size a ≤ S32.size a) (j : (Rect.unit (s := S32) off S1.size h).shape.Idx) :
    S32.rowMajor ((Rect.unit (s := S32) off S1.size h).emb j) = ⟨off 0 % 32, Nat.mod_lt _ (by decide)⟩ := by
  have h0 : off 0 + 1 ≤ 32 := h 0
  have hj : (j 0).val = 0 := Nat.lt_one_iff.mp (j 0).isLt
  apply Fin.ext
  rw [row_val]
  have he : (((Rect.unit (s := S32) off S1.size h).emb j) 0 : ℕ) = off 0 + (j 0).val := by simp [Rect.unit, Rect.emb]
  rw [he, hj]
  show off 0 + 0 = off 0 % 32
  omega

/-- A read of the ring's table gives the word it holds at that offset. -/
theorem perm_read (off : Fin 1 → ℕ) (h : ∀ a, off a + S1.size a ≤ S32.size a) (j : (Rect.unit (s := S32) off S1.size h).shape.Idx) :
    (pbuf.access (Rect.unit (s := S32) off S1.size h)).read (Elt F) (permTab (F := F)) j = wordAt off := by
  rw [View.read_apply]
  show lit0 (S32.rowMajor ((Rect.unit (s := S32) off S1.size h).emb j)) = _
  rw [tab_index]; rfl

/-- A read of all of `w` gives all of it. -/
theorem w_read (w : Vec F S128x8192 .bf16) :
    (wbuf.access (Rect.unit (s := S128x8192) ![0, 0] S128x8192.size inb_S128x8192_S128x8192_0_0)).read (Elt F) w = w := by
  funext i
  rw [View.read_apply]
  show w ((Rect.unit (s := S128x8192) ![0, 0] S128x8192.size inb_S128x8192_S128x8192_0_0).emb i) = w i
  congr 1
  funext a
  apply Fin.ext
  fin_cases a <;> simp [Rect.unit, Rect.emb]

/-- A read of `x` at a device's first row gives that device's block of rows. -/
theorem blk_read (x : Vec F S4096x128 .bf16) (e : Dev nD) (o : Fin 2 → ℕ) (h : ∀ a, o a + S128x128.size a ≤ S4096x128.size a) (ho : o = rowsAt e) :
    (xbuf.access (Rect.unit (s := S4096x128) o S128x128.size h)).read (Elt F) x = blkOf x e := by
  subst ho; rfl

/-- The share a hop computes is the device's share of the block the table names. -/
theorem wp_part (c : Dev nD) (off : Fin 1 → ℕ) (h : ∀ a, off a + S1.size a ≤ S32.size a) (e : Dev nD)
    (hr : RowIn (wordAt off)) (he : rowOf (wordAt off) = rowsAt e) (Q : FVec F S128x8192 .f32 → sProp 𝕄) :
    iprop(ops X Wt c ∗ (ops X Wt c -∗ Q (share X Wt c e)))
      ⊢ wp frame (wpE (defs₀ (F := F)) 𝒱₀ c none) Set.univ (pPart xbuf wbuf pbuf off h) Q := by
  unfold ops share
  simp only [pPart, smemLoad, smemLoadElt, Prog.lift, Prog.bind_op, Prog.bind_ret]
  iintro ⟨⟨Hx, Hw, Hp, Hi⟩, HQ⟩
  iapply (wp_load_rect 𝒱₀ (c : Thread nD τ) none Set.univ (m := pbuf) (Finset.subset_univ _)) $$ [Hp]
  · iexact Hp
  iintro Hp
  rw [perm_read]
  rw [wp_assume_of 𝒱₀ (c : Thread nD τ) none Set.univ hr]
  iapply (wp_load_rect 𝒱₀ (c : Thread nD τ) none Set.univ (m := xbuf) (Finset.subset_univ _)) $$ [Hx]
  · iexact Hx
  iintro Hx
  erw [blk_read (X c) e _ _ he]
  iapply (wp_load_rect 𝒱₀ (c : Thread nD τ) none Set.univ (m := wbuf) (Finset.subset_univ _)) $$ [Hw]
  · iexact Hw
  iintro Hw
  rw [w_read, Prog.pure_eq_ret, wp_ret]
  imodintro
  iapply HQ
  isplitl [Hx]; · iexact Hx
  isplitl [Hw]; · iexact Hw
  isplitl [Hp]; · iexact Hp
  iexact Hi

/-- The last share a device computes is its share of its own block. -/
theorem wp_own (c : Dev nD) (Q : FVec F S128x8192 .f32 → sProp 𝕄) :
    iprop(ops X Wt c ∗ (ops X Wt c -∗ Q (share X Wt c c)))
      ⊢ wp frame (wpE (defs₀ (F := F)) 𝒱₀ c none) Set.univ (pOwn xbuf wbuf c) Q := by
  unfold ops share
  simp only [pOwn, Prog.lift, Prog.bind_op, Prog.bind_ret]
  iintro ⟨⟨Hx, Hw, Hp, Hi⟩, HQ⟩
  iapply (wp_load_rect 𝒱₀ (c : Thread nD τ) none Set.univ (m := xbuf) (Finset.subset_univ _)) $$ [Hx]
  · iexact Hx
  iintro Hx
  rw [blk_read (X c) c _ _ (off66_at c)]
  iapply (wp_load_rect 𝒱₀ (c : Thread nD τ) none Set.univ (m := wbuf) (Finset.subset_univ _)) $$ [Hw]
  · iexact Hw
  iintro Hw
  rw [w_read, Prog.pure_eq_ret, wp_ret]
  imodintro
  iapply HQ
  isplitl [Hx]; · iexact Hx
  isplitl [Hw]; · iexact Hw
  isplitl [Hp]; · iexact Hp
  iexact Hi

end

end Cert.KernelIdeal

end
-- ==== Proof.Talk.lean ====
module

public import proofs.«01_k».proof.Proof.Steps

@[expose] public section

/-!
# Messages and credits

The steps of the ring that cross devices, in either direction, as rules.
-/

noncomputable section

namespace Cert.KernelIdeal

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen

variable {F : FTy → Type} [FloatOps F]

local notation "𝕄" => MT nD τ sig ℕ (Elt F) ℕ UT ℕ

/-- A device's outstanding debts. -/
def debt (c : Dev nD) (T : Finset Debt) : sProp 𝕄 := iprop(∃ W, owes (c : Thread nD τ) (owing c T) W)

/-- What lands in a slot is what the sender's slot holds. -/
theorem deliver {ms mr : Memref sig .tc .vmem S2x128x8192 .bf16} (p : Fin 2) (fs : ms.view.ty.Contents (Elt F)) (fd : mr.view.ty.Contents (Elt F)) :
    (slotView mr p).read (Elt F) ((slot mr p).view.write (Elt F) fd ((slot ms p).view.read (Elt F) fs) Finset.univ)
      = (slotView ms p).read (Elt F) fs := by
  have h : (slot mr p).view.write (Elt F) fd ((slot ms p).view.read (Elt F) fs) Finset.univ
      = (slotView mr p).write (Elt F) fd (fun x => (slot ms p).view.read (Elt F) fs ((Shape.reshapeEquiv squeezes_S1x128x8192_S128x8192.numel_eq).symm x)) Finset.univ :=
    View.write_reshape_univ _ _ _ _
  rw [h, View.read_write_univ]
  funext x
  rw [View.read_apply, View.read_apply, View.emb_reshape]
  simp

/-- A slot covers the same places for a copy as for a load or a store. -/
theorem slot_set (m : Memref sig .tc .vmem S2x128x8192 .bf16) (p : Fin 2) : (slot m p).view.set = (slotView m p).set :=
  View.set_reshape _ _

/-- A message's number is twice its round, and its slot. -/
theorem par_round (s : ℕ) : 2 * (s / 2) + (par s).val = s := by
  show 2 * (s / 2) + s % 2 = s; omega

section

variable (X : Dev nD → Vec F S4096x128 .bf16) (Wt : Dev nD → Vec F S128x8192 .bf16)
variable (K : GSem nD τ sig → ℕ) (κ : Key → ℕ)

/-- A slot held for a load or a store is the slot held for a copy. -/
theorem slot_points (m : Memref sig .tc .vmem S2x128x8192 .bf16) (p : Fin 2) (c : Dev nD) (f : Buf (Elt F) ((slotView m p).loc (c : Thread nD τ))) :
    ((((slotView m p).loc (c : Thread nD τ)) ↦[(slotView m p).set]{fullShare} f : sProp 𝕄))
      = (((slot m p).view.loc (c : Thread nD τ)) ↦[(slot m p).view.set]{fullShare} f) := by
  rw [slot_set m p]

/-- The send of a message has one duty, in the message's round. -/
theorem duties_snd (b : Bool) (c : Dev nD) (s : ℕ) (hs : s < hops b) : (Rd X Wt).duties (sC b c (par s)) (s / 2) = {0} := by
  rw [duties_tc, use_snd]
  show (if 2 * (s / 2) + (par s).val < hops b then {0} else ∅) = _
  rw [par_round, if_pos hs]

/-- The arrival of a message has one duty, in the message's round. -/
theorem duties_rcv (b : Bool) (c : Dev nD) (s : ℕ) (hs : s < hops b) : (Rd X Wt).duties (rC b c (par s)) (s / 2) = {0} := by
  rw [duties_tc, use_rcv]
  show (if 2 * (s / 2) + (par s).val < hops b then {0} else ∅) = _
  rw [par_round, if_pos hs]

/-- The end of a send hands back the slot sent from. -/
theorem pay_snd (b : Bool) (c : Dev nD) (p : Fin 2) (r d : ℕ) :
    (Rd X Wt).payload (sC b c p) r d = free (slotView (sbuf b) p) c := by
  rw [payload_tc, use_snd]; rfl

/-- The arrival of a message hands over what arrives. -/
theorem pay_rcv (b : Bool) (c : Dev nD) (s d : ℕ) :
    (Rd X Wt).payload (rC b c (par s)) (s / 2) d = arrival X Wt b c s := by
  rw [payload_tc, use_rcv]
  show arrival X Wt b c (2 * (s / 2) + (par s).val) = _
  rw [par_round]

/-- What a device hands over to send message `s`. -/
def sendKit (b : Bool) (c : Dev nD) (s : ℕ) : sProp 𝕄 :=
  iprop(dutyTok ER (sC b c (par s)) (s / 2) 0 ∗ dutyTok ER (rC b (nb b c) (par s)) (s / 2) 0
    ∗ Release.writeTok ES (ringKey b (nb b c) (par s)) (s / 2 + 1))

/-- A slot free to be sent from, its last send over. -/
def sendReady (b : Bool) (c : Dev nD) (s : ℕ) : sProp 𝕄 :=
  iprop(free (slotView (sbuf b) (par s)) c ∗ atPos ER (sC b c (par s)) (s / 2) ∅ 0 ∗ reached ER (sC b c (par s)) (s / 2))

/-- A slot whose message is under way: its sender waits for round `r`. -/
def sending (b : Bool) (c : Dev nD) (p : Fin 2) (r : ℕ) : sProp 𝕄 :=
  iprop(cred (tallyAt (sC b c p) 0 N) ∗ atPos ER (sC b c p) r ∅ 0)

/-- The send itself, from a slot that holds the message. -/
theorem wp_push (b : Bool) (c : Dev nD) (s : Fin 16) (hs : s.val < hops b)
    (T : Finset Debt) (hT : Debt.msg b s ∈ T) (fs : Buf (Elt F) ((slotView (sbuf b) (par s)).loc (c : Thread nD τ)))
    (hfs : (slotView (sbuf b) (par s)).read (Elt F) fs = msg X Wt b c s) (Q : PUnit → sProp 𝕄) :
    iprop(world X Wt K κ ∗ readyAt b (nb b c) s ∗ Release.heard hello (kn b c s)
        ∗ (((slotView (sbuf b) (par s)).loc (c : Thread nD τ)) ↦[(slotView (sbuf b) (par s)).set]{fullShare} fs)
        ∗ (atPos ER (sC b c (par s)) (s / 2) ∅ 0 ∗ reached ER (sC b c (par s)) (s / 2)) ∗ sendKit b c s ∗ debt c T
        ∗ ((sending b c (par s) (s / 2) ∗ debt c (T.erase (.msg b s))) -∗ Q ⟨⟩))
      ⊢ wp frame (wpE (defs₀ (F := F)) 𝒱₀ c none) Set.univ
          (.op (.enqueueDma (slot (sbuf b) (par s)) (.remote (Dev.tc (nb b c)) (slot (rbuf b) (par s)) (.dma (semOf (ssem b) (par s))))
            (.dma (semOf (rsem b) (par s))) (slot_wordExact (sbuf_whole b) _) (slot_wordExact (rbuf_whole b) _) ⟨⟨rfl, Or.inl rfl⟩, trivial⟩) .ret) Q := by
  unfold sendKit sending debt readyAt
  iintro ⟨#Hw, ⟨#Hrel, #Hrr⟩, #Hh, Hs, ⟨Hat, #Hrs⟩, ⟨Hts, Htr, Hwt⟩, ⟨%W, HO⟩, HQ⟩
  imod (Release.slot_take ES (S := slotOf (F := F) (ringKey b (nb b c) (par s))) (Set.mem_univ (κ (ringKey b (nb b c) (par s)))) _) $$ [Hwt] with Hd
  · isplitr; · iapply (world_slot X Wt K κ _); iexact Hw
    isplitr; · iexact Hrel
    iexact Hwt
  unfold slotOf free Release.slot
  icases Hd with ⟨%fd, Hd⟩
  iapply (Rounds.wp_send_pointsTo_with 𝒱₀ ER (Rd X Wt) (c : Thread nD τ) none (c' := (nb b c : Thread nD τ)) (src := slot (sbuf b) (par s))
      (dst := slot (rbuf b) (par s)) (sS := .dma (semOf (ssem b) (par s))) (sem := .dma (semOf (rsem b) (par s))) (q := fullShare)
      (F := Release.heard hello (kn b c s))
      (κ₁ := K (sC b c (par s))) (κ₂ := K (rC b (nb b c) (par s))) (r₁ := s / 2) (r₂ := s / 2) (d₁ := 0) (d₂ := 0) (fs := fs) (fd := fd)
      (by rw [duties_snd X Wt b c s hs]; exact Finset.mem_singleton_self _)
      (by rw [duties_rcv X Wt b (nb b c) s hs]; exact Finset.mem_singleton_self _)
      s 0 N (credit_slot _ _) (by rw [amount_tc, use_snd]; rfl) (by rw [amount_tc, use_rcv]; rfl)
      (owing c (T.erase (.msg b s))) (owing_erase c hT) (W := W)
      (by
        rw [pay_snd, ← slot_points (sbuf b) (par s) c fs]
        unfold free Release.slot
        iintro H; iexists _; iexact H)
      (by
        rw [pay_rcv, ← slot_points (rbuf b) (par s) (nb b c)]
        unfold arrival has
        rw [nb_nb]
        iintro ⟨H, Hh⟩
        isplitl [H]
        · iexists _
          isplitr
          rotate_left
          · iexact H
          · ipureintro
            exact (deliver (par s) _ _).trans hfs
        · iexact Hh)) $$ [Hs Hd HO Hts Htr]
  · isplitr; · iapply (world_cell X Wt K κ (mem_snd b c (par s))); iexact Hw
    isplitr; · iapply (world_cell X Wt K κ (mem_rcv b (nb b c) (par s))); iexact Hw
    isplitl [Hs]; · rw [← slot_points (sbuf b) (par s) c fs]; iexact Hs
    isplitl [Hd]
    · isplitl [Hd]; · rw [← slot_points (rbuf b) (par s) (nb b c) fd]; iexact Hd
      iexact Hh
    isplitl [HO]; · iexact HO
    isplitl [Hts]; · iexact Hts
    isplitr; · iexact Hrs
    isplitl [Htr]; · iexact Htr
    iexact Hrr
  iintro ⟨Hc, HO⟩
  rw [wp_ret]
  imodintro
  iapply HQ
  isplitl [Hc Hat]
  · isplitl [Hc]; · iexact Hc
    iexact Hat
  iexists W; iexact HO

/-- A message stored and sent. -/
theorem wp_psend (b : Bool) (c : Dev nD) (s : Fin 16) (hs : s.val < hops b) (a : FVec F S128x8192 .f32) (ha : a = acc X Wt b c s)
    (T : Finset Debt) (hT : Debt.msg b s ∈ T) (p : Fin 2) (hp : p = par s) (Q : PUnit → sProp 𝕄) :
    iprop(world X Wt K κ ∗ readyAt b (nb b c) s ∗ Release.heard hello (kn b c s) ∗ sendReady b c s ∗ sendKit b c s ∗ debt c T
        ∗ ((sending b c (par s) (s / 2) ∗ debt c (T.erase (.msg b s))) -∗ Q ⟨⟩))
      ⊢ wp frame (wpE (defs₀ (F := F)) 𝒱₀ c none) Set.univ
          (pSend (sbuf b) (rbuf b) (sbuf_whole b) (rbuf_whole b) (ssem b) (rsem b) (nb b c) p (pack a)) Q := by
  subst hp ha
  unfold sendReady sending debt readyAt free Release.slot
  simp only [pSend, Prog.lift, Prog.bind_op, Prog.bind_ret]
  iintro ⟨#Hw, ⟨#Hrel, #Hrr⟩, #Hh, ⟨⟨%f, Hs⟩, Hat, #Hrs⟩, Hk, ⟨%W, HO⟩, HQ⟩
  iapply (wp_load_rect 𝒱₀ (c : Thread nD τ) none Set.univ (m := sbuf b) (Finset.Subset.refl _)) $$ [Hs]
  · iexact Hs
  iintro Hs
  iapply (wp_store 𝒱₀ (c : Thread nD τ) none Set.univ (m := sbuf b) (Finset.Subset.refl _)) $$ [Hs]
  · iexact Hs
  iintro Hs
  iapply (wp_push X Wt K κ b c s hs T hT _ (View.read_write_univ _ _) Q)
  isplitr; · iexact Hw
  isplitr
  · unfold readyAt
    isplitr
    · iexact Hrel
    iexact Hrr
  isplitr; · iexact Hh
  isplitl [Hs]; · iexact Hs
  isplitl [Hat]
  · isplitl [Hat]
    · iexact Hat
    iexact Hrs
  isplitl [Hk]; · iexact Hk
  isplitl [HO]; · unfold debt; iexists W; iexact HO
  unfold sending debt
  iexact HQ

end

end Cert.KernelIdeal

end
-- ==== Proof.Talk2.lean ====
module

public import proofs.«01_k».proof.Proof.Talk

@[expose] public section

/-!
# Waits and credits

The rest of the ring's steps: a message awaited, the end of a send awaited, a credit given and a credit awaited.
-/

noncomputable section

namespace Cert.KernelIdeal

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen

variable {F : FTy → Type} [FloatOps F]

local notation "𝕄" => MT nD τ sig ℕ (Elt F) ℕ UT ℕ

section

variable (X : Dev nD → Vec F S4096x128 .bf16) (Wt : Dev nD → Vec F S128x8192 .bf16)
variable (K : GSem nD τ sig → ℕ) (κ : Key → ℕ)

/-- Anything follows from itself. -/
theorem entails_refl {A : sProp 𝕄} : A ⊢ A := by iintro H; iexact H

/-- The end of a send is waited for with one message's units. -/
theorem expect_snd (b : Bool) (c : Dev nD) (s : ℕ) (hs : s < hops b) : (Rd X Wt).expect (sC b c (par s)) (s / 2) = N := by
  rw [expect_tc, use_snd]
  show (if 2 * (s / 2) + (par s).val < hops b then ({0} : Finset ℕ) else ∅).card * N = _
  rw [par_round, if_pos hs, Finset.card_singleton, one_mul]

/-- An arrival is waited for with one message's units. -/
theorem expect_rcv (b : Bool) (c : Dev nD) (s : ℕ) (hs : s < hops b) : (Rd X Wt).expect (rC b c (par s)) (s / 2) = N := by
  rw [expect_tc, use_rcv]
  show (if 2 * (s / 2) + (par s).val < hops b then ({0} : Finset ℕ) else ∅).card * N = _
  rw [par_round, if_pos hs, Finset.card_singleton, one_mul]

/-- That a device may wait for one name while it owes later ones. -/
theorem mayWait (c : Dev nD) (T : Finset Debt) (sm : SemLoc sig) (i n : ℕ) (hi : i < 16) (hn : dueAt (useOf sm) i ≤ n)
    (hT : ∀ x ∈ T, n < x.due) : world X Wt K κ ⊢ MayWait (c : Thread nD τ) sm i (owing c T) := by
  have h := mayOwe (F := F) c T n {(sm, i)} (fun p hp => by rw [Finset.mem_singleton.mp hp]; exact ⟨hi, hn⟩) hT
  unfold world
  iintro ⟨-, -, H⟩
  iapply h; iexact H

/-- A message awaited and read. -/
theorem wp_precv (b : Bool) (c : Dev nD) (s : ℕ) (hs : s < hops b) (h16 : s < 16) (T : Finset Debt) (hT : ∀ x ∈ T, 2 * s + 2 < x.due)
    (p : Fin 2) (hp : p = par s) (Q : Vec F S1x128x8192 .bf16 → sProp 𝕄) :
    iprop(world X Wt K κ ∗ atPos ER (rC b c (par s)) (s / 2) ∅ 0 ∗ cred (tallyAt (rC b c (par s)) s N) ∗ debt c T
        ∗ ((atPos ER (rC b c (par s)) (s / 2 + 1) ∅ 0 ∗ reached ER (rC b c (par s)) (s / 2 + 1) ∗ free (slotView (rbuf b) (par s)) c
            ∗ Release.heard hello (kn b (nb (!b) c) s) ∗ debt c T) -∗ Q (msg X Wt b (nb (!b) c) s)))
      ⊢ wp frame (wpE (defs₀ (F := F)) 𝒱₀ c none) Set.univ
          (pRecv (sbuf b) (rbuf b) (sbuf_whole b) (rbuf_whole b) (rsem b) p) Q := by
  subst hp
  simp only [pRecv, Prog.lift, Prog.bind_op, Prog.bind_ret]
  unfold debt
  iintro ⟨#Hw, Hat, Hc, ⟨%W, HO⟩, HQ⟩
  iapply (Rounds.wp_wait_rest_token 𝒱₀ ER (Rd X Wt) (c : Thread nD τ) none (κ := K (rC b c (par s)))
    (wpE_waitDma2_eq (src := slot (sbuf b) (par s)) (dst := slot (rbuf b) (par s)) 𝒱₀ (c : Thread nD τ) none Set.univ)
    (Set.mem_univ _) s (O := owing c T) (W := W) (R := s / 2) (m := 0) (T := ∅)
    ((Nat.zero_add _).trans (expect_rcv X Wt b c s hs).symm)) $$ [Hat Hc HO]
  · isplitr; · iapply (world_cell X Wt K κ (mem_rcv b c (par s))); iexact Hw
    isplitl [Hc]; · iexact Hc
    isplitl [HO]; · iexact HO
    isplitr
    · iapply (mayWait X Wt K κ c T _ s (2 * s + 2) h16 (by rw [use_rcv]; exact le_rfl) hT); iexact Hw
    iexact Hat
  rw [duties_rcv X Wt b c s hs, Finset.sdiff_empty, bigSep_singleton, pay_rcv]
  unfold arrival has
  iintro ⟨HO, Hat, Hr, ⟨%f, %hf, Hs⟩, Hh⟩
  iapply (wp_load_rect 𝒱₀ (c : Thread nD τ) none Set.univ (m := rbuf b) (Finset.Subset.refl _)) $$ [Hs]
  · iexact Hs
  iintro Hs
  erw [hf]
  rw [wp_ret]
  imodintro
  iapply HQ
  isplitl [Hat]; · iexact Hat
  isplitl [Hr]; · iexact Hr
  isplitl [Hs]
  · unfold free Release.slot; iexists f; iexact Hs
  isplitl [Hh]; · iexact Hh
  iexists _; iexact HO

/-- The end of the send of message `s` awaited. -/
theorem wp_pdrain (b : Bool) (c : Dev nD) (s : ℕ) (hs : s < hops b) (T : Finset Debt) (hT : ∀ x ∈ T, 0 < x.due)
    (p : Fin 2) (hp : p = par s) (Q : PUnit → sProp 𝕄) :
    iprop(world X Wt K κ ∗ sending b c (par s) (s / 2) ∗ debt c T
        ∗ ((sendReady b c (s + 2) ∗ debt c T) -∗ Q ⟨⟩))
      ⊢ wp frame (wpE (defs₀ (F := F)) 𝒱₀ c none) Set.univ
          (pDrain (sbuf b) (rbuf b) (sbuf_whole b) (rbuf_whole b) (ssem b) p) Q := by
  subst hp
  have h2 : par (s + 2) = par s := Fin.ext (show (s + 2) % 2 = s % 2 by omega)
  have h3 : (s + 2) / 2 = s / 2 + 1 := by omega
  simp only [pDrain, Prog.lift]
  unfold debt sending sendReady
  rw [h2, h3]
  iintro ⟨#Hw, ⟨Hc, Hat⟩, ⟨%W, HO⟩, HQ⟩
  iapply (Rounds.wp_wait_rest_token 𝒱₀ ER (Rd X Wt) (c : Thread nD τ) none (κ := K (sC b c (par s)))
    (wpE_waitDma2_eq (src := slot (rbuf b) (par s)) (dst := slot (sbuf b) (par s)) 𝒱₀ (c : Thread nD τ) none Set.univ)
    (Set.mem_univ _) 0 (O := owing c T) (W := W) (R := s / 2) (m := 0) (T := ∅)
    ((Nat.zero_add _).trans (expect_snd X Wt b c s hs).symm)) $$ [Hat Hc HO]
  · isplitr; · iapply (world_cell X Wt K κ (mem_snd b c (par s))); iexact Hw
    isplitl [Hc]; · iexact Hc
    isplitl [HO]; · iexact HO
    isplitr
    · iapply (mayWait X Wt K κ c T _ 0 0 (by omega) (by rw [use_snd]; exact le_rfl) hT); iexact Hw
    iexact Hat
  rw [duties_snd X Wt b c s hs, Finset.sdiff_empty, bigSep_singleton, pay_snd]
  iintro ⟨HO, Hat, Hr, Hf⟩
  rw [wp_ret]
  imodintro
  iapply HQ
  isplitr [HO]
  · isplitl [Hf]; · iexact Hf
    isplitl [Hat]; · iexact Hat
    iexact Hr
  iexists _; iexact HO

/-! ## Credits -/

/-- What a device needs to give the credit of message `s`. -/
def credKit (b : Bool) (c : Dev nD) (s : ℕ) : sProp 𝕄 := dutyTok ER (crC b (nb (!b) c)) 0 s

/-- The duties of a direction's credits are one for each credit. -/
theorem duties_cr (b : Bool) (c : Dev nD) : (Rd X Wt).duties (crC b c) 0 = Finset.range (creds b) := by
  rw [duties_tc, use_cr]
  show (if 0 = 0 then Finset.range (creds b) else ∅) = _
  rw [if_pos rfl]

/-- The semaphore of the credits counts to the number of the credits. -/
theorem expect_cr (b : Bool) (c : Dev nD) : (Rd X Wt).expect (crC b c) 0 = creds b := by
  rw [expect_tc, use_cr]
  show (if 0 = 0 then Finset.range (creds b) else ∅).card * 1 = _
  rw [if_pos rfl, Finset.card_range, mul_one]

/-- A credit tells the sender what slots its receiver is ready with. -/
theorem pay_cr (b : Bool) (c : Dev nD) (d : ℕ) : (Rd X Wt).payload (crC b c) 0 d = freed b (nb b c) d := by
  rw [payload_tc, use_cr]; rfl

/-- A device in the kernel counts its credits from zero. -/
theorem hello_cr (b : Bool) (c : Dev nD) : hello (F := F) c ⊢ reached ER (crC b c) 0 := by
  unfold hello
  iintro ⟨-, -, ⟨Ht, Hf⟩, -⟩
  cases b
  · iexact Hf
  · iexact Ht

/-- The credit of message `s` given to its sender. -/
theorem wp_credit (b : Bool) (c : Dev nD) (s : Fin 14) (hs : s.val < creds b) (T : Finset Debt) (hT : Debt.cred b s ∈ T) (Q : PUnit → sProp 𝕄) :
    iprop(world X Wt K κ ∗ hello (nb (!b) c) ∗ freed b c s ∗ credKit b c s ∗ debt c T ∗ (debt c (T.erase (.cred b s)) -∗ Q ⟨⟩))
      ⊢ wp frame (wpE (defs₀ (F := F)) 𝒱₀ c none) Set.univ (semSignalWord (nb (!b) c) (crs b).sem 1#32) Q := by
  unfold debt credKit
  iintro ⟨#Hw, #Hh, Hf, Ht, ⟨%W, HO⟩, HQ⟩
  iapply (Rounds.wp_signal 𝒱₀ ER (Rd X Wt) (c : Thread nD τ) none (dst := (nb (!b) c : Thread nD τ)) (sem := (crs b).sem) (r := 0) (d := s.val)
    (k' := 1) (κ := K (crC b (nb (!b) c))) (by rw [duties_cr]; exact Finset.mem_range.mpr hs) (by rw [amount_tc, use_cr]; rfl) s.val
    (owing c (T.erase (.cred b s))) (owing_erase c hT) (W := W)) $$ [HO Ht Hf]
  · isplitr; · iapply (world_cell X Wt K κ (mem_cr b (nb (!b) c))); iexact Hw
    isplitl [HO]; · iexact HO
    isplitl [Ht]; · iexact Ht
    isplitl [Hf]; · rw [pay_cr, nb_nb']; iexact Hf
    iapply (hello_cr b (nb (!b) c)); iexact Hh
  iintro HO
  rw [wp_ret]
  imodintro
  iapply HQ
  iexists W; iexact HO

/-- The credits a device holds after `i` of them. -/
def credSt (b : Bool) (c : Dev nD) (i : ℕ) : sProp 𝕄 :=
  if i < creds b then
    iprop(∃ S, ⌜S ⊆ Finset.range (creds b) ∧ i ≤ S.card⌝ ∗ atPos ER (crC b c) 0 S i ∗ bigSep S (freed b (nb b c)))
  else atPos ER (crC b c) 1 ∅ 0

/-- Among more than `i` credits is one that is for message `i` or a later one. -/
theorem freed_ready (b : Bool) (c : Dev nD) (S : Finset ℕ) (i : ℕ) (h : i + 1 ≤ S.card) :
    bigSep S (freed (F := F) b c) ⊢ readyAt b c (i + 2) := by
  obtain ⟨d, hd, hi⟩ : ∃ d ∈ S, i ≤ d := by
    by_contra hn
    push Not at hn
    have := Finset.card_le_card (s := S) (t := Finset.range i) fun d hd => Finset.mem_range.mpr (hn d hd)
    rw [Finset.card_range] at this
    omega
  exact (bigSep_elim hd).trans (bigSep_elim (Finset.mem_range.mpr (by omega)))

/-- Credit `i` awaited. -/
theorem wp_take (b : Bool) (c : Dev nD) (i : ℕ) (hi : i < creds b) (h16 : i < 16) (T : Finset Debt) (hT : ∀ x ∈ T, 2 * i + 3 < x.due) (Q : PUnit → sProp 𝕄) :
    iprop(world X Wt K κ ∗ credSt b c i ∗ cred (tallyAt (crC b c) i 1) ∗ debt c T
        ∗ ((credSt b c (i + 1) ∗ readyAt b (nb b c) (i + 2) ∗ debt c T) -∗ Q ⟨⟩))
      ⊢ wp frame (wpE (defs₀ (F := F)) 𝒱₀ c none) Set.univ (semWaitWord (crs b).sem 1#32) Q := by
  unfold debt credSt
  rw [if_pos hi]
  iintro ⟨#Hw, ⟨%S, %hS, Hat, #HS⟩, Hc, ⟨%W, HO⟩, HQ⟩
  by_cases hl : i + 1 < creds b
  · rw [if_pos hl]
    iapply (Rounds.wp_wait 𝒱₀ ER (Rd X Wt) (c : Thread nD τ) none (κ := K (crC b c)) (k' := 1)
      (wpE_semWait_eq 𝒱₀ (c : Thread nD τ) none Set.univ) (Set.mem_univ _) (cr := Finsupp.single i 1) (O := owing c T) (W := W)
      {((.reg (crs b).sem : SemLoc sig), i)} (R := 0) (m := i) (T := S) (Util.total_single i 1) (image_single_subset _ i 1)) $$ [Hat Hc HO]
    · isplitr; · iapply (world_cell X Wt K κ (mem_cr b c)); iexact Hw
      isplitl [Hc]; · iexact Hc
      isplitl [HO]; · iexact HO
      isplitr
      · iapply (mayWait X Wt K κ c T _ i (2 * i + 3) h16 (by rw [use_cr]; exact le_rfl) hT); iexact Hw
      iexact Hat
    iintro %S' ⟨%hS', HO, Hat, Hp⟩
    rw [duties_cr, expect_cr] at hS'
    have hcard : i + 1 ≤ S'.card := by
      have h1 := Finset.card_sdiff_add_card_eq_card hS'.2.1
      rw [Finset.card_range] at h1
      omega
    have hall : iprop(bigSep S (freed (F := F) b (nb b c)) ∗ bigSep (S' \ S) (fun d => (Rd X Wt).payload (crC b c) 0 d))
        ⊢ bigSep S' (freed (F := F) b (nb b c)) := by
      rw [show (fun d => (Rd X Wt).payload (crC b c) 0 d) = freed b (nb b c) from funext fun d => pay_cr X Wt b c d]
      refine (bigSep_sep_union _ _).trans ?_
      rw [Finset.union_sdiff_of_subset hS'.1]; exact entails_refl
    ihave #H := hall $$ [Hp]
    · isplitr; · iexact HS
      iexact Hp
    rw [wp_ret]
    imodintro
    iapply HQ
    isplitl [Hat]
    · iexists S'
      isplitr; · ipureintro; exact ⟨hS'.2.1, hcard⟩
      isplitl [Hat]; · iexact Hat
      iexact H
    isplitr
    · iapply (freed_ready b (nb b c) S' i hcard); iexact H
    iexists _; iexact HO
  · rw [if_neg hl]
    have he : i + 1 = creds b := by omega
    iapply (Rounds.wp_wait_rest_token 𝒱₀ ER (Rd X Wt) (c : Thread nD τ) none (κ := K (crC b c)) (k' := 1)
      (wpE_semWait_eq 𝒱₀ (c : Thread nD τ) none Set.univ) (Set.mem_univ _) i (O := owing c T) (W := W)
      (R := 0) (m := i) (T := S) (he.trans (expect_cr X Wt b c).symm)) $$ [Hat Hc HO]
    · isplitr; · iapply (world_cell X Wt K κ (mem_cr b c)); iexact Hw
      isplitl [Hc]; · iexact Hc
      isplitl [HO]; · iexact HO
      isplitr
      · iapply (mayWait X Wt K κ c T _ i (2 * i + 3) h16 (by rw [use_cr]; exact le_rfl) hT); iexact Hw
      iexact Hat
    iintro ⟨HO, Hat, -, Hp⟩
    rw [duties_cr]
    have hall : iprop(bigSep S (freed (F := F) b (nb b c)) ∗ bigSep (Finset.range (creds b) \ S) (fun d => (Rd X Wt).payload (crC b c) 0 d))
        ⊢ bigSep (Finset.range (creds b)) (freed (F := F) b (nb b c)) := by
      rw [show (fun d => (Rd X Wt).payload (crC b c) 0 d) = freed b (nb b c) from funext fun d => pay_cr X Wt b c d]
      refine (bigSep_sep_union _ _).trans ?_
      rw [Finset.union_sdiff_of_subset hS.1]; exact entails_refl
    ihave #H := hall $$ [Hp]
    · isplitr; · iexact HS
      iexact Hp
    rw [wp_ret]
    imodintro
    iapply HQ
    isplitl [Hat]; · iexact Hat
    isplitr
    · iapply (freed_ready b (nb b c) (Finset.range (creds b)) i (by rw [Finset.card_range]; omega)); iexact H
    iexists _; iexact HO

/-- Before message `s` goes out of a used slot. -/
theorem wp_preuse (b : Bool) (c : Dev nD) (i : ℕ) (hi : i < creds b) (h16 : i + 2 < hops b) (T : Finset Debt) (hT : ∀ x ∈ T, 2 * i + 3 < x.due)
    (p : Fin 2) (hp : p = par i) (Q : PUnit → sProp 𝕄) :
    iprop(world X Wt K κ ∗ (credSt b c i ∗ cred (tallyAt (crC b c) i 1)) ∗ sending b c (par i) (i / 2) ∗ debt c T
        ∗ ((credSt b c (i + 1) ∗ readyAt b (nb b c) (i + 2) ∗ sendReady b c (i + 2) ∗ debt c T) -∗ Q ⟨⟩))
      ⊢ wp frame (wpE (defs₀ (F := F)) 𝒱₀ c none) Set.univ
          (pReuse (sbuf b) (rbuf b) (sbuf_whole b) (rbuf_whole b) (ssem b) (crs b) p) Q := by
  have h16' : i < 16 := by
    have : hops b ≤ 16 := by cases b <;> decide
    omega
  have hr : pReuse (F := F) (sbuf b) (rbuf b) (sbuf_whole b) (rbuf_whole b) (ssem b) (crs b) p
      = (semWaitWord (crs b).sem 1#32 >>= fun _ => pDrain (sbuf b) (rbuf b) (sbuf_whole b) (rbuf_whole b) (ssem b) p) := rfl
  rw [hr, wp_bind]
  iintro ⟨#Hw, ⟨Hc, Hcr⟩, Hs, HO, HQ⟩
  iapply (wp_take X Wt K κ b c i hi h16' T hT)
  isplitr; · iexact Hw
  isplitl [Hc]; · iexact Hc
  isplitl [Hcr]; · iexact Hcr
  isplitl [HO]; · iexact HO
  iintro ⟨Hc, Hr, HO⟩
  iapply (wp_pdrain X Wt K κ b c i (by omega) T (fun x hx => lt_of_le_of_lt (Nat.zero_le _) (hT x hx)) p hp Q)
  isplitr; · iexact Hw
  isplitl [Hs]; · iexact Hs
  isplitl [HO]; · iexact HO
  iintro ⟨Hs, HO⟩
  iapply HQ
  isplitl [Hc]; · iexact Hc
  isplitl [Hr]; · iexact Hr
  isplitl [Hs]; · iexact Hs
  iexact HO

/-- A slot read is given up to its next message. -/
theorem release_slot (b : Bool) (c : Dev nD) (s : ℕ) :
    iprop(world X Wt K κ ∗ Release.readerAt ES (ringKey b c (par s)) (s / 2 + 1) ∗ free (slotView (rbuf b) (par s)) c
        ∗ reached ER (rC b c (par s)) (s / 2 + 1))
      ⊢ |={Set.univ}=> (Release.readerAt ES (ringKey b c (par (s + 2))) ((s + 2) / 2 + 1) ∗ readyAt b c (s + 2) : sProp 𝕄) := by
  have h2 : par (s + 2) = par s := Fin.ext (show (s + 2) % 2 = s % 2 by omega)
  have h3 : (s + 2) / 2 = s / 2 + 1 := by omega
  unfold readyAt
  rw [h2, h3]
  iintro ⟨#Hw, Hr, Hf, #Hre⟩
  imod (Release.slot_release ES (S := free (F := F) (slotView (rbuf b) (par s)) c) (Set.mem_univ (κ (ringKey b c (par s))))
    (Release.slot_slot_false (View.set_nonempty (v := slotView (rbuf b) (par s)) (by decide))) (s / 2 + 1)) $$ [Hr Hf] with ⟨Hr, Hd⟩
  · isplitr; · iapply (world_slot X Wt K κ _); iexact Hw
    isplitl [Hr]; · iexact Hr
    iexact Hf
  imodintro
  isplitl [Hr]; · iexact Hr
  isplitl [Hd]; · iexact Hd
  iexact Hre

end

end Cert.KernelIdeal

end
-- ==== Proof.Hop.lean ====
module

public import proofs.«01_k».proof.Proof.Talk2

@[expose] public section

/-!
# One direction of the ring

What a device holds of one direction at the start of a hop, and how the hop's steps in that direction lead to the next.
-/

noncomputable section

namespace Cert.KernelIdeal

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen

variable {F : FTy → Type} [FloatOps F]

local notation "𝕄" => MT nD τ sig ℕ (Elt F) ℕ UT ℕ

section

variable (X : Dev nD → Vec F S4096x128 .bf16) (Wt : Dev nD → Vec F S128x8192 .bf16)
variable (K : GSem nD τ sig → ℕ) (κ : Key → ℕ)

/-- What a device knows once the barrier is passed. -/
def know (c : Dev nD) : sProp 𝕄 :=
  iprop(world X Wt K κ ∗ hello c ∗ hello (nb true c) ∗ hello (nb false c))

/-- What a device knows stays true. -/
instance know_persistent (c : Dev nD) : BI.Persistent (know X Wt K κ c) := by unfold know; infer_instance

/-- A device knows the protocol's invariants. -/
theorem know_world (c : Dev nD) : know X Wt K κ c ⊢ world X Wt K κ := by
  unfold know; iintro ⟨H, -⟩; iexact H

/-- A device knows that it is in the kernel. -/
theorem know_self (c : Dev nD) : know X Wt K κ c ⊢ hello c := by
  unfold know; iintro ⟨-, H, -⟩; iexact H

/-- A device knows that its neighbours are in the kernel. -/
theorem know_nb (c : Dev nD) (b : Bool) : know X Wt K κ c ⊢ hello (nb b c) := by
  unfold know
  iintro ⟨-, -, H1, H2⟩
  cases b
  · iexact H2
  · iexact H1

/-- A device in the kernel is ready for the first two messages of each direction. -/
theorem hello_ready (b : Bool) (c : Dev nD) (s : ℕ) (hs : s < 2) : hello (F := F) c ⊢ readyAt b c s := by
  unfold hello
  iintro ⟨⟨H0, H1⟩, ⟨G0, G1⟩, -⟩
  interval_cases s <;> cases b
  · iexact G0
  · iexact H0
  · iexact G1
  · iexact H1

/-- What message `i` takes: to send it, to receive the like, its credit from the receiver, its credit to the sender. -/
def kitAt (b : Bool) (c : Dev nD) (i : ℕ) : sProp 𝕄 :=
  iprop(sendKit b c i ∗ cred (tallyAt (rC b c (par i)) i N) ∗ (if 2 ≤ i then cred (tallyAt (crC b c) (i - 2) 1) else iprop(emp))
    ∗ (if i < creds b then credKit b c i else iprop(emp)))

/-- The slot message `s` is to go out of: free at first, later under the message two before. -/
def sendSt (b : Bool) (c : Dev nD) (s : ℕ) : sProp 𝕄 :=
  if s < 2 then sendReady b c s else sending b c (par (s - 2)) ((s - 2) / 2)

/-- The slot message `s` is to come into: given up to it, or kept if there is none. -/
def recvSt (b : Bool) (c : Dev nD) (s : ℕ) : sProp 𝕄 :=
  iprop(atPos ER (rC b c (par s)) (s / 2) ∅ 0
    ∗ (if s < hops b then Release.readerAt ES (ringKey b c (par s)) (s / 2 + 1) else free (slotView (rbuf b) (par s)) c))

/-- That a device is ready for all messages up to the next two. -/
def readies (b : Bool) (c : Dev nD) (s : ℕ) : sProp 𝕄 := bigSep (Finset.range (min (s + 2) (hops b))) (readyAt b c)

/-- That stays true. -/
instance readies_persistent (b : Bool) (c : Dev nD) (s : ℕ) : BI.Persistent (readies (F := F) b c s) := by unfold readies; infer_instance

/-- A direction at the start of hop `s`. -/
def dirA (b : Bool) (c : Dev nD) (s : ℕ) : sProp 𝕄 :=
  iprop(bigSep (Finset.Ico s (hops b)) (kitAt b c) ∗ (sendSt b c s ∗ sendSt b c (s + 1)) ∗ (recvSt b c s ∗ recvSt b c (s + 1))
    ∗ credSt b c (s - 2) ∗ readies b c s ∗ Release.heard hello (kn b c s))

/-- When its slot may be sent from again. -/
def dirT (b : Bool) (c : Dev nD) (s : ℕ) : sProp 𝕄 :=
  iprop(bigSep (Finset.Ico (s + 1) (hops b)) (kitAt b c)
    ∗ (sendKit b c s ∗ cred (tallyAt (rC b c (par s)) s N) ∗ (if s < creds b then credKit b c s else iprop(emp)))
    ∗ (sendReady b c s ∗ readyAt b (nb b c) s ∗ sendSt b c (s + 1)) ∗ (recvSt b c s ∗ recvSt b c (s + 1))
    ∗ credSt b c (s + 1 - 2) ∗ readies b c s ∗ Release.heard hello (kn b c s))

/-- When its message is sent. -/
def dirB (b : Bool) (c : Dev nD) (s : ℕ) : sProp 𝕄 :=
  iprop(bigSep (Finset.Ico (s + 1) (hops b)) (kitAt b c)
    ∗ (cred (tallyAt (rC b c (par s)) s N) ∗ (if s < creds b then credKit b c s else iprop(emp)))
    ∗ (sendSt b c (s + 1) ∗ sendSt b c (s + 2)) ∗ (recvSt b c s ∗ recvSt b c (s + 1))
    ∗ credSt b c (s + 1 - 2) ∗ readies b c s)

/-- When the message of the hop has come in. -/
def dirC (b : Bool) (c : Dev nD) (s : ℕ) : sProp 𝕄 :=
  iprop(bigSep (Finset.Ico (s + 1) (hops b)) (kitAt b c)
    ∗ (if s < creds b then credKit b c s else iprop(emp))
    ∗ (sendSt b c (s + 1) ∗ sendSt b c (s + 2))
    ∗ (recvSt b c (s + 1) ∗ atPos ER (rC b c (par s)) (s / 2 + 1) ∅ 0 ∗ reached ER (rC b c (par s)) (s / 2 + 1) ∗ free (slotView (rbuf b) (par s)) c
      ∗ Release.readerAt ES (ringKey b c (par s)) (s / 2 + 1))
    ∗ credSt b c (s + 1 - 2) ∗ readies b c s ∗ Release.heard hello (kn b c (s + 1)))

/-- What the messages from `s` on take is what message `s` takes and what the later ones take. -/
theorem kits_succ (b : Bool) (c : Dev nD) (s : ℕ) (hs : s < hops b) :
    bigSep (Finset.Ico s (hops b)) (kitAt (F := F) b c) = iprop(kitAt b c s ∗ bigSep (Finset.Ico (s + 1) (hops b)) (kitAt b c)) := by
  have h : Finset.Ico s (hops b) = insert s (Finset.Ico (s + 1) (hops b)) := by
    ext x; simp only [Finset.mem_insert, Finset.mem_Ico]; omega
  rw [h, bigSep_insert (by simp)]; rfl

/-- The slot turned around for a later message. -/
theorem wp_turn (b : Bool) (c : Dev nD) (s : ℕ) (h2 : 2 ≤ s) (hs : s < hops b) (hc : s - 2 < creds b) (T : Finset Debt) (hT : ∀ x ∈ T, 2 * s ≤ x.due)
    (Q : PUnit → sProp 𝕄) :
    iprop(know X Wt K κ c ∗ dirA b c s ∗ debt c T ∗ ((dirT b c s ∗ debt c T) -∗ Q ⟨⟩))
      ⊢ wp frame (wpE (defs₀ (F := F)) 𝒱₀ c none) Set.univ
          (pReuse (sbuf b) (rbuf b) (sbuf_whole b) (rbuf_whole b) (ssem b) (crs b) (par s)) Q := by
  obtain ⟨i, rfl⟩ : ∃ i, s = i + 2 := ⟨s - 2, by omega⟩
  have h16 : i + 2 < 16 := lt_of_lt_of_le hs (by cases b <;> decide)
  unfold dirA dirT
  rw [kits_succ b c _ hs]
  unfold kitAt sendSt
  rw [if_pos h2, if_neg (show ¬ i + 2 < 2 by omega)]
  simp only [Nat.add_sub_cancel, show i + 2 + 1 - 2 = i + 1 by omega]
  iintro ⟨#Hk, ⟨⟨⟨Hsk, Hrc, Hcc, Hck⟩, Hks⟩, ⟨Hs, Hs1⟩, Hr, Hc, Hrd, Hh⟩, HO, HQ⟩
  iapply (wp_preuse X Wt K κ b c i (by simpa using hc) hs T (fun x hx => by have := hT x hx; omega) (par (i + 2))
    (Fin.ext (show (i + 2) % 2 = i % 2 by omega)))
  isplitr; · iapply (know_world X Wt K κ c); iexact Hk
  isplitl [Hc Hcc]
  · isplitl [Hc]; · iexact Hc
    iexact Hcc
  isplitl [Hs]; · iexact Hs
  isplitl [HO]; · iexact HO
  iintro ⟨Hc, Hrdy, Hs, HO⟩
  iapply HQ
  isplitr [HO]
  · isplitl [Hks]; · iexact Hks
    isplitl [Hsk Hrc Hck]
    · isplitl [Hsk]; · iexact Hsk
      isplitl [Hrc]; · iexact Hrc
      iexact Hck
    isplitl [Hs Hrdy Hs1]
    · isplitl [Hs]; · iexact Hs
      isplitl [Hrdy]; · iexact Hrdy
      iexact Hs1
    isplitl [Hr]; · iexact Hr
    isplitl [Hc]; · iexact Hc
    isplitl [Hrd]; · iexact Hrd
    iexact Hh
  iexact HO

/-- The first two messages find their slots ready. -/
theorem turn_first (b : Bool) (c : Dev nD) (s : ℕ) (h2 : s < 2) :
    iprop(know X Wt K κ c ∗ dirA b c s) ⊢ dirT b c s := by
  have hs : s < hops b := lt_trans h2 (by cases b <;> decide)
  unfold dirA dirT
  rw [kits_succ b c _ hs]
  unfold kitAt
  have hss : sendSt (F := F) b c s = sendReady b c s := by unfold sendSt; rw [if_pos h2]
  rw [if_neg (show ¬ 2 ≤ s by omega), show s - 2 = s + 1 - 2 by omega, hss]
  iintro ⟨#Hk, ⟨⟨Hsk, Hrc, -, Hck⟩, Hks⟩, ⟨Hs, Hs1⟩, Hr, Hc, Hrd, Hh⟩
  isplitl [Hks]; · iexact Hks
  isplitl [Hsk Hrc Hck]
  · isplitl [Hsk]; · iexact Hsk
    isplitl [Hrc]; · iexact Hrc
    iexact Hck
  isplitl [Hs Hs1]
  · isplitl [Hs]
    · iexact Hs
    isplitr
    · iapply (hello_ready b (nb b c) s h2); iapply (know_nb X Wt K κ c b); iexact Hk
    iexact Hs1
  isplitl [Hr]; · iexact Hr
  isplitl [Hc]; · iexact Hc
  isplitl [Hrd]; · iexact Hrd
  iexact Hh

/-- Either way. -/
theorem wp_turn_if (b : Bool) (c : Dev nD) (s : ℕ) (hs : s < hops b) (T : Finset Debt) (hT : ∀ x ∈ T, 2 * s ≤ x.due)
    (Q : PUnit → sProp 𝕄) :
    iprop(know X Wt K κ c ∗ dirA b c s ∗ debt c T ∗ ((dirT b c s ∗ debt c T) -∗ Q ⟨⟩))
      ⊢ wp frame (wpE (defs₀ (F := F)) 𝒱₀ c none) Set.univ
          (if 2 ≤ s then pReuse (sbuf b) (rbuf b) (sbuf_whole b) (rbuf_whole b) (ssem b) (crs b) (par s) else pure ⟨⟩) Q := by
  by_cases h2 : 2 ≤ s
  · rw [if_pos h2]
    exact wp_turn X Wt K κ b c s h2 hs (by cases b <;> simp only [hops, creds, cond_true, cond_false] at * <;> omega) T hT Q
  · rw [if_neg h2, Prog.pure_eq_ret, wp_ret]
    iintro ⟨#Hk, HA, HO, HQ⟩
    imodintro
    iapply HQ
    isplitl [HA]
    · iapply (turn_first X Wt K κ b c s (by omega))
      isplitr; · iexact Hk
      iexact HA
    iexact HO

/-- The message of the hop sent. -/
theorem wp_out (b : Bool) (c : Dev nD) (s : Fin 16) (hs : s.val < hops b) (a : FVec F S128x8192 .f32) (ha : a = acc X Wt b c s)
    (T : Finset Debt) (hT : Debt.msg b s ∈ T) (Q : PUnit → sProp 𝕄) :
    iprop(know X Wt K κ c ∗ dirT b c s ∗ debt c T ∗ ((dirB b c s ∗ debt c (T.erase (.msg b s))) -∗ Q ⟨⟩))
      ⊢ wp frame (wpE (defs₀ (F := F)) 𝒱₀ c none) Set.univ
          (pSend (sbuf b) (rbuf b) (sbuf_whole b) (rbuf_whole b) (ssem b) (rsem b) (nb b c) (par s) (pack a)) Q := by
  unfold dirT dirB
  iintro ⟨#Hk, ⟨Hks, ⟨Hsk, Hrc, Hck⟩, ⟨Hs, Hrdy, Hs1⟩, Hr, Hc, Hrd, Hh⟩, HO, HQ⟩
  iapply (wp_psend X Wt K κ b c s hs a ha T hT (par s) rfl)
  isplitr; · iapply (know_world X Wt K κ c); iexact Hk
  isplitl [Hrdy]; · iexact Hrdy
  isplitl [Hh]; · iexact Hh
  isplitl [Hs]; · iexact Hs
  isplitl [Hsk]; · iexact Hsk
  isplitl [HO]; · iexact HO
  iintro ⟨Hs, HO⟩
  iapply HQ
  isplitr [HO]
  · isplitl [Hks]; · iexact Hks
    isplitl [Hrc Hck]
    · isplitl [Hrc]; · iexact Hrc
      iexact Hck
    isplitl [Hs Hs1]
    · isplitl [Hs1]; · iexact Hs1
      unfold sendSt
      rw [if_neg (show ¬ s.val + 2 < 2 by omega), Nat.add_sub_cancel]
      iexact Hs
    isplitl [Hr]; · iexact Hr
    isplitl [Hc]; · iexact Hc
    iexact Hrd
  iexact HO

/-- The message of the hop received. -/
theorem wp_in (b : Bool) (c : Dev nD) (s : ℕ) (hs : s < hops b) (T : Finset Debt) (hT : ∀ x ∈ T, 2 * s + 2 < x.due)
    (Q : Vec F S1x128x8192 .bf16 → sProp 𝕄) :
    iprop(know X Wt K κ c ∗ dirB b c s ∗ debt c T ∗ ((dirC b c s ∗ debt c T) -∗ Q (msg X Wt b (nb (!b) c) s)))
      ⊢ wp frame (wpE (defs₀ (F := F)) 𝒱₀ c none) Set.univ
          (pRecv (sbuf b) (rbuf b) (sbuf_whole b) (rbuf_whole b) (rsem b) (par s)) Q := by
  have h16 : s < 16 := lt_of_lt_of_le hs (by cases b <;> decide)
  unfold dirB dirC
  have hr : recvSt (F := F) b c s = iprop(atPos ER (rC b c (par s)) (s / 2) ∅ 0 ∗ Release.readerAt ES (ringKey b c (par s)) (s / 2 + 1)) := by
    unfold recvSt; rw [if_pos hs]
  rw [hr]
  iintro ⟨#Hk, ⟨Hks, ⟨Hrc, Hck⟩, Hs, ⟨⟨Hat, Hrk⟩, Hr1⟩, Hc, Hrd⟩, HO, HQ⟩
  iapply (wp_precv X Wt K κ b c s hs h16 T hT (par s) rfl)
  isplitr; · iapply (know_world X Wt K κ c); iexact Hk
  isplitl [Hat]; · iexact Hat
  isplitl [Hrc]; · iexact Hrc
  isplitl [HO]; · iexact HO
  iintro ⟨Hat, Hre, Hf, Hh, HO⟩
  iapply HQ
  isplitr [HO]
  · isplitl [Hks]; · iexact Hks
    isplitl [Hck]; · iexact Hck
    isplitl [Hs]; · iexact Hs
    isplitl [Hr1 Hat Hre Hf Hrk]
    · isplitl [Hr1]; · iexact Hr1
      isplitl [Hat]; · iexact Hat
      isplitl [Hre]; · iexact Hre
      isplitl [Hf]; · iexact Hf
      iexact Hrk
    isplitl [Hc]; · iexact Hc
    isplitl [Hrd]; · iexact Hrd
    have hkn : kn b c (s + 1) = {c} ∪ kn b (nb (!b) c) s := by rw [kn, Finset.insert_eq]
    rw [hkn]
    iapply (Release.heard_union (Φ := hello (F := F)) {c} (kn b (nb (!b) c) s))
    isplitr
    · iapply (Release.heard_single (Φ := hello (F := F)) c); iapply (know_self X Wt K κ c); iexact Hk
    iexact Hh
  iexact HO

/-- The slot given up to the message after next and its sender told. -/
theorem wp_give (b : Bool) (c : Dev nD) (s : Fin 14) (hs : s.val < creds b) (T : Finset Debt) (hT : Debt.cred b s ∈ T) (Q : PUnit → sProp 𝕄) :
    iprop(know X Wt K κ c ∗ dirC b c s ∗ debt c T ∗ ((dirA b c (s + 1) ∗ debt c (T.erase (.cred b s))) -∗ Q ⟨⟩))
      ⊢ wp frame (wpE (defs₀ (F := F)) 𝒱₀ c none) Set.univ (semSignalWord (nb (!b) c) (crs b).sem 1#32) Q := by
  have hh : s.val + 2 < hops b := by cases b <;> simp only [hops, creds, cond_true, cond_false] at * <;> omega
  have hrd : readies (F := F) b c (s + 1) = iprop(readyAt b c (s + 2) ∗ readies b c s) := by
    unfold readies
    rw [show min (s.val + 1 + 2) (hops b) = s.val + 2 + 1 by omega, show min (s.val + 2) (hops b) = s.val + 2 by omega,
      Finset.range_add_one, bigSep_insert Finset.notMem_range_self]; rfl
  have hfr : freed (F := F) b c s = readies b c (s + 1) := by
    unfold freed readies
    rw [show min (s.val + 1 + 2) (hops b) = s.val + 3 by omega]
  unfold dirC dirA
  rw [if_pos hs]
  iintro ⟨#Hk, ⟨Hks, Hck, Hs, ⟨Hr1, Hat, Hre, Hf, Hrk⟩, Hc, #Hrd, Hh⟩, HO, HQ⟩
  imod (release_slot X Wt K κ b c s) $$ [Hre Hf Hrk] with ⟨Hrk, #Hry⟩
  · isplitr; · iapply (know_world X Wt K κ c); iexact Hk
    isplitl [Hrk]; · iexact Hrk
    isplitl [Hf]; · iexact Hf
    iexact Hre
  iapply (wp_credit X Wt K κ b c s hs T hT)
  isplitr; · iapply (know_world X Wt K κ c); iexact Hk
  isplitr; · iapply (know_nb X Wt K κ c (!b)); iexact Hk
  isplitr
  · rw [hfr, hrd]
    isplitr; · iexact Hry
    iexact Hrd
  isplitl [Hck]; · iexact Hck
  isplitl [HO]; · iexact HO
  iintro HO
  iapply HQ
  isplitr [HO]
  · isplitl [Hks]; · iexact Hks
    isplitl [Hs]; · iexact Hs
    isplitl [Hr1 Hat Hrk]
    · isplitl [Hr1]; · iexact Hr1
      unfold recvSt
      rw [show s.val + 1 + 1 = s.val + 2 from rfl, if_pos hh, show (s.val + 2) / 2 = s.val / 2 + 1 by omega,
        show par (s.val + 2) = par s.val from Fin.ext (show (s.val + 2) % 2 = s.val % 2 by omega)]
      isplitl [Hat]; · iexact Hat
      iexact Hrk
    isplitl [Hc]; · iexact Hc
    isplitr
    · rw [hrd]
      isplitr; · iexact Hry
      iexact Hrd
    iexact Hh
  iexact HO

/-- A slot no later message comes into is kept. -/
theorem keep (b : Bool) (c : Dev nD) (s : ℕ) (hs : creds b ≤ s) : dirC (F := F) b c s ⊢ dirA b c (s + 1) := by
  have hh : hops b ≤ s + 2 := by cases b <;> simp only [hops, creds, cond_true, cond_false] at * <;> omega
  have hrd : readies (F := F) b c (s + 1) = readies b c s := by
    unfold readies
    rw [show min (s + 1 + 2) (hops b) = hops b by omega, show min (s + 2) (hops b) = hops b by omega]
  unfold dirC dirA
  rw [if_neg (by omega), hrd]
  iintro ⟨Hks, -, Hs, ⟨Hr1, Hat, -, Hf, -⟩, Hc, Hrd, Hh⟩
  isplitl [Hks]; · iexact Hks
  isplitl [Hs]; · iexact Hs
  isplitl [Hr1 Hat Hf]
  · isplitl [Hr1]; · iexact Hr1
    unfold recvSt
    rw [show s + 1 + 1 = s + 2 from rfl, if_neg (by omega), show (s + 2) / 2 = s / 2 + 1 by omega,
      show par (s + 2) = par s from Fin.ext (show (s + 2) % 2 = s % 2 by omega)]
    isplitl [Hat]; · iexact Hat
    iexact Hf
  isplitl [Hc]; · iexact Hc
  isplitl [Hrd]; · iexact Hrd
  iexact Hh

end

end Cert.KernelIdeal

end
-- ==== Proof.Turn.lean ====
module

public import proofs.«01_k».proof.Proof.Hop

@[expose] public section

/-!
# The ring

The hops of both directions in turn, and the device's block of the product at their end.
-/

noncomputable section

namespace Cert.KernelIdeal

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen

variable {F : FTy → Type} [FloatOps F]

local notation "𝕄" => MT nD τ sig ℕ (Elt F) ℕ UT ℕ

/-! ## Debts paid -/

/-- What remains owed from a moment on are the device's debts due then or later. -/
theorem mem_rem (c : Dev nD) (n : ℕ) (x : Debt) : x ∈ rem c n ↔ x.real c = true ∧ n ≤ x.due := by
  unfold rem; rw [Finset.mem_filter]; exact ⟨fun h => h.2, fun h => ⟨Finset.mem_univ _, h⟩⟩

/-- The messages of a hop sent, both ways. -/
theorem rem_sent (c : Dev nD) (s : Fin 16) (x : Debt) :
    x ∈ ((rem c (2 * s + 2)).erase (.msg true s)).erase (.msg false s) ↔ x.real c = true ∧ 2 * s + 2 < x.due := by
  rw [Finset.mem_erase, Finset.mem_erase, mem_rem]
  rcases x with b | ⟨b, i⟩ | ⟨b, d⟩ | j
  · simp only [Debt.due]; constructor
    · rintro ⟨-, -, -, h⟩; omega
    · rintro ⟨-, h⟩; omega
  · cases b <;> simp only [Debt.due, ne_eq, Debt.msg.injEq, Fin.ext_iff, true_and, false_and, not_false_eq_true, reduceCtorEq] <;> constructor
    · rintro ⟨h, h1, h2⟩; exact ⟨h1, by omega⟩
    · rintro ⟨h, h1⟩; exact ⟨by omega, h, by omega⟩
    · rintro ⟨h, h1, h2⟩; exact ⟨h1, by omega⟩
    · rintro ⟨h, h1⟩; exact ⟨by omega, h, by omega⟩
  · simp only [Debt.due, ne_eq, reduceCtorEq, not_false_eq_true, true_and]
    exact and_congr_right fun _ => by omega
  · simp only [Debt.due, ne_eq, reduceCtorEq, not_false_eq_true, true_and]
    have := s.isLt
    exact and_congr_right fun _ => by omega

/-- After a hop before the fourteenth. -/
theorem rem_hop (c : Dev nD) (s : Fin 16) (d : Fin 14) (h : d.val = s.val) (hs : s.val ≤ 12) :
    (((((rem c (2 * s + 2)).erase (.msg true s)).erase (.msg false s)).erase (.cred true d)).erase (.cred false d)) = rem c (2 * (s + 1) + 2) := by
  ext x
  rw [Finset.mem_erase, Finset.mem_erase, rem_sent, mem_rem]
  rcases x with b | ⟨b, i⟩ | ⟨b, e⟩ | j
  · simp only [Debt.due]; constructor
    · rintro ⟨-, -, -, h⟩; omega
    · rintro ⟨-, h⟩; omega
  · simp only [Debt.due, ne_eq, reduceCtorEq, not_false_eq_true, true_and]
    exact and_congr_right fun _ => by omega
  · cases b <;> simp only [Debt.due, ne_eq, Debt.cred.injEq, Fin.ext_iff, true_and, false_and, not_false_eq_true, reduceCtorEq] <;> constructor
    · rintro ⟨h, h1, h2⟩; exact ⟨h1, by omega⟩
    · rintro ⟨h, h1⟩; exact ⟨by omega, h, by omega⟩
    · rintro ⟨h, h1, h2⟩; exact ⟨h1, by omega⟩
    · rintro ⟨h, h1⟩; exact ⟨by omega, h, by omega⟩
  · simp only [Debt.due, ne_eq, reduceCtorEq, not_false_eq_true, true_and]
    exact and_congr_right fun _ => by omega

/-- After the fourteenth. -/
theorem rem_hop' (c : Dev nD) :
    ((((rem c 28).erase (.msg true 13)).erase (.msg false 13)).erase (.cred true 13)) = rem c 30 := by
  ext x
  rw [Finset.mem_erase]
  refine (and_congr_right fun _ => rem_sent c 13 x).trans ?_
  rw [mem_rem]
  have h13 : ((13 : Fin 16) : ℕ) = 13 := rfl
  rcases x with b | ⟨b, i⟩ | ⟨b, e⟩ | j
  · simp only [Debt.due]; constructor
    · rintro ⟨-, -, h⟩; omega
    · rintro ⟨-, h⟩; omega
  · simp only [Debt.due, ne_eq, reduceCtorEq, not_false_eq_true, true_and]
    exact and_congr_right fun _ => by omega
  · have he := e.isLt
    have h13' : ((13 : Fin 14) : ℕ) = 13 := rfl
    cases b <;> simp only [Debt.due, Debt.real, creds, cond_true, cond_false, decide_eq_true_eq, ne_eq, Debt.cred.injEq, Fin.ext_iff, true_and, false_and, not_false_eq_true, reduceCtorEq] <;> omega
  · simp only [Debt.due, ne_eq, reduceCtorEq, not_false_eq_true, true_and]
    exact and_congr_right fun _ => by omega

/-- After the last message to the left. -/
theorem rem_last (c : Dev nD) : ((rem c 30).erase (.msg true 14)).erase (.msg false 14) = rem c 32 := by
  ext x
  refine (rem_sent c 14 x).trans ?_
  rw [mem_rem]
  have h14 : ((14 : Fin 16) : ℕ) = 14 := rfl
  refine and_congr_right fun _ => ?_
  rcases x with b | ⟨b, i⟩ | ⟨b, e⟩ | j <;> simp only [Debt.due] <;> omega

/-- After the last message: the maxima. -/
theorem rem_end (c : Dev nD) : (rem c 32).erase (.msg true 15) = rem c 100 := by
  ext x
  rw [Finset.mem_erase, mem_rem, mem_rem]
  have h15 : ((15 : Fin 16) : ℕ) = 15 := rfl
  rcases x with b | ⟨b, i⟩ | ⟨b, e⟩ | j
  · simp only [Debt.due]; constructor
    · rintro ⟨-, -, h⟩; omega
    · rintro ⟨-, h⟩; omega
  · have hi := i.isLt
    cases b <;> simp only [Debt.due, Debt.real, hops, cond_true, cond_false, decide_eq_true_eq, ne_eq, Debt.msg.injEq, Fin.ext_iff, true_and, false_and, not_false_eq_true, reduceCtorEq] <;> omega
  · have he := e.isLt
    simp only [Debt.due]; constructor
    · rintro ⟨-, -, h⟩; omega
    · rintro ⟨-, h⟩; omega
  · simp only [Debt.due, ne_eq, reduceCtorEq, not_false_eq_true, true_and]
    exact and_congr_right fun _ => by omega

section

variable (X : Dev nD → Vec F S4096x128 .bf16) (Wt : Dev nD → Vec F S128x8192 .bf16)
variable (K : GSem nD τ sig → ℕ) (κ : Key → ℕ)

/-- The running sum of a hop is the device's share plus the message of the hop before. -/
theorem acc_next (b : Bool) (c : Dev nD) (s : ℕ) :
    acc X Wt b c (s + 1) = next (share X Wt c (tgt b c (s + 1))) (msg X Wt b (nb (!b) c) s) := rfl

/-- The sends of a hop, with each message's wait for its slot set before it. -/
theorem pout_eq (c : Dev nD) (s : ℕ) (a b : FVec F S128x8192 .f32) :
    (pOut (sbuf true) (sbuf_whole true) (rbuf true) (rbuf_whole true) (sbuf false) (sbuf_whole false) (rbuf false) (rbuf_whole false)
        (ssem true) (rsem true) (ssem false) (rsem false) (crs true) (crs false) (nb false c) (nb true c) s a b : P F PUnit)
      = ((if 2 ≤ s then pReuse (sbuf true) (rbuf true) (sbuf_whole true) (rbuf_whole true) (ssem true) (crs true) (par s) else pure ⟨⟩) >>= fun _ =>
        pSend (sbuf true) (rbuf true) (sbuf_whole true) (rbuf_whole true) (ssem true) (rsem true) (nb true c) (par s) (pack a) >>= fun _ =>
        (if 2 ≤ s then pReuse (sbuf false) (rbuf false) (sbuf_whole false) (rbuf_whole false) (ssem false) (crs false) (par s) else pure ⟨⟩) >>= fun _ =>
        pSend (sbuf false) (rbuf false) (sbuf_whole false) (rbuf_whole false) (ssem false) (rsem false) (nb false c) (par s) (pack b)) := by
  unfold pOut
  by_cases h : 2 ≤ s
  · simp only [if_pos h]
  · simp only [if_neg h]; rfl

/-- The sends of a hop. -/
theorem wp_pout (c : Dev nD) (s : Fin 16) (hs : s.val < 15) (a b : FVec F S128x8192 .f32) (ha : a = acc X Wt true c s) (hb : b = acc X Wt false c s)
    (Q : PUnit → sProp 𝕄) :
    iprop(know X Wt K κ c ∗ dirA true c s ∗ dirA false c s ∗ debt c (rem c (2 * s + 2))
        ∗ ((dirB true c s ∗ dirB false c s ∗ debt c (((rem c (2 * s + 2)).erase (.msg true s)).erase (.msg false s))) -∗ Q ⟨⟩))
      ⊢ wp frame (wpE (defs₀ (F := F)) 𝒱₀ c none) Set.univ
          (pOut (sbuf true) (sbuf_whole true) (rbuf true) (rbuf_whole true) (sbuf false) (sbuf_whole false) (rbuf false) (rbuf_whole false)
            (ssem true) (rsem true) (ssem false) (rsem false) (crs true) (crs false) (nb false c) (nb true c) s a b) Q := by
  have hm : ∀ b, Debt.msg b s ∈ rem c (2 * s + 2) := fun b => by
    rw [mem_rem]; exact ⟨by cases b <;> simp only [Debt.real, hops, cond_true, cond_false, decide_eq_true_eq] <;> omega, le_rfl⟩
  have hd : ∀ x ∈ rem c (2 * s + 2), 2 * s.val ≤ x.due := fun x hx => by
    have := ((mem_rem c _ x).mp hx).2; omega
  have hne : Debt.msg false s ≠ Debt.msg true s := by simp
  rw [pout_eq]
  iintro ⟨#Hk, HA, HB, HO, HQ⟩
  rw [wp_bind]
  iapply (wp_turn_if X Wt K κ true c s (by simp only [hops, cond_true]; omega) _ hd)
  isplitr; · iexact Hk
  isplitl [HA]; · iexact HA
  isplitl [HO]; · iexact HO
  iintro ⟨HA, HO⟩
  rw [wp_bind]
  iapply (wp_out X Wt K κ true c s (by simp only [hops, cond_true]; omega) a ha _ (hm true))
  isplitr; · iexact Hk
  isplitl [HA]; · iexact HA
  isplitl [HO]; · iexact HO
  iintro ⟨HA, HO⟩
  rw [wp_bind]
  iapply (wp_turn_if X Wt K κ false c s (by simp only [hops, cond_false]; omega) _ (fun x hx => hd x (Finset.mem_of_mem_erase hx)))
  isplitr; · iexact Hk
  isplitl [HB]; · iexact HB
  isplitl [HO]; · iexact HO
  iintro ⟨HB, HO⟩
  iapply (wp_out X Wt K κ false c s (by simp only [hops, cond_false]; omega) b hb _ (Finset.mem_erase.mpr ⟨hne, hm false⟩))
  isplitr; · iexact Hk
  isplitl [HB]; · iexact HB
  isplitl [HO]; · iexact HO
  iintro ⟨HB, HO⟩
  iapply HQ
  isplitl [HA]; · iexact HA
  isplitl [HB]; · iexact HB
  iexact HO

/-- A hop before the last two. -/
theorem wp_hop (c : Dev nD) (s : ℕ) (hs : s < 14) (h : k0_chk1 (lit1 c)) (a b : FVec F S128x8192 .f32) (ha : a = acc X Wt true c s) (hb : b = acc X Wt false c s)
    (Q : FVec F S128x8192 .f32 × FVec F S128x8192 .f32 → sProp 𝕄) :
    iprop(know X Wt K κ c ∗ ops X Wt c ∗ dirA true c s ∗ dirA false c s ∗ debt c (rem c (2 * s + 2))
        ∗ ((ops X Wt c ∗ dirA true c (s + 1) ∗ dirA false c (s + 1) ∗ debt c (rem c (2 * (s + 1) + 2)))
          -∗ Q (acc X Wt true c (s + 1), acc X Wt false c (s + 1))))
      ⊢ wp frame (wpE (defs₀ (F := F)) 𝒱₀ c none) Set.univ
          (pHop xbuf wbuf pbuf (sbuf true) (sbuf_whole true) (rbuf true) (rbuf_whole true) (sbuf false) (sbuf_whole false) (rbuf false) (rbuf_whole false)
            (ssem true) (rsem true) (ssem false) (rsem false) (crs true) (crs false) h (nb false c) (nb true c) s hs a b) Q := by
  have hs16 : s < 16 := by omega
  obtain ⟨rt, et⟩ := row_at true c ⟨s + 1, by omega⟩
  obtain ⟨rf, ef⟩ := row_at false c ⟨s + 1, by omega⟩
  have hct : Debt.cred true ⟨s, hs⟩ ∈ ((rem c (2 * s + 2)).erase (.msg true ⟨s, hs16⟩)).erase (.msg false ⟨s, hs16⟩) :=
    (rem_sent c ⟨s, hs16⟩ _).mpr ⟨by simpa [Debt.real, creds] using hs, by simp only [Debt.due]; omega⟩
  have hne : Debt.cred false ⟨s, hs⟩ ≠ Debt.cred true ⟨s, hs⟩ := by simp
  rw [acc_next, acc_next]
  unfold pHop
  iintro ⟨#Hk, Hops, HA, HB, HO, HQ⟩
  rw [wp_bind]
  iapply (wp_pout X Wt K κ c ⟨s, hs16⟩ (by show s < 15; omega) a b ha hb)
  isplitr; · iexact Hk
  isplitl [HA]; · iexact HA
  isplitl [HB]; · iexact HB
  isplitl [HO]; · iexact HO
  iintro ⟨HA, HB, HO⟩
  rw [wp_bind]
  iapply (wp_part X Wt c _ _ _ rt et)
  isplitl [Hops]; · iexact Hops
  iintro Hops
  rw [wp_bind]
  iapply (wp_part X Wt c _ _ _ rf ef)
  isplitl [Hops]; · iexact Hops
  iintro Hops
  rw [wp_bind]
  iapply (wp_in X Wt K κ true c s (by simp only [hops, cond_true]; omega) _ (fun x hx => ((rem_sent c ⟨s, hs16⟩ x).mp hx).2))
  isplitr; · iexact Hk
  isplitl [HA]; · iexact HA
  isplitl [HO]; · iexact HO
  iintro ⟨HA, HO⟩
  rw [wp_bind]
  iapply (wp_give X Wt K κ true c ⟨s, hs⟩ (by simp only [creds, cond_true]; exact hs) _ hct)
  isplitr; · iexact Hk
  isplitl [HA]; · iexact HA
  isplitl [HO]; · iexact HO
  iintro ⟨HA, HO⟩
  rw [wp_bind]
  iapply (wp_in X Wt K κ false c s (by simp only [hops, cond_false]; omega) _
    (fun x hx => ((rem_sent c ⟨s, hs16⟩ x).mp (Finset.mem_of_mem_erase hx)).2))
  isplitr; · iexact Hk
  isplitl [HB]; · iexact HB
  isplitl [HO]; · iexact HO
  iintro ⟨HB, HO⟩
  dsimp only
  by_cases h12 : s ≤ 12
  · rw [if_pos h12, wp_bind]
    iapply (wp_give X Wt K κ false c ⟨s, hs⟩ (by simp only [creds, cond_false]; show s < 13; omega) _ (Finset.mem_erase.mpr ⟨hne,
      (rem_sent c ⟨s, hs16⟩ _).mpr ⟨by simp only [Debt.real, creds, cond_false, decide_eq_true_eq]; omega, by simp only [Debt.due]; omega⟩⟩))
    isplitr; · iexact Hk
    isplitl [HB]; · iexact HB
    isplitl [HO]; · iexact HO
    rw [rem_hop c ⟨s, hs16⟩ ⟨s, hs⟩ rfl h12]
    iintro ⟨HB, HO⟩
    rw [Prog.pure_eq_ret, wp_ret]
    imodintro
    iapply HQ
    isplitl [Hops]; · iexact Hops
    isplitl [HA]; · iexact HA
    isplitl [HB]; · iexact HB
    iexact HO
  · obtain rfl : s = 13 := by omega
    rw [if_neg h12, Prog.pure_eq_ret, wp_ret]
    imodintro
    iapply HQ
    isplitl [Hops]; · iexact Hops
    isplitl [HA]; · iexact HA
    isplitl [HB]; · iapply (keep (F := F) false c 13 (by decide)); iexact HB
    rw [← rem_hop' c]
    iexact HO

/-- The hops from `s`. -/
theorem wp_hops (c : Dev nD) (h : k0_chk1 (lit1 c)) : ∀ (n s : ℕ) (hn : n + s = 14) (a b : FVec F S128x8192 .f32) (_ : a = acc X Wt true c s) (_ : b = acc X Wt false c s)
    (Q : FVec F S128x8192 .f32 × FVec F S128x8192 .f32 → sProp 𝕄),
    iprop(know X Wt K κ c ∗ ops X Wt c ∗ dirA true c s ∗ dirA false c s ∗ debt c (rem c (2 * s + 2))
        ∗ ((ops X Wt c ∗ dirA true c 14 ∗ dirA false c 14 ∗ debt c (rem c 30))
          -∗ Q (acc X Wt true c 14, acc X Wt false c 14)))
      ⊢ wp frame (wpE (defs₀ (F := F)) 𝒱₀ c none) Set.univ
          (pHops xbuf wbuf pbuf (sbuf true) (sbuf_whole true) (rbuf true) (rbuf_whole true) (sbuf false) (sbuf_whole false) (rbuf false) (rbuf_whole false)
            (ssem true) (rsem true) (ssem false) (rsem false) (crs true) (crs false) h (nb false c) (nb true c) n s hn a b) Q
  | 0, s, hn, a, b, ha, hb, Q => by
    obtain rfl : s = 14 := by omega
    subst ha hb
    unfold pHops
    iintro ⟨-, Hops, HA, HB, HO, HQ⟩
    rw [Prog.pure_eq_ret, wp_ret]
    imodintro
    iapply HQ
    isplitl [Hops]; · iexact Hops
    isplitl [HA]; · iexact HA
    isplitl [HB]; · iexact HB
    iexact HO
  | n + 1, s, hn, a, b, ha, hb, Q => by
    unfold pHops
    iintro ⟨#Hk, Hops, HA, HB, HO, HQ⟩
    rw [wp_bind]
    iapply (wp_hop X Wt K κ c s _ h a b ha hb)
    isplitr; · iexact Hk
    isplitl [Hops]; · iexact Hops
    isplitl [HA]; · iexact HA
    isplitl [HB]; · iexact HB
    isplitl [HO]; · iexact HO
    iintro ⟨Hops, HA, HB, HO⟩
    iapply (wp_hops c h n (s + 1) _ _ _ rfl rfl Q)
    isplitr; · iexact Hk
    isplitl [Hops]; · iexact Hops
    isplitl [HA]; · iexact HA
    isplitl [HB]; · iexact HB
    isplitl [HO]; · iexact HO
    iexact HQ

/-- The end of a send after the last message. -/
theorem wp_quit (b : Bool) (c : Dev nD) (s : ℕ) (h2 : 2 ≤ s) (hs : s - 2 < hops b) (T : Finset Debt) (hT : ∀ x ∈ T, 0 < x.due)
    (p : Fin 2) (hp : p = par s) (Q : PUnit → sProp 𝕄) :
    iprop(know X Wt K κ c ∗ sendSt b c s ∗ debt c T ∗ ((sendReady b c s ∗ debt c T) -∗ Q ⟨⟩))
      ⊢ wp frame (wpE (defs₀ (F := F)) 𝒱₀ c none) Set.univ
          (pDrain (sbuf b) (rbuf b) (sbuf_whole b) (rbuf_whole b) (ssem b) p) Q := by
  obtain ⟨i, rfl⟩ : ∃ i, s = i + 2 := ⟨s - 2, by omega⟩
  have hss : sendSt (F := F) b c (i + 2) = sending b c (par i) (i / 2) := by
    unfold sendSt; rw [if_neg (by omega), Nat.add_sub_cancel]
  rw [hss]
  iintro ⟨#Hk, Hs, HO, HQ⟩
  iapply (wp_pdrain X Wt K κ b c i (by simpa using hs) T hT p (hp.trans (Fin.ext (show (i + 2) % 2 = i % 2 by omega))))
  isplitr; · iapply (know_world X Wt K κ c); iexact Hk
  isplitl [Hs]; · iexact Hs
  isplitl [HO]; · iexact HO
  iexact HQ

/-- What a direction leaves at the end. -/
def dirEnd (b : Bool) (c : Dev nD) : sProp 𝕄 :=
  iprop((sendReady b c (hops b) ∗ sendReady b c (hops b + 1)) ∗ (recvSt b c (hops b) ∗ recvSt b c (hops b + 1))
    ∗ credSt b c (creds b) ∗ Release.heard hello (kn b c (hops b)))

/-- A slot of a hop's parity is the hop's slot. -/
theorem par_two (s : ℕ) (p : Fin 2) (h : s % 2 = p.val) : p = par s := Fin.ext h.symm

/-- The ring. -/
theorem wp_ring (c : Dev nD) (h : k0_chk1 (lit1 c)) (Q : FVec F S128x8192 .f32 → sProp 𝕄) :
    iprop(know X Wt K κ c ∗ ops X Wt c ∗ dirA true c 0 ∗ dirA false c 0 ∗ debt c (rem c 2)
        ∗ ((ops X Wt c ∗ dirEnd true c ∗ dirEnd false c ∗ debt c (rem c 100)) -∗ Q (block X Wt c)))
      ⊢ wp frame (wpE (defs₀ (F := F)) 𝒱₀ c none) Set.univ
          (pRing xbuf wbuf pbuf (sbuf true) (sbuf_whole true) (rbuf true) (rbuf_whole true) (sbuf false) (sbuf_whole false) (rbuf false) (rbuf_whole false)
            (ssem true) (rsem true) (ssem false) (rsem false) (crs true) (crs false) c h (nb false c) (nb true c)) Q := by
  obtain ⟨rt0, et0⟩ := row_at true c 0
  obtain ⟨rf0, ef0⟩ := row_at false c 0
  obtain ⟨rt15, et15⟩ := row_at true c 15
  have h15 : Debt.msg true 15 ∈ rem c 32 := by rw [mem_rem]; exact ⟨by rfl, le_rfl⟩
  have hlate : ∀ x ∈ rem c 100, 100 ≤ x.due := fun x hx => ((mem_rem c _ x).mp hx).2
  have hpos : ∀ x ∈ rem c 100, 0 < x.due := fun x hx => by have := hlate x hx; omega
  have h32 : ∀ x ∈ rem c 32, 32 ≤ x.due := fun x hx => ((mem_rem c _ x).mp hx).2
  unfold pRing
  iintro ⟨#Hk, Hops, HA, HB, HO, HQ⟩
  rw [wp_bind]
  iapply (wp_part X Wt c _ _ _ rt0 et0)
  isplitl [Hops]; · iexact Hops
  iintro Hops
  rw [wp_bind]
  iapply (wp_part X Wt c _ _ _ rf0 ef0)
  isplitl [Hops]; · iexact Hops
  iintro Hops
  rw [wp_bind]
  iapply (wp_hops X Wt K κ c h 14 0 rfl _ _ rfl rfl)
  isplitr; · iexact Hk
  isplitl [Hops]; · iexact Hops
  isplitl [HA]; · iexact HA
  isplitl [HB]; · iexact HB
  isplitl [HO]; · iexact HO
  iintro ⟨Hops, HA, HB, HO⟩
  rw [wp_bind]
  iapply (wp_pout X Wt K κ c 14 (by decide) _ _ rfl rfl)
  isplitr; · iexact Hk
  isplitl [HA]; · iexact HA
  isplitl [HB]; · iexact HB
  isplitl [HO]; · iexact HO
  iintro ⟨HA, HB, HO⟩
  ihave HO := (Entails.of_eq (congrArg (debt (F := F) c) (rem_last c))) $$ HO
  rw [wp_bind]
  iapply (wp_part X Wt c _ _ _ rt15 et15)
  isplitl [Hops]; · iexact Hops
  iintro Hops
  rw [wp_bind]
  iapply (wp_in X Wt K κ true c 14 (by decide) _ (fun x hx => by have := h32 x hx; omega))
  isplitr; · iexact Hk
  isplitl [HA]; · iexact HA
  isplitl [HO]; · iexact HO
  iintro ⟨HA, HO⟩
  ihave HA := (keep (F := F) true c 14 (by decide)) $$ HA
  rw [wp_bind]
  iapply (wp_in X Wt K κ false c 14 (by decide) _ (fun x hx => by have := h32 x hx; omega))
  isplitr; · iexact Hk
  isplitl [HB]; · iexact HB
  isplitl [HO]; · iexact HO
  iintro ⟨HB, HO⟩
  ihave HB := (keep (F := F) false c 14 (by decide)) $$ HB
  rw [wp_bind]
  iapply (wp_turn X Wt K κ true c 15 (by decide) (by decide) (by decide) _ (fun x hx => by have := h32 x hx; omega))
  isplitr; · iexact Hk
  isplitl [HA]; · iexact HA
  isplitl [HO]; · iexact HO
  iintro ⟨HA, HO⟩
  rw [wp_bind]
  iapply (wp_out X Wt K κ true c 15 (by decide) _ rfl _ h15)
  isplitr; · iexact Hk
  isplitl [HA]; · iexact HA
  isplitl [HO]; · iexact HO
  iintro ⟨HA, HO⟩
  ihave HO := (Entails.of_eq (congrArg (debt (F := F) c) (rem_end c))) $$ HO
  rw [wp_bind]
  iapply (wp_own X Wt c)
  isplitl [Hops]; · iexact Hops
  iintro Hops
  rw [wp_bind]
  iapply (wp_in X Wt K κ true c 15 (by decide) _ (fun x hx => by have := hlate x hx; omega))
  isplitr; · iexact Hk
  isplitl [HA]; · iexact HA
  isplitl [HO]; · iexact HO
  iintro ⟨HA, HO⟩
  ihave HA := (keep (F := F) true c 15 (by decide)) $$ HA
  unfold dirA
  icases HA with ⟨-, ⟨HA0, HA1⟩, HAr, HAc, -, HAh⟩
  icases HB with ⟨-, ⟨HB0, HB1⟩, HBr, HBc, -, HBh⟩
  rw [wp_bind]
  iapply (wp_quit X Wt K κ true c 16 (by decide) (by decide) _ hpos 0 (par_two _ _ rfl))
  isplitr; · iexact Hk
  isplitl [HA0]; · iexact HA0
  isplitl [HO]; · iexact HO
  iintro ⟨HA0, HO⟩
  rw [wp_bind]
  iapply (wp_quit X Wt K κ true c 17 (by decide) (by decide) _ hpos 1 (par_two _ _ rfl))
  isplitr; · iexact Hk
  isplitl [HA1]; · iexact HA1
  isplitl [HO]; · iexact HO
  iintro ⟨HA1, HO⟩
  rw [wp_bind]
  iapply (wp_quit X Wt K κ false c 16 (by decide) (by decide) _ hpos 0 (par_two _ _ rfl))
  isplitr; · iexact Hk
  isplitl [HB1]; · iexact HB1
  isplitl [HO]; · iexact HO
  iintro ⟨HB1, HO⟩
  rw [wp_bind]
  iapply (wp_quit X Wt K κ false c 15 (by decide) (by decide) _ hpos 1 (par_two _ _ rfl))
  isplitr; · iexact Hk
  isplitl [HB0]; · iexact HB0
  isplitl [HO]; · iexact HO
  iintro ⟨HB0, HO⟩
  rw [Prog.pure_eq_ret, wp_ret]
  imodintro
  simp only [Bool.not_true, Bool.not_false]
  unfold block
  iapply HQ
  isplitl [Hops]; · iexact Hops
  isplitl [HA0 HA1 HAr HAc HAh]
  · unfold dirEnd
    isplitl [HA0 HA1]
    · isplitl [HA0]; · iexact HA0
      iexact HA1
    isplitl [HAr]; · iexact HAr
    isplitl [HAc]; · iexact HAc
    iexact HAh
  isplitl [HB0 HB1 HBr HBc HBh]
  · unfold dirEnd
    isplitl [HB0 HB1]
    · isplitl [HB0]; · iexact HB0
      iexact HB1
    isplitl [HBr]; · iexact HBr
    isplitl [HBc]; · iexact HBc
    iexact HBh
  iexact HO

end

end Cert.KernelIdeal

end
-- ==== Proof.Exchange.lean ====
module

public import proofs.«01_k».proof.Proof.Talk2

@[expose] public section

/-!
# The exchange of maxima

Each device sends its maximum to every other, one at a time; takes the others' in; and waits for its own sends to end.
-/

noncomputable section

namespace Cert.KernelIdeal

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen

variable {F : FTy → Type} [FloatOps F]

local notation "𝕄" => MT nD τ sig ℕ (Elt F) ℕ UT ℕ

/-! ## Devices from one on, devices below one -/

/-- The devices from `n` on. -/
def up (n : ℕ) : Finset (Fin 32) := Finset.univ.filter fun i => n ≤ i.val

/-- The devices below `n`. -/
def lo (n : ℕ) : Finset (Fin 32) := Finset.univ.filter fun i => i.val < n

/-- From zero on are all devices. -/
theorem up_zero : up 0 = Finset.univ := by decide

/-- Below thirty-two are all devices. -/
theorem lo_all : lo 32 = Finset.univ := by decide

/-- What the devices from `n` on have is what device `n` has and what those after it have. -/
theorem bigSep_up (Φ : Fin 32 → sProp 𝕄) (n : ℕ) (h : n < 32) :
    bigSep (up n) Φ = iprop(Φ ⟨n, h⟩ ∗ bigSep (up (n + 1)) Φ) := by
  have he : up n = insert ⟨n, h⟩ (up (n + 1)) := by
    ext x; simp only [up, Finset.mem_insert, Finset.mem_filter, Finset.mem_univ, true_and, Fin.ext_iff]; omega
  rw [he, bigSep_insert (by simp [up])]; rfl

/-- What the devices up to `n` have is what device `n` has and what those before it have. -/
theorem bigSep_lo (Φ : Fin 32 → sProp 𝕄) (n : ℕ) (h : n < 32) :
    bigSep (lo (n + 1)) Φ = iprop(Φ ⟨n, h⟩ ∗ bigSep (lo n) Φ) := by
  have he : lo (n + 1) = insert ⟨n, h⟩ (lo n) := by
    ext x; simp only [lo, Finset.mem_insert, Finset.mem_filter, Finset.mem_univ, true_and, Fin.ext_iff]; omega
  rw [he, bigSep_insert (by simp [lo])]; rfl

/-- The maxima still owed before the send to device `n`. -/
def left (c : Dev nD) (n : ℕ) : Finset Debt := (up n).filter (fun i => i ≠ (c : Fin 32)) |>.image Debt.peak

/-- What is owed after the ring is the maxima. -/
theorem left_zero (c : Dev nD) : rem c 100 = left c 0 := by
  unfold left rem
  ext x
  simp only [Finset.mem_filter, Finset.mem_image, Finset.mem_univ, true_and, up_zero]
  rcases x with b | ⟨b, i⟩ | ⟨b, e⟩ | j
  · simp [Debt.due]
  · have := i.isLt; simp only [Debt.due, reduceCtorEq, and_false, exists_false, iff_false, not_and]; omega
  · have := e.isLt; simp only [Debt.due, reduceCtorEq, and_false, exists_false, iff_false, not_and]; omega
  · simp [Debt.due, Debt.real]

/-- After the last send nothing is owed. -/
theorem left_all (c : Dev nD) : left c 32 = ∅ := by
  have : up 32 = ∅ := by decide
  simp [left, this]

/-- Before the send to another device its maximum is owed. -/
theorem left_mem (c : Dev nD) (n : ℕ) (h : n < 32) (hc : (⟨n, h⟩ : Fin 32) ≠ (c : Fin 32)) : Debt.peak ⟨n, h⟩ ∈ left c n := by
  refine Finset.mem_image_of_mem _ (Finset.mem_filter.mpr ⟨?_, hc⟩)
  simp [up]

/-- With that maximum sent, the later ones are owed. -/
theorem left_succ (c : Dev nD) (n : ℕ) (h : n < 32) : (left c n).erase (Debt.peak ⟨n, h⟩) = left c (n + 1) := by
  ext x
  simp only [left, up, Finset.mem_erase, Finset.mem_image, Finset.mem_filter, Finset.mem_univ, true_and]
  constructor
  · rintro ⟨hx, i, ⟨h1, h2⟩, rfl⟩
    refine ⟨i, ⟨?_, h2⟩, rfl⟩
    have : i ≠ ⟨n, h⟩ := fun e => hx (by rw [e])
    have : i.val ≠ n := fun e => this (Fin.ext e)
    omega
  · rintro ⟨i, ⟨h1, h2⟩, rfl⟩
    refine ⟨fun e => ?_, i, ⟨by omega, h2⟩, rfl⟩
    have : i = ⟨n, h⟩ := by injection e
    have : i.val = n := congrArg Fin.val this
    omega

/-- At the device itself no maximum is owed. -/
theorem left_self (c : Dev nD) (n : ℕ) (h : n < 32) (hc : (⟨n, h⟩ : Fin 32) = (c : Fin 32)) : left c n = left c (n + 1) := by
  rw [← left_succ c n h, Finset.erase_eq_of_notMem]
  simp [left, hc]

section

variable (X : Dev nD → Vec F S4096x128 .bf16) (Wt : Dev nD → Vec F S128x8192 .bf16)
variable (K : GSem nD τ sig → ℕ) (κ : Key → ℕ)

/-- The entry a maximum lands in reads as that maximum. -/
theorem deliver_max (j : Fin 32) (fd : (maxView j).ty.Contents (Elt F)) (a : Vec F S1x1 .f32) :
    (maxView j).read (Elt F) ((maxOf mbuf j).view.write (Elt F) fd (abuf.view.read (Elt F) a) Finset.univ) = entry a := by
  have h : (maxOf mbuf j).view.write (Elt F) fd (abuf.view.read (Elt F) a) Finset.univ
      = (maxView j).write (Elt F) fd (fun x => abuf.view.read (Elt F) a ((Shape.reshapeEquiv squeezes_S1x1x1_S1x1.numel_eq).symm x)) Finset.univ :=
    View.write_reshape_univ _ _ _ _
  rw [h, View.read_write_univ]
  funext x
  rw [View.read_apply]; rfl

/-- An entry covers the same places for a copy as for a load. -/
theorem max_set (j : Fin 32) : (maxOf mbuf j).view.set = (maxView j).set := View.set_reshape _ _

/-- An entry held for a load is the entry held for a copy. -/
theorem max_points (j : Fin 32) (c : Dev nD) (f : Buf (Elt F) ((maxView j).loc (c : Thread nD τ))) :
    ((((maxView j).loc (c : Thread nD τ)) ↦[(maxView j).set]{fullShare} f : sProp 𝕄))
      = (((maxOf mbuf j).view.loc (c : Thread nD τ)) ↦[(maxOf mbuf j).view.set]{fullShare} f) := by
  rw [max_set j]

/-- The send of a maximum to another device has one duty. -/
theorem duties_asnd (c : Dev nD) (j : Fin 32) (h : j ≠ (c : Fin 32)) : (Rd X Wt).duties (asC c j) 0 = {0} := by
  rw [duties_tc, use_asnd]
  show (if 0 = 0 ∧ j ≠ (c : Fin 32) then ({0} : Finset ℕ) else ∅) = _
  rw [if_pos ⟨rfl, h⟩]

/-- The arrival of another device's maximum has one duty. -/
theorem duties_arcv (c : Dev nD) (j : Fin 32) (h : j ≠ (c : Fin 32)) : (Rd X Wt).duties (arC c j) 0 = {0} := by
  rw [duties_tc, use_arcv]
  show (if 0 = 0 ∧ j ≠ (c : Fin 32) then ({0} : Finset ℕ) else ∅) = _
  rw [if_pos ⟨rfl, h⟩]

/-- The end of the send is waited for with one maximum's units. -/
theorem expect_asnd (c : Dev nD) (j : Fin 32) (h : j ≠ (c : Fin 32)) : (Rd X Wt).expect (asC c j) 0 = Na := by
  rw [expect_tc, use_asnd]
  show (if 0 = 0 ∧ j ≠ (c : Fin 32) then ({0} : Finset ℕ) else ∅).card * Na = _
  rw [if_pos ⟨rfl, h⟩, Finset.card_singleton, one_mul]

/-- The arrival is waited for with one maximum's units. -/
theorem expect_arcv (c : Dev nD) (j : Fin 32) (h : j ≠ (c : Fin 32)) : (Rd X Wt).expect (arC c j) 0 = Na := by
  rw [expect_tc, use_arcv]
  show (if 0 = 0 ∧ j ≠ (c : Fin 32) then ({0} : Finset ℕ) else ∅).card * Na = _
  rw [if_pos ⟨rfl, h⟩, Finset.card_singleton, one_mul]

/-- The end of the send hands back the share of the maximum lent to it. -/
theorem pay_asnd (c : Dev nD) (j : Fin 32) (r d : ℕ) : (Rd X Wt).payload (asC c j) r d = lent X Wt c j := by
  rw [payload_tc, use_asnd]; rfl

/-- The arrival hands over the entry, holding the other device's maximum. -/
theorem pay_arcv (c : Dev nD) (j : Fin 32) (r d : ℕ) : (Rd X Wt).payload (arC c j) r d = has (maxView j) c (entry (peak X Wt (j : Dev nD))) := by
  rw [payload_tc, use_arcv]; rfl

/-- A device in the kernel is ready for every other device's maximum. -/
theorem hello_max (c : Dev nD) (j : Fin 32) : hello (F := F) c ⊢ iprop(Release.released ES (maxKey c j) 1 ∗ reached ER (arC c j) 0) := by
  unfold hello
  iintro ⟨-, -, -, H⟩
  have h2 : bigSep Finset.univ (fun j : Fin 32 => iprop(Release.released ES (maxKey c j) 1 ∗ reached ER (arC c j) 0))
      ⊢ (iprop(Release.released ES (maxKey c j) 1 ∗ reached ER (arC c j) 0) : sProp 𝕄) := bigSep_elim (Finset.mem_univ j)
  iapply h2
  iexact H

/-! ## The sends -/

/-- What the send to device `j` takes. -/
def tellKit (c : Dev nD) (j : Fin 32) : sProp 𝕄 :=
  iprop(dutyTok ER (asC c j) 0 0 ∗ dutyTok ER (arC (j : Dev nD) (c : Fin 32)) 0 0 ∗ Release.writeTok ES (maxKey (j : Dev nD) (c : Fin 32)) 1
    ∗ reached ER (asC c j) 0)

/-- Before the send to device `j`: the share of the maximum lent to it, and what the send takes. -/
def tellA (c : Dev nD) (j : Fin 32) : sProp 𝕄 :=
  iprop(lent X Wt c j ∗ atPos ER (asC c j) 0 ∅ 0 ∗ (if j = (c : Fin 32) then iprop(emp) else tellKit c j))

/-- After it: the send under way. -/
def tellB (c : Dev nD) (j : Fin 32) : sProp 𝕄 :=
  iprop((if j = (c : Fin 32) then lent X Wt c j else cred (tallyAt (asC c j) 0 Na)) ∗ atPos ER (asC c j) 0 ∅ 0)

/-- At its end. -/
def tellC (c : Dev nD) (j : Fin 32) : sProp 𝕄 :=
  iprop(lent X Wt c j ∗ atPos ER (asC c j) (if j = (c : Fin 32) then 0 else 1) ∅ 0)

/-- The staging buffer of the maximum is a whole buffer. -/
abbrev harg : abuf.IsWhole := Memref.isWhole_whole _

/-- The maximum sent to device `j`, into its entry `e`. -/
def tellTo (j e : Fin 32) : P F PUnit :=
  Prog.lift (.enqueueDma abuf (.remote (Dev.tc (j : Dev nD)) (maxOf mbuf e) (.dma (cellOf cc0_scratch11 j))) (.dma (cellOf cc0_scratch12 e))
    harg.wordExact ((View.wordExact_bits rfl).reshape _ _) ⟨⟨rfl, Or.inl rfl⟩, trivial⟩)

/-- One send of the kernel sends to device `j` if that is another device, and otherwise does nothing. -/
theorem tell1_eq (c : Dev nD) (j : Fin 32) : pTell1 (F := F) abuf harg mbuf cc0_scratch11 cc0_scratch12 c j
    = if other c j.val = 1#1 then tellTo j (c : Fin 32) else pure ⟨⟩ := by
  have h : ∀ e : Fin 32, e = (c : Fin 32) → tellTo (F := F) j e = tellTo j (c : Fin 32) := fun e he => by rw [he]
  rw [← h (meAt c) (meAt_eq c)]; rfl

/-- One send. -/
theorem wp_tell1 (c : Dev nD) (n : ℕ) (hn : n < 32) (Q : PUnit → sProp 𝕄) :
    iprop(world X Wt K κ ∗ hello (⟨n, hn⟩ : Dev nD) ∗ tellA X Wt c ⟨n, hn⟩ ∗ debt c (left c n)
        ∗ ((tellB X Wt c ⟨n, hn⟩ ∗ debt c (left c (n + 1))) -∗ Q ⟨⟩))
      ⊢ wp frame (wpE (defs₀ (F := F)) 𝒱₀ c none) Set.univ
          (pTell1 abuf harg mbuf cc0_scratch11 cc0_scratch12 c ⟨n, hn⟩) Q := by
  rw [tell1_eq]
  unfold tellA tellB
  by_cases hc : (⟨n, hn⟩ : Fin 32) = (c : Fin 32)
  · rw [if_neg (fun h => (other_iff c ⟨n, hn⟩).mp h hc), if_pos hc, if_pos hc, Prog.pure_eq_ret, wp_ret, ← left_self c n hn hc]
    iintro ⟨-, -, ⟨Hl, Hat, -⟩, HO, HQ⟩
    imodintro
    iapply HQ
    isplitr [HO]
    · isplitl [Hl]; · iexact Hl
      iexact Hat
    iexact HO
  · rw [if_pos ((other_iff c ⟨n, hn⟩).mpr hc), if_neg hc, if_neg hc, ← left_succ c n hn]
    have hc' : (c : Fin 32) ≠ ((⟨n, hn⟩ : Dev nD) : Fin 32) := fun h => hc h.symm
    simp only [tellTo, Prog.lift]
    unfold tellKit debt lent
    iintro ⟨#Hw, #Hh, ⟨Hl, Hat, Hts, Htr, Hwt, #Hrs⟩, ⟨%W, HO⟩, HQ⟩
    ihave #Hm := (hello_max (F := F) (⟨n, hn⟩ : Dev nD) (c : Fin 32)) $$ Hh
    icases Hm with ⟨#Hrel, #Hrr⟩
    imod (Release.slot_take ES (S := free (F := F) (maxView (c : Fin 32)) (⟨n, hn⟩ : Dev nD)) (Set.mem_univ (κ (maxKey (⟨n, hn⟩ : Dev nD) (c : Fin 32)))) 1) $$ [Hwt] with Hd
    · isplitr; · iapply (world_slot X Wt K κ (maxKey (⟨n, hn⟩ : Dev nD) (c : Fin 32))); iexact Hw
      isplitr; · iexact Hrel
      iexact Hwt
    unfold free Release.slot
    icases Hd with ⟨%fd, Hd⟩
    iapply (Rounds.wp_send_pointsTo 𝒱₀ ER (Rd X Wt) (c : Thread nD τ) none (c' := ((⟨n, hn⟩ : Dev nD) : Thread nD τ)) (src := abuf)
        (dst := maxOf mbuf (c : Fin 32)) (sS := .dma (cellOf cc0_scratch11 ⟨n, hn⟩)) (sem := .dma (cellOf cc0_scratch12 (c : Fin 32)))
        (q := ShareLeaves.leaf 5 fullShare ⟨n, hn⟩)
        (κ₁ := K (asC c ⟨n, hn⟩)) (κ₂ := K (arC (⟨n, hn⟩ : Dev nD) (c : Fin 32))) (r₁ := 0) (r₂ := 0) (d₁ := 0) (d₂ := 0)
        (fs := peak X Wt c) (fd := fd)
        (by rw [duties_asnd X Wt c _ hc]; exact Finset.mem_singleton_self _)
        (by rw [duties_arcv X Wt _ _ hc']; exact Finset.mem_singleton_self _)
        0 0 Na (credit_max mbuf _) (by rw [amount_tc, use_asnd]; rfl) (by rw [amount_tc, use_arcv]; rfl)
        (owing c ((left c n).erase (.peak ⟨n, hn⟩))) (owing_erase c (left_mem c n hn hc)) (W := W)
        (by
          rw [pay_asnd]
          unfold lent
          iintro H; iexact H)
        (by
          rw [pay_arcv, ← max_points (c : Fin 32) (⟨n, hn⟩ : Dev nD)]
          unfold has
          iintro H
          iexists _
          isplitr
          rotate_left
          · iexact H
          · ipureintro
            exact deliver_max _ _ _)) $$ [Hl Hd HO Hts Htr]
    · isplitr; · iapply (world_cell X Wt K κ (mem_asnd c _)); iexact Hw
      isplitr; · iapply (world_cell X Wt K κ (mem_arcv (⟨n, hn⟩ : Dev nD) (c : Fin 32))); iexact Hw
      isplitl [Hl]; · iexact Hl
      isplitl [Hd]; · rw [← max_points (c : Fin 32) (⟨n, hn⟩ : Dev nD) fd]; iexact Hd
      isplitl [HO]; · iexact HO
      isplitl [Hts]; · iexact Hts
      isplitr; · iexact Hrs
      isplitl [Htr]; · iexact Htr
      iexact Hrr
    iintro ⟨Hc, HO⟩
    rw [wp_ret]
    imodintro
    iapply HQ
    isplitl [Hc Hat]
    · isplitl [Hc]; · iexact Hc
      iexact Hat
    iexists W; iexact HO

/-- The sends from device `j` on: afterwards all are under way and nothing is owed. -/
theorem wp_tell (c : Dev nD) : ∀ (n j : ℕ) (h : n + j = 32) (Q : PUnit → sProp 𝕄),
    iprop(world X Wt K κ ∗ Release.heard hello Finset.univ ∗ bigSep (up j) (tellA X Wt c) ∗ bigSep (lo j) (tellB X Wt c) ∗ debt c (left c j)
        ∗ ((bigSep Finset.univ (tellB X Wt c) ∗ debt c ∅) -∗ Q ⟨⟩))
      ⊢ wp frame (wpE (defs₀ (F := F)) 𝒱₀ c none) Set.univ
          (pTell abuf harg mbuf cc0_scratch11 cc0_scratch12 c n j h) Q
  | 0, j, h, Q => by
    obtain rfl : j = 32 := by omega
    unfold pTell
    rw [Prog.pure_eq_ret, wp_ret, lo_all, left_all]
    iintro ⟨-, -, -, HB, HO, HQ⟩
    imodintro
    iapply HQ
    isplitl [HB]; · iexact HB
    iexact HO
  | n + 1, j, h, Q => by
    unfold pTell
    rw [wp_bind, bigSep_up (F := F) _ j (show j < 32 by omega)]
    iintro ⟨#Hw, #Hh, ⟨HA, HAs⟩, HB, HO, HQ⟩
    iapply (wp_tell1 X Wt K κ c j _)
    isplitr; · iexact Hw
    isplitr; · iapply (Release.heard_elim (Φ := hello (F := F)) (Finset.mem_univ (⟨j, _⟩ : Dev nD))); iexact Hh
    isplitl [HA]; · iexact HA
    isplitl [HO]; · iexact HO
    iintro ⟨HB1, HO⟩
    iapply (wp_tell c n (j + 1) _ Q)
    isplitr; · iexact Hw
    isplitr; · iexact Hh
    isplitl [HAs]; · iexact HAs
    isplitl [HB1 HB]
    · rw [bigSep_lo (F := F) _ j (show j < 32 by omega)]
      isplitl [HB1]; · iexact HB1
      iexact HB
    isplitl [HO]; · iexact HO
    iexact HQ

/-! ## The maxima that come in -/

/-- Before the maximum of device `j` is read. -/
def hearA (c : Dev nD) (j : Fin 32) : sProp 𝕄 :=
  iprop(atPos ER (arC c j) 0 ∅ 0 ∗ (if j = (c : Fin 32) then free (maxView j) c else cred (tallyAt (arC c j) 0 Na)))

/-- After it. -/
def hearB (c : Dev nD) (j : Fin 32) : sProp 𝕄 :=
  iprop(atPos ER (arC c j) (if j = (c : Fin 32) then 0 else 1) ∅ 0 ∗ free (maxView j) c)

/-- In its own place a device takes its own maximum, whatever the entry there. -/
theorem maxStep_self (c : Dev nD) (n : ℕ) (hn : n = c.val) (own m : FVec F S1x1 .f32) (r r' : Vec F S1x1x1 .f32) :
    maxStep (me c) own n m r = maxStep (me c) own n m r' := by
  subst hn
  have h : ∀ d : Dev nD, Scalar.cmpi .eq (me d) (BitVec.ofNat 32 d.val) = 1#1 := by decide +kernel
  unfold maxStep
  rw [h c]; rfl

/-- One maximum awaited and taken in. -/
theorem wp_hear1 (c : Dev nD) (n : ℕ) (hn : n < 32) {α : Type} (k : Vec F S1x1x1 .f32 → P F α) (Q : α → sProp 𝕄) :
    iprop(world X Wt K κ ∗ hearA c ⟨n, hn⟩ ∗ debt c ∅
        ∗ (∀ r, (⌜maxStep (me c) (k0_pay98 (peak X Wt c)) n (peaks X Wt c n) r = peaks X Wt c (n + 1)⌝ ∗ hearB c ⟨n, hn⟩ ∗ debt c ∅)
          -∗ wp frame (wpE (defs₀ (F := F)) 𝒱₀ c none) Set.univ (k r) Q))
      ⊢ wp frame (wpE (defs₀ (F := F)) 𝒱₀ c none) Set.univ
          (pHear1 abuf harg mbuf cc0_scratch12 c ⟨n, hn⟩ >>= fun _ =>
            (Prog.lift (.load mbuf (Rect.unit (s := S32x1x1) (![n, 0, 0] : Fin 3 → ℕ) S1x1x1.size (maxAt_inb ⟨n, hn⟩)).toLoadRect (View.loadsAt_vmem h_S1x1x1)) : P F _) >>= k) Q := by
  unfold pHear1 hearA hearB
  by_cases hc : (⟨n, hn⟩ : Fin 32) = (c : Fin 32)
  · have hnc : n = c.val := congrArg Fin.val hc
    rw [if_neg (fun h => (other_iff c ⟨n, hn⟩).mp h hc), if_pos hc, if_pos hc]
    simp only [Prog.pure_eq_ret, Prog.lift, Prog.bind_op, Prog.bind_ret]
    unfold free Release.slot
    iintro ⟨-, ⟨Hat, %f, Hf⟩, HO, HQ⟩
    iapply (wp_load_rect 𝒱₀ (c : Thread nD τ) none Set.univ (m := mbuf) (Finset.Subset.refl _)) $$ [Hf]
    · iexact Hf
    iintro Hf
    iapply HQ
    isplitr
    · ipureintro
      conv_rhs => unfold peaks
      exact maxStep_self c n hnc _ _ _ _
    isplitr [HO]
    · isplitl [Hat]; · iexact Hat
      iexists f; iexact Hf
    iexact HO
  · rw [if_pos ((other_iff c ⟨n, hn⟩).mpr hc), if_neg hc, if_neg hc]
    simp only [Prog.lift, Prog.bind_op, Prog.bind_ret]
    unfold debt
    iintro ⟨#Hw, ⟨Hat, Hc⟩, ⟨%W, HO⟩, HQ⟩
    iapply (Rounds.wp_wait_rest_token 𝒱₀ ER (Rd X Wt) (c : Thread nD τ) none (κ := K (arC c ⟨n, hn⟩))
      (wpE_waitDma2_eq (src := abuf) (dst := maxOf mbuf ⟨n, hn⟩) 𝒱₀ (c : Thread nD τ) none Set.univ)
      (Set.mem_univ _) 0 (O := owing c ∅) (W := W) (R := 0) (m := 0) (T := ∅)
      ((Nat.zero_add _).trans (expect_arcv X Wt c _ hc).symm)) $$ [Hat Hc HO]
    · isplitr; · iapply (world_cell X Wt K κ (mem_arcv c ⟨n, hn⟩)); iexact Hw
      isplitl [Hc]; · iexact Hc
      isplitl [HO]; · iexact HO
      isplitr
      · iapply (mayWait X Wt K κ c ∅ _ 0 100 (Nat.zero_lt_succ _) (by rw [use_arcv]; exact le_rfl) (fun x hx => absurd hx (Finset.notMem_empty x))); iexact Hw
      iexact Hat
    rw [duties_arcv X Wt c _ hc, Finset.sdiff_empty, bigSep_singleton, pay_arcv]
    unfold has
    iintro ⟨HO, Hat, -, ⟨%f, %hf, Hf⟩⟩
    iapply (wp_load_rect 𝒱₀ (c : Thread nD τ) none Set.univ (m := mbuf) (Finset.Subset.refl _)) $$ [Hf]
    · iexact Hf
    iintro Hf
    iapply HQ
    isplitr
    · ipureintro
      conv_rhs => unfold peaks
      refine congrArg _ (hf.trans ?_)
      congr 2
      exact Fin.ext (Nat.mod_eq_of_lt hn).symm
    isplitr [HO]
    · isplitl [Hat]; · iexact Hat
      unfold free Release.slot
      iexists f; iexact Hf
    iexists _; iexact HO

/-- The waits from device `j` on: the maximum taken in is the one over all devices. -/
theorem wp_hear (c : Dev nD) : ∀ (n j : ℕ) (h : n + j = 32) (m : FVec F S1x1 .f32) (_ : m = peaks X Wt c j) (Q : FVec F S1x1 .f32 → sProp 𝕄),
    iprop(world X Wt K κ ∗ bigSep (up j) (hearA c) ∗ bigSep (lo j) (hearB c) ∗ debt c ∅
        ∗ ((bigSep Finset.univ (hearB c) ∗ debt c ∅) -∗ Q (peaks X Wt c 32)))
      ⊢ wp frame (wpE (defs₀ (F := F)) 𝒱₀ c none) Set.univ
          (pHear abuf harg mbuf cc0_scratch12 c (k0_pay98 (peak X Wt c)) n j h m) Q
  | 0, j, h, m, hm, Q => by
    obtain rfl : j = 32 := by omega
    subst hm
    unfold pHear
    rw [Prog.pure_eq_ret, wp_ret, lo_all]
    iintro ⟨-, -, HB, HO, HQ⟩
    imodintro
    iapply HQ
    isplitl [HB]; · iexact HB
    iexact HO
  | n + 1, j, h, m, hm, Q => by
    subst hm
    unfold pHear
    rw [bigSep_up (F := F) _ j (show j < 32 by omega)]
    iintro ⟨#Hw, ⟨HA, HAs⟩, HB, HO, HQ⟩
    iapply (wp_hear1 X Wt K κ c j _)
    isplitr; · iexact Hw
    isplitl [HA]; · iexact HA
    isplitl [HO]; · iexact HO
    iintro %r ⟨%hr, HB1, HO⟩
    iapply (wp_hear c n (j + 1) _ _ hr Q)
    isplitr; · iexact Hw
    isplitl [HAs]; · iexact HAs
    isplitl [HB1 HB]
    · rw [bigSep_lo (F := F) _ j (show j < 32 by omega)]
      isplitl [HB1]; · iexact HB1
      iexact HB
    isplitl [HO]; · iexact HO
    iexact HQ

/-! ## The ends of the sends -/

/-- The end of one send awaited: the share lent to it is back. -/
theorem wp_sent1 (c : Dev nD) (n : ℕ) (hn : n < 32) (Q : PUnit → sProp 𝕄) :
    iprop(world X Wt K κ ∗ tellB X Wt c ⟨n, hn⟩ ∗ debt c ∅ ∗ ((tellC X Wt c ⟨n, hn⟩ ∗ debt c ∅) -∗ Q ⟨⟩))
      ⊢ wp frame (wpE (defs₀ (F := F)) 𝒱₀ c none) Set.univ
          (pSent1 abuf harg mbuf cc0_scratch11 c ⟨n, hn⟩) Q := by
  unfold pSent1 tellB tellC
  by_cases hc : (⟨n, hn⟩ : Fin 32) = (c : Fin 32)
  · rw [if_neg (fun h => (other_iff c ⟨n, hn⟩).mp h hc), if_pos hc, if_pos hc, Prog.pure_eq_ret, wp_ret]
    iintro ⟨-, HB, HO, HQ⟩
    imodintro
    iapply HQ
    isplitl [HB]; · iexact HB
    iexact HO
  · rw [if_pos ((other_iff c ⟨n, hn⟩).mpr hc), if_neg hc, if_neg hc]
    simp only [Prog.lift]
    unfold debt
    iintro ⟨#Hw, ⟨Hc, Hat⟩, ⟨%W, HO⟩, HQ⟩
    iapply (Rounds.wp_wait_rest_token 𝒱₀ ER (Rd X Wt) (c : Thread nD τ) none (κ := K (asC c ⟨n, hn⟩))
      (wpE_waitDma2_eq (src := maxOf mbuf (meAt c)) (dst := abuf) 𝒱₀ (c : Thread nD τ) none Set.univ)
      (Set.mem_univ _) 0 (O := owing c ∅) (W := W) (R := 0) (m := 0) (T := ∅)
      ((Nat.zero_add _).trans (expect_asnd X Wt c _ hc).symm)) $$ [Hat Hc HO]
    · isplitr; · iapply (world_cell X Wt K κ (mem_asnd c _)); iexact Hw
      isplitl [Hc]; · iexact Hc
      isplitl [HO]; · iexact HO
      isplitr
      · iapply (mayWait X Wt K κ c ∅ _ 0 100 (Nat.zero_lt_succ _) (by rw [use_asnd]; exact Nat.zero_le _) (fun x hx => absurd hx (Finset.notMem_empty x))); iexact Hw
      iexact Hat
    rw [duties_asnd X Wt c _ hc, Finset.sdiff_empty, bigSep_singleton, pay_asnd]
    iintro ⟨HO, Hat, -, Hl⟩
    rw [wp_ret]
    imodintro
    iapply HQ
    isplitr [HO]
    · isplitl [Hl]; · iexact Hl
      iexact Hat
    iexists _; iexact HO

/-- The ends of the sends from device `j` on awaited: every share is back. -/
theorem wp_sent (c : Dev nD) : ∀ (n j : ℕ) (h : n + j = 32) (Q : PUnit → sProp 𝕄),
    iprop(world X Wt K κ ∗ bigSep (up j) (tellB X Wt c) ∗ bigSep (lo j) (tellC X Wt c) ∗ debt c ∅
        ∗ ((bigSep Finset.univ (tellC X Wt c) ∗ debt c ∅) -∗ Q ⟨⟩))
      ⊢ wp frame (wpE (defs₀ (F := F)) 𝒱₀ c none) Set.univ
          (pSent abuf harg mbuf cc0_scratch11 c n j h) Q
  | 0, j, h, Q => by
    obtain rfl : j = 32 := by omega
    unfold pSent
    rw [Prog.pure_eq_ret, wp_ret, lo_all]
    iintro ⟨-, -, HB, HO, HQ⟩
    imodintro
    iapply HQ
    isplitl [HB]; · iexact HB
    iexact HO
  | n + 1, j, h, Q => by
    unfold pSent
    rw [wp_bind, bigSep_up (F := F) _ j (show j < 32 by omega)]
    iintro ⟨#Hw, ⟨HA, HAs⟩, HB, HO, HQ⟩
    iapply (wp_sent1 X Wt K κ c j _)
    isplitr; · iexact Hw
    isplitl [HA]; · iexact HA
    isplitl [HO]; · iexact HO
    iintro ⟨HB1, HO⟩
    iapply (wp_sent c n (j + 1) _ Q)
    isplitr; · iexact Hw
    isplitl [HAs]; · iexact HAs
    isplitl [HB1 HB]
    · rw [bigSep_lo (F := F) _ j (show j < 32 by omega)]
      isplitl [HB1]; · iexact HB1
      iexact HB
    isplitl [HO]; · iexact HO
    iexact HQ

end

end Cert.KernelIdeal

end
-- ==== Proof.Tail.lean ====
module

public import proofs.«01_k».proof.Proof.Exchange

@[expose] public section

/-!
# After the ring

A device stores its block and its maximum, takes the maxima of all, and stores its block quantised.
-/

noncomputable section

namespace Cert.KernelIdeal

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen

variable {F : FTy → Type} [FloatOps F]

local notation "𝕄" => MT nD τ sig ℕ (Elt F) ℕ UT ℕ

/-- The staging buffer of the first result. -/
abbrev ybuf : Memref sig .tc .vmem S128x8192 .f32 := Memref.whole cc0_stg4_0

/-- A read of all of the first result gives all of it. -/
theorem y_read (w : Vec F S128x8192 .f32) :
    (ybuf.access (Rect.unit (s := S128x8192) ![0, 0] S128x8192.size inb_S128x8192_S128x8192_0_0)).read (Elt F) w = w := by
  funext i
  rw [View.read_apply]
  show w ((Rect.unit (s := S128x8192) ![0, 0] S128x8192.size inb_S128x8192_S128x8192_0_0).emb i) = w i
  congr 1
  funext a
  apply Fin.ext
  fin_cases a <;> simp [Rect.unit, Rect.emb]

/-- A store to all of the first result replaces all of it. -/
theorem y_write (f w : Vec F S128x8192 .f32) :
    (ybuf.access (Rect.unit (s := S128x8192) ![0, 0] S128x8192.size inb_S128x8192_S128x8192_0_0)).write (Elt F) f w Finset.univ = w :=
  (y_read _).symm.trans (View.read_write_univ _ _)

/-- A read of the maximum gives it. -/
theorem a_read (w : Vec F S1x1 .f32) :
    (abuf.access (Rect.unit (s := S1x1) ![0, 0] S1x1.size inb_S1x1_S1x1_0_0)).read (Elt F) w = w := by
  funext i
  rw [View.read_apply]
  show w ((Rect.unit (s := S1x1) ![0, 0] S1x1.size inb_S1x1_S1x1_0_0).emb i) = w i
  congr 1
  funext a
  apply Fin.ext
  fin_cases a <;> simp [Rect.unit, Rect.emb]

/-- A store of the maximum replaces it. -/
theorem a_write (f w : Vec F S1x1 .f32) :
    (abuf.access (Rect.unit (s := S1x1) ![0, 0] S1x1.size inb_S1x1_S1x1_0_0)).write (Elt F) f w Finset.univ = w :=
  (a_read _).symm.trans (View.read_write_univ _ _)

section

variable (X : Dev nD → Vec F S4096x128 .bf16) (Wt : Dev nD → Vec F S128x8192 .bf16)
variable (K : GSem nD τ sig → ℕ) (κ : Key → ℕ)

/-- The device's maximum, whole or in the shares lent. -/
theorem lend (c : Dev nD) : (at' c cc0_stg5_0 (peak X Wt c) : sProp 𝕄) = bigSep Finset.univ (lent X Wt c) := by
  have h := ShareLeaves.pointsTo_leaves (Ix := ℕ) (Val := Elt F) (Name := ℕ) (U := UT) (Lvl := ℕ)
    (ℓ := abuf.view.loc (c : Thread nD τ)) abuf.view.set (peak X Wt c) 5 fullShare
  refine Eq.trans ?_ h
  rw [show abuf.view.set = Finset.univ from View.set_whole _]

/-- The maximum just stored is lent to all the sends. -/
theorem lend_all (c : Dev nD) : (((abuf.access (Rect.unit (s := S1x1) ![0, 0] S1x1.size inb_S1x1_S1x1_0_0)).loc (c : Thread nD τ)) ↦{fullShare} amaxOf (block X Wt c) : sProp 𝕄)
    ⊢ bigSep Finset.univ (lent X Wt c) := Entails.of_eq (lend X Wt c)

/-- What the exchange starts from, beside the maximum. -/
def tellSeat (c : Dev nD) (j : Fin 32) : sProp 𝕄 :=
  iprop(atPos ER (asC c j) 0 ∅ 0 ∗ (if j = (c : Fin 32) then iprop(emp) else tellKit c j))

/-- And leaves. -/
def tellEnd (c : Dev nD) (j : Fin 32) : sProp 𝕄 := atPos ER (asC c j) (if j = (c : Fin 32) then 0 else 1) ∅ 0

/-- What all the sends start from is the shares of the maximum and the rest. -/
theorem tellA_all (c : Dev nD) : bigSep Finset.univ (tellA X Wt c) = iprop(bigSep Finset.univ (lent X Wt c) ∗ bigSep Finset.univ (tellSeat (F := F) c)) := by
  exact bigSep_sep' _ _ _

/-- What all the sends end with is the shares of the maximum and the rest. -/
theorem tellC_all (c : Dev nD) : bigSep Finset.univ (tellC X Wt c) = iprop(bigSep Finset.univ (lent X Wt c) ∗ bigSep Finset.univ (tellEnd (F := F) c)) := by
  exact bigSep_sep' _ _ _

/-- There are no devices below zero. -/
theorem lo_zero : lo 0 = ∅ := by decide

/-- All that follows the ring: the result and the maximum over the devices are stored, and nothing is owed. -/
theorem wp_tail (c : Dev nD) (Q : PUnit → sProp 𝕄) :
    iprop(world X Wt K κ ∗ Release.heard hello Finset.univ ∗ (∃ f, at' c cc0_stg4_0 f) ∗ (∃ f, at' c cc0_stg5_0 f)
        ∗ bigSep Finset.univ (tellSeat (F := F) c) ∗ bigSep Finset.univ (hearA (F := F) c) ∗ debt c (left c 0)
        ∗ ((at' c cc0_stg4_0 (result X Wt c) ∗ at' c cc0_stg5_0 (peaks X Wt c 32) ∗ bigSep Finset.univ (tellEnd (F := F) c)
            ∗ bigSep Finset.univ (hearB (F := F) c) ∗ debt c ∅) -∗ Q ⟨⟩))
      ⊢ wp frame (wpE (defs₀ (F := F)) 𝒱₀ c none) Set.univ
          (pTail ybuf abuf harg mbuf cc0_scratch11 cc0_scratch12 c (block X Wt c)) Q := by
  simp only [pTail, Prog.lift, Prog.bind_op, Prog.bind_ret]
  iintro ⟨#Hw, #Hh, ⟨%f, Hy⟩, ⟨%g, Ha⟩, Hts, Hhs, HO, HQ⟩
  iapply (wp_load_rect 𝒱₀ (c : Thread nD τ) none Set.univ (m := ybuf) (Finset.subset_univ _)) $$ [Hy]
  · iexact Hy
  iintro Hy
  iapply (wp_store 𝒱₀ (c : Thread nD τ) none Set.univ (m := ybuf) (Finset.subset_univ _)) $$ [Hy]
  · iexact Hy
  iintro Hy
  iapply (wp_load_rect 𝒱₀ (c : Thread nD τ) none Set.univ (m := abuf) (Finset.subset_univ _)) $$ [Ha]
  · iexact Ha
  iintro Ha
  iapply (wp_store 𝒱₀ (c : Thread nD τ) none Set.univ (m := abuf) (Finset.subset_univ _)) $$ [Ha]
  · iexact Ha
  iintro Ha
  rw [y_write f (block X Wt c), a_write g (amaxOf (block X Wt c))]
  iapply (wp_load_rect 𝒱₀ (c : Thread nD τ) none Set.univ (m := abuf) (Finset.subset_univ _)) $$ [Ha]
  · iexact Ha
  iintro Ha
  rw [a_read]
  rw [wp_bind]
  ihave Ha := (lend_all X Wt c) $$ Ha
  iapply (wp_tell X Wt K κ c 32 0 rfl)
  isplitr; · iexact Hw
  isplitr; · iexact Hh
  isplitl [Ha Hts]
  · rw [up_zero, tellA_all]
    isplitl [Ha]; · iexact Ha
    iexact Hts
  isplitr
  · rw [lo_zero, bigSep_empty]; iempintro
  isplitl [HO]; · iexact HO
  iintro ⟨HB, HO⟩
  rw [wp_bind]
  iapply (wp_hear X Wt K κ c 32 0 rfl (k0_pay98 (amaxOf (block X Wt c))) rfl)
  isplitr; · iexact Hw
  isplitl [Hhs]; · rw [up_zero]; iexact Hhs
  isplitr
  · rw [lo_zero, bigSep_empty]; iempintro
  isplitl [HO]; · iexact HO
  iintro ⟨HhB, HO⟩
  rw [wp_bind]
  iapply (wp_sent X Wt K κ c 32 0 rfl)
  isplitr; · iexact Hw
  isplitl [HB]; · rw [up_zero]; iexact HB
  isplitr
  · rw [lo_zero, bigSep_empty]; iempintro
  isplitl [HO]; · iexact HO
  iintro ⟨HC, HO⟩
  ihave HC := (Entails.of_eq (tellC_all X Wt c)) $$ HC
  icases HC with ⟨Ha, HE⟩
  ihave Ha := (Entails.of_eq (lend X Wt c).symm) $$ Ha
  iapply (wp_load_rect 𝒱₀ (c : Thread nD τ) none Set.univ (m := abuf) (Finset.subset_univ _)) $$ [Ha]
  · iexact Ha
  iintro Ha
  iapply (wp_store 𝒱₀ (c : Thread nD τ) none Set.univ (m := abuf) (Finset.subset_univ _)) $$ [Ha]
  · iexact Ha
  iintro Ha
  iapply (wp_load_rect 𝒱₀ (c : Thread nD τ) none Set.univ (m := ybuf) (Finset.subset_univ _)) $$ [Hy]
  · iexact Hy
  iintro Hy
  iapply (wp_load_rect 𝒱₀ (c : Thread nD τ) none Set.univ (m := ybuf) (Finset.subset_univ _)) $$ [Hy]
  · iexact Hy
  iintro Hy
  iapply (wp_store 𝒱₀ (c : Thread nD τ) none Set.univ (m := ybuf) (Finset.subset_univ _)) $$ [Hy]
  · iexact Hy
  iintro Hy
  rw [wp_ret]
  imodintro
  iapply HQ
  isplitl [Hy]
  · rw [y_write, y_read]; unfold result; iexact Hy
  isplitl [Ha]
  · rw [a_write]; iexact Ha
  isplitl [HE]; · iexact HE
  isplitl [HhB]; · iexact HhB
  iexact HO

end

end Cert.KernelIdeal

end
-- ==== Proof.Store.lean ====
module

public import proofs.«01_k».proof.Proof.Tail
public import Idealize.ShloMosaic.Lib.Ring

@[expose] public section

/-!
# Buffers in slots

The scratch buffers taken apart into their slots and put together again, and what is held of all semaphores sorted by use.
-/

noncomputable section

namespace Cert.KernelIdeal

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen

variable {F : FTy → Type} [FloatOps F]

local notation "𝕄" => MT nD τ sig ℕ (Elt F) ℕ UT ℕ

/-- A slot is what lies at its place of the first axis. -/
theorem slot_mem (p : Fin 2) (i : S2x128x8192.Idx) :
    i ∈ (Rect.unit (s := S2x128x8192) (slotAt p) S1x128x8192.size (slotAt_inb p)).set ↔ (i 0).val = p.val := by
  refine (LoadRect.mem_set _).trans ?_
  constructor
  · intro h
    obtain ⟨j, hj, e⟩ := h 0
    have hj0 : j < 1 := hj
    have e0 : (i 0).val = p.val + 1 * j := e
    omega
  · intro h a
    fin_cases a
    · exact ⟨0, show 0 < 1 by decide, show (i 0).val = p.val + 1 * 0 by omega⟩
    · exact ⟨(i 1).val, (i 1).isLt, show (i 1).val = 0 + 1 * (i 1).val by omega⟩
    · exact ⟨(i 2).val, (i 2).isLt, show (i 2).val = 0 + 1 * (i 2).val by omega⟩

/-- An entry of the buffer of maxima is what lies at its place of the first axis. -/
theorem max_mem (j : Fin 32) (i : S32x1x1.Idx) :
    i ∈ (Rect.unit (s := S32x1x1) (![j.val, 0, 0] : Fin 3 → ℕ) S1x1x1.size (maxAt_inb j)).set ↔ (i 0).val = j.val := by
  refine (LoadRect.mem_set _).trans ?_
  constructor
  · intro h
    obtain ⟨k, hk, e⟩ := h 0
    have hk0 : k < 1 := hk
    have e0 : (i 0).val = j.val + 1 * k := e
    omega
  · intro h a
    fin_cases a
    · exact ⟨0, show 0 < 1 by decide, show (i 0).val = j.val + 1 * 0 by omega⟩
    · exact ⟨(i 1).val, (i 1).isLt, show (i 1).val = 0 + 1 * (i 1).val by omega⟩
    · exact ⟨(i 2).val, (i 2).isLt, show (i 2).val = 0 + 1 * (i 2).val by omega⟩

/-- A buffer in parts. -/
def Parts {ℓ : Loc nD τ sig} {n : ℕ} (I : Fin n → Finset (Idx ℓ)) : Prop :=
  (∀ p p', p ≠ p' → Disjoint (I p) (I p')) ∧ Finset.univ.biUnion I = Finset.univ

/-- The first axis parts a buffer. -/
theorem parts {s : Shape} (a : Fin s.rank) (I : Fin (s.size a) → Finset s.Idx) (h : ∀ p i, i ∈ I p ↔ (i a).val = p.val) :
    (∀ p p', p ≠ p' → Disjoint (I p) (I p')) ∧ Finset.univ.biUnion I = Finset.univ := by
  constructor
  · intro p p' hne
    rw [Finset.disjoint_left]
    intro i hi hi'
    exact hne (Fin.ext (((h p i).mp hi).symm.trans ((h p' i).mp hi')))
  · ext i
    simp only [Finset.mem_biUnion, Finset.mem_univ, true_and, iff_true]
    exact ⟨i a, (h _ _).mpr rfl⟩

/-- A scratch buffer at contents not named. -/
abbrev some' (c : Dev nD) (b : Ref sig .tc) : sProp 𝕄 := iprop(∃ f, ((c : Thread nD τ).loc b) ↦{fullShare} f)

/-- A buffer's slots taken apart. -/
theorem apart (ℓ : Loc nD τ sig) {n : ℕ} (I : Fin n → Finset (Idx ℓ)) (hI : Parts I) :
    (iprop(∃ f, ℓ ↦{fullShare} f) : sProp 𝕄) ⊢ bigSep Finset.univ fun p => Release.slot ℓ (I p) := by
  iintro ⟨%f, H⟩
  ihave H := (Entails.of_eq (Ring.pointsTo_blocks (Ix := ℕ) (Val := Elt F) (Name := ℕ) (U := UT) (Lvl := ℕ) I hI.1 hI.2 f)) $$ H
  have h (p : Fin n) : (ℓ ↦[I p]{fullShare} f : sProp 𝕄) ⊢ Release.slot ℓ (I p) := by
    unfold Release.slot
    iintro H; iexists f; iexact H
  have h' : (bigSep Finset.univ fun p => ℓ ↦[I p]{fullShare} f : sProp 𝕄) ⊢ bigSep Finset.univ fun p => Release.slot ℓ (I p) := bigSep_mono fun p _ => h p
  iapply h'; iexact H

/-- And put together. -/
theorem together (ℓ : Loc nD τ sig) {n : ℕ} (p₀ : Fin n) (I : Fin n → Finset (Idx ℓ)) (hI : Parts I) :
    (bigSep Finset.univ fun p => Release.slot ℓ (I p)) ⊢ (iprop(∃ f, ℓ ↦{fullShare} f) : sProp 𝕄) := by
  have h1 : (bigSep Finset.univ fun p => Release.slot ℓ (I p) : sProp 𝕄) = iprop(Release.slot ℓ (I p₀) ∗ bigSep (Finset.univ.erase p₀) fun p => Release.slot ℓ (I p)) :=
    bigSep_univ_split p₀
  have h2 (f₀ : Buf (Elt F) ℓ) : (ℓ ↦[I p₀]{fullShare} f₀ : sProp 𝕄) ⊢ Release.slot ℓ (I p₀) := by
    unfold Release.slot
    iintro H; iexists f₀; iexact H
  have h3 : (Release.slot ℓ (I p₀) : sProp 𝕄) ⊢ iprop(∃ f₀ : Buf (Elt F) ℓ, ℓ ↦[I p₀]{fullShare} f₀) := by
    unfold Release.slot; exact entails_refl (F := F)
  have h4 (f₀ : Buf (Elt F) ℓ) : (bigSep Finset.univ fun p => Release.slot ℓ (I p) : sProp 𝕄) ⊢ iprop(∃ f, ℓ ↦{fullShare} f) := by
    unfold Release.slot
    exact Ring.pointsTo_blocks_join_exists (Ix := ℕ) (Val := Elt F) (Name := ℕ) (U := UT) (Lvl := ℕ) I hI.1 hI.2 f₀
  rw [h1]
  iintro ⟨H0, H⟩
  ihave H0 := h3 $$ H0
  icases H0 with ⟨%f₀, H0⟩
  iapply (h4 f₀)
  rw [h1]
  isplitl [H0]
  · iapply (h2 f₀); iexact H0
  iexact H

/-- The places of entry `j` of the buffer of maxima. -/
abbrev maxSet (j : Fin 32) : Finset S32x1x1.Idx := (Rect.unit (s := S32x1x1) (![j.val, 0, 0] : Fin 3 → ℕ) S1x1x1.size (maxAt_inb j)).set

/-- The places of slot `p` of a two-slot buffer. -/
abbrev slotSet (p : Fin 2) : Finset S2x128x8192.Idx := (Rect.unit (s := S2x128x8192) (slotAt p) S1x128x8192.size (slotAt_inb p)).set

/-- An entry at some contents is its places at some contents. -/
theorem max_free (c : Dev nD) (j : Fin 32) : (free (maxView j) c : sProp 𝕄) = Release.slot ((c : Thread nD τ).loc cc0_scratch10) (maxSet j) :=
  congrArg (Release.slot ((c : Thread nD τ).loc cc0_scratch10)) (View.set_slice_whole cc0_scratch10 _)

/-- The buffer of maxima taken apart into its entries. -/
theorem max_apart (c : Dev nD) : (some' c cc0_scratch10 : sProp 𝕄) ⊢ bigSep Finset.univ fun j : Fin 32 => free (maxView j) c := by
  rw [funext (max_free (F := F) c)]
  exact apart ((c : Thread nD τ).loc cc0_scratch10) maxSet (parts (s := S32x1x1) 0 maxSet max_mem)

/-- The buffer of maxima put together from its entries. -/
theorem max_together (c : Dev nD) : (bigSep Finset.univ fun j : Fin 32 => free (maxView j) c) ⊢ (some' c cc0_scratch10 : sProp 𝕄) := by
  rw [funext (max_free (F := F) c)]
  exact together ((c : Thread nD τ).loc cc0_scratch10) 0 maxSet (parts (s := S32x1x1) 0 maxSet max_mem)

/-- The scratch buffers of a direction: what it sends from, what it receives into. -/
abbrev sref (b : Bool) : Ref sig .tc := bif b then cc0_scratch0 else cc0_scratch2

/-- The buffer of the slots a direction receives into. -/
abbrev rref (b : Bool) : Ref sig .tc := bif b then cc0_scratch1 else cc0_scratch3

/-- A resource for each of two slots is the two resources. -/
theorem two (Φ : Fin 2 → sProp 𝕄) : bigSep Finset.univ Φ = iprop(Φ 0 ∗ Φ 1) := BI.bigSep_fin_two Φ

/-- The two slots part their buffer. -/
theorem slot_parts : (∀ p p', p ≠ p' → Disjoint (slotSet p) (slotSet p')) ∧ Finset.univ.biUnion slotSet = Finset.univ :=
  parts (s := S2x128x8192) 0 slotSet slot_mem

/-- The buffer sent from taken apart into its slots. -/
theorem sbuf_apart (b : Bool) (c : Dev nD) : (some' c (sref b) : sProp 𝕄) ⊢ iprop(free (slotView (sbuf b) 0) c ∗ free (slotView (sbuf b) 1) c) := by
  rw [← two fun p => free (slotView (sbuf b) p) c]
  cases b
  · rw [show (fun p => (free (slotView (sbuf false) p) c : sProp 𝕄)) = fun p => Release.slot ((c : Thread nD τ).loc cc0_scratch2) (slotSet p) from
      funext fun p => congrArg (Release.slot ((c : Thread nD τ).loc cc0_scratch2)) (View.set_slice_whole cc0_scratch2 _)]
    exact apart ((c : Thread nD τ).loc cc0_scratch2) slotSet slot_parts
  · rw [show (fun p => (free (slotView (sbuf true) p) c : sProp 𝕄)) = fun p => Release.slot ((c : Thread nD τ).loc cc0_scratch0) (slotSet p) from
      funext fun p => congrArg (Release.slot ((c : Thread nD τ).loc cc0_scratch0)) (View.set_slice_whole cc0_scratch0 _)]
    exact apart ((c : Thread nD τ).loc cc0_scratch0) slotSet slot_parts

/-- The buffer sent from put together from its slots. -/
theorem sbuf_together (b : Bool) (c : Dev nD) : iprop(free (slotView (sbuf b) 0) c ∗ free (slotView (sbuf b) 1) c) ⊢ (some' c (sref b) : sProp 𝕄) := by
  rw [← two fun p => free (slotView (sbuf b) p) c]
  cases b
  · rw [show (fun p => (free (slotView (sbuf false) p) c : sProp 𝕄)) = fun p => Release.slot ((c : Thread nD τ).loc cc0_scratch2) (slotSet p) from
      funext fun p => congrArg (Release.slot ((c : Thread nD τ).loc cc0_scratch2)) (View.set_slice_whole cc0_scratch2 _)]
    exact together ((c : Thread nD τ).loc cc0_scratch2) 0 slotSet slot_parts
  · rw [show (fun p => (free (slotView (sbuf true) p) c : sProp 𝕄)) = fun p => Release.slot ((c : Thread nD τ).loc cc0_scratch0) (slotSet p) from
      funext fun p => congrArg (Release.slot ((c : Thread nD τ).loc cc0_scratch0)) (View.set_slice_whole cc0_scratch0 _)]
    exact together ((c : Thread nD τ).loc cc0_scratch0) 0 slotSet slot_parts

/-- The buffer received into taken apart into its slots. -/
theorem rbuf_apart (b : Bool) (c : Dev nD) : (some' c (rref b) : sProp 𝕄) ⊢ iprop(free (slotView (rbuf b) 0) c ∗ free (slotView (rbuf b) 1) c) := by
  rw [← two fun p => free (slotView (rbuf b) p) c]
  cases b
  · rw [show (fun p => (free (slotView (rbuf false) p) c : sProp 𝕄)) = fun p => Release.slot ((c : Thread nD τ).loc cc0_scratch3) (slotSet p) from
      funext fun p => congrArg (Release.slot ((c : Thread nD τ).loc cc0_scratch3)) (View.set_slice_whole cc0_scratch3 _)]
    exact apart ((c : Thread nD τ).loc cc0_scratch3) slotSet slot_parts
  · rw [show (fun p => (free (slotView (rbuf true) p) c : sProp 𝕄)) = fun p => Release.slot ((c : Thread nD τ).loc cc0_scratch1) (slotSet p) from
      funext fun p => congrArg (Release.slot ((c : Thread nD τ).loc cc0_scratch1)) (View.set_slice_whole cc0_scratch1 _)]
    exact apart ((c : Thread nD τ).loc cc0_scratch1) slotSet slot_parts

/-- The buffer received into put together from its slots. -/
theorem rbuf_together (b : Bool) (c : Dev nD) : iprop(free (slotView (rbuf b) 0) c ∗ free (slotView (rbuf b) 1) c) ⊢ (some' c (rref b) : sProp 𝕄) := by
  rw [← two fun p => free (slotView (rbuf b) p) c]
  cases b
  · rw [show (fun p => (free (slotView (rbuf false) p) c : sProp 𝕄)) = fun p => Release.slot ((c : Thread nD τ).loc cc0_scratch3) (slotSet p) from
      funext fun p => congrArg (Release.slot ((c : Thread nD τ).loc cc0_scratch3)) (View.set_slice_whole cc0_scratch3 _)]
    exact together ((c : Thread nD τ).loc cc0_scratch3) 0 slotSet slot_parts
  · rw [show (fun p => (free (slotView (rbuf true) p) c : sProp 𝕄)) = fun p => Release.slot ((c : Thread nD τ).loc cc0_scratch1) (slotSet p) from
      funext fun p => congrArg (Release.slot ((c : Thread nD τ).loc cc0_scratch1)) (View.set_slice_whole cc0_scratch1 _)]
    exact together ((c : Thread nD τ).loc cc0_scratch1) 0 slotSet slot_parts

/-! ## Semaphores and slots by use -/

/-- A resource for each direction is the two resources. -/
theorem both (Φ : Bool → sProp 𝕄) : bigSep Finset.univ Φ = iprop(Φ true ∗ Φ false) := by
  rw [show (Finset.univ : Finset Bool) = {true, false} from rfl, bigSep_insert (by decide), bigSep_singleton]; rfl

/-- A resource for each element of a sum is those for the elements of its two sides. -/
theorem sum' {A B : Type} [Fintype A] [Fintype B] (Φ : A ⊕ B → sProp 𝕄) :
    bigSep Finset.univ Φ = iprop(bigSep Finset.univ (fun a => Φ (.inl a)) ∗ bigSep Finset.univ fun b => Φ (.inr b)) := BI.bigSep_univ_sum Φ

/-- A resource for each slot of each direction is the four resources. -/
theorem four (Φ : Bool × Fin 2 → sProp 𝕄) : bigSep Finset.univ Φ = iprop((Φ (true, 0) ∗ Φ (true, 1)) ∗ Φ (false, 0) ∗ Φ (false, 1)) := by
  rw [bigSep_univ_prod, both, two, two]

/-- What is held of every own semaphore, by use. -/
theorem own_all (c : Dev nD) (Φ : GSem nD τ sig → sProp 𝕄) :
    (bigSep Finset.univ fun k : Own => Φ ((c : Thread nD τ), osem k))
      = iprop((Φ (crC true c) ∗ Φ (crC false c)) ∗ ((Φ (sC true c 0) ∗ Φ (sC true c 1)) ∗ Φ (sC false c 0) ∗ Φ (sC false c 1))
        ∗ ((Φ (rC true c 0) ∗ Φ (rC true c 1)) ∗ Φ (rC false c 0) ∗ Φ (rC false c 1))
        ∗ (bigSep Finset.univ fun j : Fin 32 => Φ (asC c j)) ∗ bigSep Finset.univ fun j : Fin 32 => Φ (arC c j)) := by
  rw [sum', sum', sum', sum', both, four, four]; rfl

/-- What is held of every slot of a device. -/
theorem key_all (c : Dev nD) (Φ : Key → sProp 𝕄) :
    (bigSep Finset.univ fun k : Bool × Fin 2 ⊕ Fin 32 => Φ (c, k))
      = iprop(((Φ (ringKey true c 0) ∗ Φ (ringKey true c 1)) ∗ Φ (ringKey false c 0) ∗ Φ (ringKey false c 1))
        ∗ bigSep Finset.univ fun j : Fin 32 => Φ (maxKey c j)) := by
  rw [sum', four]

end Cert.KernelIdeal

end
-- ==== Proof.Enter.lean ====
module

public import proofs.«01_k».proof.Proof.Turn
public import proofs.«01_k».proof.Proof.Store

@[expose] public section

/-!
# Entering and leaving

What a device is dealt, how it makes its slots ready before it greets its neighbours, the greeting, and how all its semaphores are
given back at the end.
-/

noncomputable section

namespace Cert.KernelIdeal

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen

variable {F : FTy → Type} [FloatOps F]

local notation "𝕄" => MT nD τ sig ℕ (Elt F) ℕ UT ℕ

/-- What is held of a semaphore at its start. -/
def fresh (g : GSem nD τ sig) : sProp 𝕄 := iprop(atPos ER g 0 ∅ 0 ∗ reached ER g 0)

/-- A device's own semaphores at their start. -/
def ownPos (c : Dev nD) : sProp 𝕄 := bigSep Finset.univ fun k : Own => fresh ((c : Thread nD τ), osem k)

/-- A device's slots, to be read by it. -/
def readers (c : Dev nD) : sProp 𝕄 := bigSep Finset.univ fun k : Bool × Fin 2 ⊕ Fin 32 => Release.readerAt ES ((c, k) : Key) 0

/-- The scratch buffers at any contents. -/
def scratch (c : Dev nD) : sProp 𝕄 :=
  iprop(some' c cc0_scratch0 ∗ some' c cc0_scratch1 ∗ some' c cc0_scratch2 ∗ some' c cc0_scratch3 ∗ some' c cc0_scratch10)

/-- All a direction's hops need. -/
def kits (b : Bool) (c : Dev nD) : sProp 𝕄 := bigSep (Finset.Ico 0 (hops b)) (kitAt b c)

/-- What the maximum sent to device `j` and the one awaited from it need. -/
def maxKit (c : Dev nD) (j : Fin 32) : sProp 𝕄 :=
  iprop(Release.writeTok ES (maxKey j c) 1
    ∗ if j = (c : Fin 32) then iprop(emp) else
        iprop((dutyTok ER (asC c j) 0 0 ∗ dutyTok ER (arC j c) 0 0) ∗ cred (tallyAt (arC c j) 0 Na)))

/-- What the greeting needs. -/
def barKit (c : Dev nD) : sProp 𝕄 :=
  iprop(atPos ER (barC c) 0 ∅ 0 ∗ (reached ER (barC (nb false c)) 0 ∗ reached ER (barC (nb true c)) 0)
    ∗ (dutyTok ER (barC (nb false c)) 0 1 ∗ dutyTok ER (barC (nb true c)) 0 0) ∗ cred (tallyAt (barC c) 0 2))

/-- All a device is dealt. -/
def hand (c : Dev nD) : sProp 𝕄 :=
  iprop(barKit c ∗ kits true c ∗ kits false c ∗ bigSep Finset.univ (maxKit (F := F) c) ∗ readers c)

section Enter

variable (X : Dev nD → Vec F S4096x128 .bf16) (Wt : Dev nD → Vec F S128x8192 .bf16)
variable (K : GSem nD τ sig → ℕ) (κ : Key → ℕ)

/-- A slot made ready to be written. -/
theorem give (k : Key) : iprop(world X Wt K κ ∗ Release.readerAt ES k 0 ∗ slotOf (F := F) k)
    ⊢ |={Set.univ}=> iprop(Release.readerAt ES k 1 ∗ Release.released ES k 1) := by
  iintro ⟨#Hw, Hr, Hs⟩
  iapply (Release.slot_release ES (S := slotOf (F := F) k) (Set.mem_univ _) (by
    unfold slotOf
    obtain ⟨c, ⟨b, p⟩ | j⟩ := k
    · exact Release.slot_slot_false (View.set_nonempty (v := (slotView (rbuf b) p)) (by decide))
    · exact Release.slot_slot_false (View.set_nonempty (v := (maxView j)) (by decide))) 0)
  isplitr; · iapply (world_slot X Wt K κ k); iexact Hw
  isplitl [Hr]; · iexact Hr
  iexact Hs

/-- A direction once its slots are ready. -/
def dirS (b : Bool) (c : Dev nD) : sProp 𝕄 :=
  iprop((sendReady b c 0 ∗ sendReady b c 1) ∗ (recvSt b c 0 ∗ recvSt b c 1) ∗ atPos ER (crC b c) 0 ∅ 0)

/-- A direction's slots made ready. -/
theorem enter_dir (b : Bool) (c : Dev nD) :
    iprop(world X Wt K κ ∗ (some' c (sref b) ∗ some' c (rref b)) ∗ (Release.readerAt ES (ringKey b c 0) 0 ∗ Release.readerAt ES (ringKey b c 1) 0)
        ∗ fresh (crC b c) ∗ (fresh (sC b c 0) ∗ fresh (sC b c 1)) ∗ (fresh (rC b c 0) ∗ fresh (rC b c 1)))
      ⊢ |={Set.univ}=> iprop(dirS b c ∗ (readyAt b c 0 ∗ readyAt b c 1) ∗ reached ER (crC b c) 0) := by
  unfold fresh
  iintro ⟨#Hw, ⟨Hsb, Hrb⟩, ⟨Hr0, Hr1⟩, ⟨Hcr, #Hcr'⟩, ⟨⟨Hs0, #Hs0'⟩, ⟨Hs1, #Hs1'⟩⟩, ⟨Hv0, #Hv0'⟩, ⟨Hv1, #Hv1'⟩⟩
  ihave Hsb := (sbuf_apart b c) $$ Hsb
  ihave Hrb := (rbuf_apart b c) $$ Hrb
  icases Hsb with ⟨Hsb0, Hsb1⟩
  icases Hrb with ⟨Hrb0, Hrb1⟩
  imod (give X Wt K κ (ringKey b c 0)) $$ [Hr0 Hrb0] with ⟨Hr0, #Hl0⟩
  · isplitr; · iexact Hw
    isplitl [Hr0]; · iexact Hr0
    iapply (Entails.of_eq (show (free (slotView (rbuf b) 0) c : sProp 𝕄) = slotOf (ringKey b c 0) from rfl)); iexact Hrb0
  imod (give X Wt K κ (ringKey b c 1)) $$ [Hr1 Hrb1] with ⟨Hr1, #Hl1⟩
  · isplitr; · iexact Hw
    isplitl [Hr1]; · iexact Hr1
    iapply (Entails.of_eq (show (free (slotView (rbuf b) 1) c : sProp 𝕄) = slotOf (ringKey b c 1) from rfl)); iexact Hrb1
  imodintro
  have h0 : 0 < hops b := by cases b <;> decide
  have h1 : 1 < hops b := by cases b <;> decide
  unfold dirS sendReady recvSt readyAt
  rw [if_pos h0, if_pos h1]
  isplitl [Hsb0 Hs0 Hsb1 Hs1 Hr0 Hv0 Hr1 Hv1 Hcr]
  · isplitl [Hsb0 Hs0 Hsb1 Hs1]
    · isplitl [Hsb0 Hs0]
      · isplitl [Hsb0]; · iexact Hsb0
        isplitl [Hs0]; · iexact Hs0
        iexact Hs0'
      · isplitl [Hsb1]; · iexact Hsb1
        isplitl [Hs1]; · iexact Hs1
        iexact Hs1'
    isplitl [Hr0 Hv0 Hr1 Hv1]
    · isplitl [Hr0 Hv0]
      · isplitl [Hv0]; · iexact Hv0
        iexact Hr0
      · isplitl [Hv1]; · iexact Hv1
        iexact Hr1
    iexact Hcr
  isplitr
  · isplitr
    · isplitr; · iexact Hl0
      iexact Hv0'
    · isplitr; · iexact Hl1
      iexact Hv1'
  iexact Hcr'

/-- The slots of the maxima made ready. -/
theorem enter_max (c : Dev nD) :
    iprop(world X Wt K κ ∗ some' c cc0_scratch10 ∗ bigSep Finset.univ fun j : Fin 32 => Release.readerAt ES (maxKey c j) 0)
      ⊢ |={Set.univ}=> (bigSep Finset.univ fun j : Fin 32 => Release.released ES (maxKey c j) 1 : sProp 𝕄) := by
  iintro ⟨#Hw, Hm, Hr⟩
  ihave Hm := (max_apart c) $$ Hm
  have h1 : iprop(world X Wt K κ ∗ bigSep Finset.univ fun j : Fin 32 => iprop(Release.readerAt ES (maxKey c j) 0 ∗ free (maxView j) c))
      ⊢ bigSep Finset.univ fun j : Fin 32 => iprop(|={Set.univ}=> Release.released ES (maxKey c j) 1) :=
    bigSep_with_persistent fun j _ => (show iprop(world X Wt K κ ∗ Release.readerAt ES (maxKey c j) 0 ∗ free (maxView j) c) ⊢ _ from give X Wt K κ (maxKey c j)).trans (BI.fupd_mono (by iintro ⟨-, H⟩; iexact H))
  iapply (bigSep_fupd _ _)
  iapply h1
  isplitr; · iexact Hw
  rw [bigSep_sep']
  isplitl [Hr]; · iexact Hr
  iexact Hm

/-- A device's slots made ready: what it greets with, and the directions and the exchange at their start. -/
theorem enter (c : Dev nD) :
    iprop(world X Wt K κ ∗ ownPos c ∗ readers c ∗ scratch c)
      ⊢ |={Set.univ}=> iprop(hello c ∗ dirS true c ∗ dirS false c ∗ (bigSep Finset.univ fun j : Fin 32 => fresh (asC c j))
          ∗ bigSep Finset.univ fun j : Fin 32 => atPos ER (arC c j) 0 ∅ 0) := by
  unfold ownPos readers scratch
  rw [own_all, key_all c fun k => Release.readerAt ES k 0]
  iintro ⟨#Hw, ⟨⟨Hct, Hcf⟩, ⟨Hst, Hsf⟩, ⟨Hrt, Hrf⟩, Has, Har⟩, ⟨⟨Hkt, Hkf⟩, Hkm⟩, H0, H1, H2, H3, H10⟩
  imod (enter_dir X Wt K κ true c) $$ [Hct Hst Hrt Hkt H0 H1] with ⟨Ht, #Htr, #Htc⟩
  · isplitr; · iexact Hw
    isplitl [H0 H1]
    · isplitl [H0]; · iexact H0
      iexact H1
    isplitl [Hkt]; · iexact Hkt
    isplitl [Hct]; · iexact Hct
    isplitl [Hst]; · iexact Hst
    iexact Hrt
  imod (enter_dir X Wt K κ false c) $$ [Hcf Hsf Hrf Hkf H2 H3] with ⟨Hf, #Hfr, #Hfc⟩
  · isplitr; · iexact Hw
    isplitl [H2 H3]
    · isplitl [H2]; · iexact H2
      iexact H3
    isplitl [Hkf]; · iexact Hkf
    isplitl [Hcf]; · iexact Hcf
    isplitl [Hsf]; · iexact Hsf
    iexact Hrf
  imod (enter_max X Wt K κ c) $$ [H10 Hkm] with #Hm
  · isplitr; · iexact Hw
    isplitl [H10]; · iexact H10
    iexact Hkm
  imodintro
  have har : (bigSep Finset.univ fun j : Fin 32 => fresh (F := F) (arC c j))
      = iprop((bigSep Finset.univ fun j : Fin 32 => atPos ER (arC c j) 0 ∅ 0) ∗ bigSep Finset.univ fun j : Fin 32 => reached ER (arC c j) 0) :=
    bigSep_sep' _ _ _
  ihave Har := (Entails.of_eq har) $$ Har
  icases Har with ⟨Har, #Har'⟩
  unfold hello
  isplitr
  · isplitr; · iexact Htr
    isplitr; · iexact Hfr
    isplitr
    · isplitr; · iexact Htc
      iexact Hfc
    rw [bigSep_sep']
    isplitr; · iexact Hm
    iexact Har'
  isplitl [Ht]; · iexact Ht
  isplitl [Hf]; · iexact Hf
  isplitl [Has]; · iexact Has
  iexact Har

/-- A direction at its first hop. -/
theorem enter_start (b : Bool) (c : Dev nD) (hr : hello c ⊢ iprop(readyAt (F := F) b c 0 ∗ readyAt b c 1)) :
    iprop(hello c ∗ kits b c ∗ dirS b c) ⊢ dirA (F := F) b c 0 := by
  unfold kits dirS dirA
  iintro ⟨#Hh, Hk, Hs, Hr, Hc⟩
  isplitl [Hk]; · iexact Hk
  have hs (i : ℕ) (hi : i < 2) : sendSt (F := F) b c i = sendReady b c i := by unfold sendSt; rw [if_pos hi]
  rw [hs 0 (by decide), hs (0 + 1) (by decide)]
  isplitl [Hs]; · iexact Hs
  isplitl [Hr]; · iexact Hr
  isplitl [Hc]
  · unfold credSt
    rw [if_pos (show 0 - 2 < creds b by cases b <;> decide)]
    iexists ∅
    isplitr; · ipureintro; exact ⟨Finset.empty_subset _, Nat.zero_le _⟩
    isplitl [Hc]; · iexact Hc
    rw [bigSep_empty]
    iempintro
  isplitr
  · unfold readies
    rw [show min (0 + 2) (hops b) = 2 by cases b <;> rfl, show Finset.range 2 = {0, 1} from rfl, bigSep_insert (show (0 : ℕ) ∉ ({1} : Finset ℕ) by decide), bigSep_singleton]
    iapply hr
    iexact Hh
  iapply (Release.heard_single (Φ := hello (F := F)) c)
  iexact Hh

/-! ## The greeting -/

/-- A neighbour greeted. -/
theorem wp_greet (b : Bool) (c : Dev nD) (T : Finset Debt) (hT : Debt.bar b ∈ T) (Q : PUnit → sProp 𝕄) :
    iprop(world X Wt K κ ∗ hello c ∗ reached ER (barC (nb b c)) 0 ∗ dutyTok ER (barC (nb b c)) 0 (bif b then 0 else 1) ∗ debt c T
        ∗ (debt c (T.erase (.bar b)) -∗ Q ⟨⟩))
      ⊢ wp frame (wpE (defs₀ (F := F)) 𝒱₀ c none) Set.univ (semSignalWord (nb b c) (sig.barrier 0 rfl) 1#32) Q := by
  have hd : (bif b then 0 else 1) ∈ (Rd X Wt).duties (barC (nb b c)) 0 := by
    rw [duties_tc, use_bar]; cases b <;> simp [dutiesAt]
  have hp : (Rd X Wt).payload (barC (nb b c)) 0 (bif b then 0 else 1) = hello (F := F) c := by
    rw [payload_tc, use_bar]
    show hello (nb (decide ((bif b then 0 else 1) = 1)) (nb b c)) = _
    rw [show (decide ((bif b then 0 else 1) = 1)) = !b by cases b <;> rfl, nb_nb]
  unfold debt
  iintro ⟨#Hw, #Hh, #Hr, Ht, ⟨%W, HO⟩, HQ⟩
  iapply (Rounds.wp_signal 𝒱₀ ER (Rd X Wt) (c : Thread nD τ) none (dst := (nb b c : Thread nD τ)) (sem := sig.barrier 0 rfl) (r := 0)
    (d := bif b then 0 else 1) (k' := 1) (κ := K (barC (nb b c))) hd (by rw [amount_tc, use_bar]; rfl) 0
    (owing c (T.erase (.bar b))) (owing_erase c hT) (W := W)) $$ [HO Ht]
  · isplitr; · iapply (world_cell X Wt K κ (mem_bar (nb b c))); iexact Hw
    isplitl [HO]; · iexact HO
    isplitl [Ht]; · iexact Ht
    isplitr; · rw [hp]; iexact Hh
    iexact Hr
  iintro HO
  rw [wp_ret]
  imodintro
  iapply HQ
  iexists W; iexact HO

/-- Both neighbours' greetings awaited. -/
theorem wp_greeted (c : Dev nD) (T : Finset Debt) (hT : ∀ x ∈ T, 1 < x.due) (Q : PUnit → sProp 𝕄) :
    iprop(world X Wt K κ ∗ atPos ER (barC c) 0 ∅ 0 ∗ cred (tallyAt (barC c) 0 2) ∗ debt c T
        ∗ ((hello (nb true c) ∗ hello (nb false c) ∗ atPos ER (barC c) 1 ∅ 0 ∗ debt c T) -∗ Q ⟨⟩))
      ⊢ wp frame (wpE (defs₀ (F := F)) 𝒱₀ c none) Set.univ (semWaitWord (sig.barrier 0 rfl) 2#32) Q := by
  have hd : (Rd X Wt).duties (barC c) 0 = {0, 1} := by rw [duties_tc, use_bar]; rfl
  have hx : (Rd X Wt).expect (barC c) 0 = 2 := by rw [expect_tc, use_bar]; rfl
  unfold debt
  iintro ⟨#Hw, Hat, Hc, ⟨%W, HO⟩, HQ⟩
  iapply (Rounds.wp_wait_rest_token 𝒱₀ ER (Rd X Wt) (c : Thread nD τ) none (κ := K (barC c)) (k' := 2)
    (wpE_semWait_eq 𝒱₀ (c : Thread nD τ) none Set.univ)
    (Set.mem_univ _) 0 (O := owing c T) (W := W) (R := 0) (m := 0) (T := ∅)
    ((Nat.zero_add _).trans hx.symm)) $$ [Hat Hc HO]
  · isplitr; · iapply (world_cell X Wt K κ (mem_bar c)); iexact Hw
    isplitl [Hc]; · iexact Hc
    isplitl [HO]; · iexact HO
    isplitr
    · iapply (mayWait X Wt K κ c T _ 0 1 (Nat.zero_lt_succ _) (by rw [use_bar]; exact le_rfl) hT); iexact Hw
    iexact Hat
  have hall : bigSep ({0, 1} : Finset ℕ) ((Rd X Wt).payload (barC c) 0) = iprop(hello (F := F) (nb false c) ∗ hello (nb true c)) := by
    rw [bigSep_insert (show (0 : ℕ) ∉ ({1} : Finset ℕ) by decide), bigSep_singleton,
      show (Rd X Wt).payload (barC c) 0 0 = hello (F := F) (nb false c) by rw [payload_tc, use_bar]; rfl,
      show (Rd X Wt).payload (barC c) 0 1 = hello (F := F) (nb true c) by rw [payload_tc, use_bar]; rfl]
    rfl
  rw [hd, Finset.sdiff_empty, hall]
  iintro ⟨HO, Hat, -, Hp⟩
  icases Hp with ⟨Hf, Ht⟩
  rw [wp_ret]
  imodintro
  iapply HQ
  isplitl [Ht]; · iexact Ht
  isplitl [Hf]; · iexact Hf
  isplitl [Hat]; · iexact Hat
  iexists _; iexact HO

end Enter

end Cert.KernelIdeal

end
-- ==== Proof.Deal.lean ====
module

public import proofs.«01_k».proof.Proof.Enter
public import Idealize.ShloMosaic.Lib.Pipeline.Regions

@[expose] public section

/-!
# The deal

At launch every device's credits, tokens and rights are dealt: to each the tokens of the duties it pays and of the slots it writes,
and the credits of what it waits for.
-/

noncomputable section

namespace Cert.KernelIdeal

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen

variable {F : FTy → Type} [FloatOps F]

local notation "𝕄" => MT nD τ sig ℕ (Elt F) ℕ UT ℕ

/-! ## Over the first numbers -/

/-- A resource for each of the `n` numbers below `n`, either way of counting them. -/
theorem fin_range (n : ℕ) (Φ : ℕ → sProp 𝕄) : (bigSep Finset.univ fun s : Fin n => Φ s.val) = bigSep (Finset.range n) Φ := by
  have h : (Finset.univ.map (Fin.valEmbedding (n := n))) = Finset.range n := by
    ext i; simp only [Finset.mem_map, Finset.mem_univ, true_and, Finset.mem_range]
    exact ⟨fun ⟨a, e⟩ => e ▸ a.isLt, fun h => ⟨⟨i, h⟩, rfl⟩⟩
  rw [← h, bigSep_map]; rfl

/-- Of resources given only below `h`, those below `h`. -/
theorem upto {n h : ℕ} (hn : h ≤ n) (Φ : ℕ → sProp 𝕄) :
    (bigSep Finset.univ fun s : Fin n => if s.val < h then Φ s.val else iprop(emp)) ⊢ bigSep (Finset.range h) Φ := by
  rw [fin_range n fun s => if s < h then Φ s else iprop(emp)]
  refine (bigSep_subset (Finset.range_subset_range.mpr hn)).trans (bigSep_mono fun s hs => ?_)
  rw [if_pos (Finset.mem_range.mp hs)]; exact BI.Entails.refl _

/-- Of resources below `n`, those below a smaller `h`. -/
theorem upto' {n h : ℕ} (hn : h ≤ n) (Φ : ℕ → sProp 𝕄) : (bigSep Finset.univ fun s : Fin n => Φ s.val) ⊢ bigSep (Finset.range h) Φ := by
  rw [fin_range n Φ]
  exact bigSep_subset (Finset.range_subset_range.mpr hn)

/-- Resources up to `n` are the one at `n` and those below it. -/
theorem more (n : ℕ) (Φ : ℕ → sProp 𝕄) : bigSep (Finset.range (n + 1)) Φ = iprop(Φ n ∗ bigSep (Finset.range n) Φ) := by
  rw [Finset.range_add_one, bigSep_insert Finset.notMem_range_self]; rfl

/-- Nothing thrice. -/
theorem none3 : (iprop(emp) : sProp 𝕄) ⊢ iprop(emp ∗ emp ∗ emp) := by
  iintro -
  isplitr; · iempintro
  isplitr; · iempintro
  iempintro

/-- A thing let go. -/
theorem gone (A : sProp 𝕄) : A ⊢ iprop(emp) := by
  iintro -
  iempintro

/-- Nothing at the end. -/
theorem pad (k e : ℕ) (Φ : ℕ → sProp 𝕄) :
    bigSep (Finset.range k) Φ ⊢ bigSep (Finset.range (k + e)) fun i => if i < k then Φ i else iprop(emp) := by
  induction e with
  | zero =>
    refine bigSep_mono fun s hs => ?_
    rw [if_pos (Finset.mem_range.mp hs)]; exact BI.Entails.refl _
  | succ e ih =>
    rw [← Nat.add_assoc, more (k + e), if_neg (by omega)]
    refine ih.trans ?_
    iintro H
    isplitr; · iempintro
    iexact H

/-- Nothing at the first two. -/
theorem late (k : ℕ) (Φ : ℕ → sProp 𝕄) :
    bigSep (Finset.range k) Φ ⊢ bigSep (Finset.range (k + 2)) fun i => if 2 ≤ i then Φ (i - 2) else iprop(emp) := by
  induction k with
  | zero =>
    rw [show (0 + 2 : ℕ) = 0 + 1 + 1 from rfl, more, more, if_neg (by omega), if_neg (by omega)]
    rw [Finset.range_zero, bigSep_empty, bigSep_empty]
    exact none3
  | succ k ih =>
    rw [show k + 1 + 2 = k + 2 + 1 from rfl, more, more (k + 2), if_pos (by omega), show k + 2 - 2 = k by omega]
    iintro ⟨H, Hr⟩
    isplitl [H]; · iexact H
    iapply ih; iexact Hr

/-! ## Credits -/

/-- What a device owes at launch. -/
def O₀ (c : Dev nD) : CellTallies nD τ sig ℕ := owing c (rem c 0)

/-- A debt of every device, where it is one. -/
def dueOf (x : Debt) (d : Dev nD) : CellTallies nD τ sig ℕ := if x.real d = true then tallyAt (x.cell d) x.ix x.amt else 0

/-- What the devices owe at launch is the sum over the debts. -/
theorem O₀_sum : (O₀ : Dev nD → CellTallies nD τ sig ℕ) = fun d => ∑ x ∈ (Finset.univ : Finset Debt), dueOf x d := by
  funext d
  unfold O₀ owing rem dueOf
  rw [Finset.sum_filter]
  refine Finset.sum_congr rfl fun x _ => ?_
  simp

/-- The launch's credit for one neighbour's greeting. -/
theorem launch_bar (b : Bool) (c : Dev nD) : (Pipeline.launchCred (dueOf (.bar b)) c : sProp 𝕄) ⊢ cred (tallyAt (barC c) 0 1) :=
  Pipeline.launchCred_tallyAt (.reg (sig.barrier 0 rfl)) (nb b) (nb (!b)) (fun c => nb_nb' b c) (fun c => nb_nb b c) 0 1 c

/-- The launch's credit for the arrival of a message, if the direction has that message. -/
theorem launch_msg (b : Bool) (s : Fin 16) (c : Dev nD) :
    (Pipeline.launchCred (dueOf (.msg b s)) c : sProp 𝕄) ⊢ if s.val < hops b then cred (tallyAt (rC b c (par s)) s.val N) else iprop(emp) := by
  by_cases h : s.val < hops b
  · rw [if_pos h, show dueOf (.msg b s) = fun d => tallyAt (rC b (nb b d) (par s)) s.val N from
      funext fun d => if_pos (decide_eq_true h)]
    exact Pipeline.launchCred_tallyAt (.dma (semOf (rsem b) (par s))) (nb b) (nb (!b)) (fun c => nb_nb' b c) (fun c => nb_nb b c) s.val N c
  · rw [if_neg h]; exact gone _

/-- The launch's credit for a credit, if the direction has that credit. -/
theorem launch_cred (b : Bool) (d : Fin 14) (c : Dev nD) :
    (Pipeline.launchCred (dueOf (.cred b d)) c : sProp 𝕄) ⊢ if d.val < creds b then cred (tallyAt (crC b c) d.val 1) else iprop(emp) := by
  by_cases h : d.val < creds b
  · rw [if_pos h, show dueOf (.cred b d) = fun e => tallyAt (crC b (nb (!b) e)) d.val 1 from
      funext fun e => if_pos (decide_eq_true h)]
    exact Pipeline.launchCred_tallyAt (.reg (crs b).sem) (nb (!b)) (nb b) (fun c => nb_nb b c) (fun c => nb_nb' b c) d.val 1 c
  · rw [if_neg h]; exact gone _

/-- Different devices' maxima arrive on different semaphores. -/
theorem arcv_inj : Function.Injective fun j : Fin 32 => (SemLoc.dma (cellOf cc0_scratch12 j) : SemLoc sig) := fun a b h => by
  have := congrArg useOf h
  simp only [use_arcv, Use.arcv.injEq] at this
  exact this

/-- The launch's credits for the arrivals of the other devices' maxima. -/
theorem launch_peak (c : Dev nD) :
    (Pipeline.launchCred (dueOf (.peak (c : Fin 32))) c : sProp 𝕄)
      ⊢ bigSep Finset.univ fun j : Fin 32 => if j = (c : Fin 32) then iprop(emp) else cred (tallyAt (arC c j) 0 Na) := by
  unfold Pipeline.launchCred
  refine (bigSep_subset (Finset.subset_univ (Finset.univ.map ⟨_, arcv_inj⟩))).trans ?_
  rw [bigSep_map]
  refine bigSep_mono fun j _ => ?_
  by_cases h : j = (c : Fin 32)
  · rw [if_pos h]; exact gone _
  · rw [if_neg h]
    refine Entails.of_eq (congrArg cred ?_)
    show tallyOn (arC c j) (launchCredit (Pipeline.owing (dueOf (.peak (c : Fin 32)))) 0 (arC c j)) = _
    unfold tallyAt
    refine congrArg _ (Finsupp.ext fun i => ?_)
    rw [Pipeline.launchCredit_owing, Finset.sum_eq_single (j : Dev nD)]
    · unfold dueOf
      rw [if_pos (by simpa [Debt.real] using fun e => h e.symm)]
      show tallyAt (arC c j) 0 Na (arC c j) i = _
      rw [tallyAt_apply, Finsupp.single_apply]
      simp [eq_comm]
    · intro d _ hd
      unfold dueOf
      split
      · show tallyAt (arC c (d : Fin 32)) 0 Na (arC c j) i = 0
        rw [tallyAt_apply, if_neg]
        rintro ⟨e, -⟩
        exact hd (arcv_inj (congrArg Prod.snd e)).symm
      · rfl
    · intro hn; exact absurd (Finset.mem_univ _) hn

/-- The credits of all a device waits for. -/
def credits (c : Dev nD) : sProp 𝕄 :=
  iprop(cred (tallyAt (barC c) 0 2)
    ∗ ((bigSep (Finset.Ico 0 (hops true)) fun i => cred (tallyAt (rC true c (par i)) i N))
      ∗ (bigSep (Finset.Ico 0 (hops false)) fun i => cred (tallyAt (rC false c (par i)) i N)))
    ∗ ((bigSep (Finset.Ico 0 (hops true)) fun i => if 2 ≤ i then cred (tallyAt (crC true c) (i - 2) 1) else iprop(emp))
      ∗ (bigSep (Finset.Ico 0 (hops false)) fun i => if 2 ≤ i then cred (tallyAt (crC false c) (i - 2) 1) else iprop(emp)))
    ∗ bigSep Finset.univ fun j : Fin 32 => if j = (c : Fin 32) then iprop(emp) else cred (tallyAt (arC c j) 0 Na))

/-- All of the launch's credits dealt to a device. -/
theorem deal_credits (c : Dev nD) : (Pipeline.launchCred O₀ c : sProp 𝕄) ⊢ credits c := by
  rw [O₀_sum, Pipeline.launchCred_sum, bigSep_univ_equiv debtEquiv, sum', sum', sum', both, bigSep_univ_prod, bigSep_univ_prod, both, both]
  have hm (b : Bool) : (bigSep Finset.univ fun s : Fin 16 => Pipeline.launchCred (dueOf (.msg b s)) c : sProp 𝕄)
      ⊢ bigSep (Finset.Ico 0 (hops b)) fun i => cred (tallyAt (rC b c (par i)) i N) := by
    rw [← Finset.range_eq_Ico]
    exact (bigSep_mono fun s _ => launch_msg b s c).trans (upto (n := 16) (h := hops b) (by cases b <;> decide) fun i => cred (tallyAt (rC b c (par i)) i N))
  have hc (b : Bool) : (bigSep Finset.univ fun d : Fin 14 => Pipeline.launchCred (dueOf (.cred b d)) c : sProp 𝕄)
      ⊢ bigSep (Finset.Ico 0 (hops b)) fun i => if 2 ≤ i then cred (tallyAt (crC b c) (i - 2) 1) else iprop(emp) := by
    rw [← Finset.range_eq_Ico, show hops b = creds b + 2 by cases b <;> rfl]
    exact ((bigSep_mono fun s _ => launch_cred b s c).trans (upto (n := 14) (h := creds b) (by cases b <;> decide) fun i => cred (tallyAt (crC b c) i 1))).trans (late (creds b) fun i => cred (tallyAt (crC b c) i 1))
  have hp : (bigSep Finset.univ fun j : Fin 32 => Pipeline.launchCred (dueOf (.peak j)) c : sProp 𝕄) ⊢ Pipeline.launchCred (dueOf (.peak (c : Fin 32))) c :=
    bigSep_elim (Finset.mem_univ _)
  unfold credits
  iintro ⟨⟨Hb0, Hb1⟩, ⟨Hm0, Hm1⟩, ⟨Hc0, Hc1⟩, Hp⟩
  isplitl [Hb0 Hb1]
  · rw [← tallyAt_add (barC c) 0 1 1]
    iapply (cred_add _ _).2
    isplitl [Hb0]
    · iapply (launch_bar true c); iexact Hb0
    · iapply (launch_bar false c); iexact Hb1
  isplitl [Hm0 Hm1]
  · isplitl [Hm0]
    · iapply (hm true); iexact Hm0
    · iapply (hm false); iexact Hm1
  isplitl [Hc0 Hc1]
  · isplitl [Hc0]
    · iapply (hc true); iexact Hc0
    · iapply (hc false); iexact Hc1
  iapply (launch_peak c)
  iapply hp
  iexact Hp

/-! ## Duties' tokens -/

/-- The duties a device pays. -/
abbrev TokIx : Type := Bool ⊕ (Bool × Fin 16) ⊕ (Bool × Fin 16) ⊕ (Bool × Fin 14) ⊕ Fin 32 ⊕ Fin 32

/-- The semaphore, round and duty of each duty a device pays. -/
def tokOf (c : Dev nD) : TokIx → GSem nD τ sig × ℕ × ℕ
  | .inl b => (barC (nb b c), 0, bif b then 0 else 1)
  | .inr (.inl x) => (sC x.1 c (par x.2), x.2.val / 2, 0)
  | .inr (.inr (.inl x)) => (rC x.1 (nb x.1 c) (par x.2), x.2.val / 2, 0)
  | .inr (.inr (.inr (.inl x))) => (crC x.1 (nb (!x.1) c), 0, x.2.val)
  | .inr (.inr (.inr (.inr (.inl j)))) => (asC c j, 0, 0)
  | .inr (.inr (.inr (.inr (.inr j)))) => (arC j c, 0, 0)

/-- The payer and the duty told from where it is paid. -/
def payer : Use → Dev nD → ℕ → ℕ → Dev nD × TokIx
  | .none, g, _, _ => (g, .inl true)
  | .bar, g, _, d => (nb (!decide (d = 0)) g, .inl (decide (d = 0)))
  | .snd b p, g, r, _ => (g, .inr (.inl (b, ⟨(2 * r + p.val) % 16, Nat.mod_lt _ (by decide)⟩)))
  | .rcv b p, g, r, _ => (nb (!b) g, .inr (.inr (.inl (b, ⟨(2 * r + p.val) % 16, Nat.mod_lt _ (by decide)⟩))))
  | .cr b, g, _, d => (nb b g, .inr (.inr (.inr (.inl (b, ⟨d % 14, Nat.mod_lt _ (by decide)⟩)))))
  | .asnd j, g, _, _ => (g, .inr (.inr (.inr (.inr (.inl j)))))
  | .arcv j, g, _, _ => ((j : Dev nD), .inr (.inr (.inr (.inr (.inr (g : Fin 32))))))

/-- A message's number told from its round and slot. -/
theorem back (s : Fin 16) : (⟨(2 * (s.val / 2) + (par s.val).val) % 16, Nat.mod_lt _ (by decide)⟩ : Fin 16) = s := by
  apply Fin.ext
  show (2 * (s.val / 2) + s.val % 2) % 16 = s.val
  omega

/-- The payer told from a duty is the device that pays it. -/
theorem payer_tokOf (c : Dev nD) (k : TokIx) :
    payer (useOf (tokOf c k).1.2) (tokOf c k).1.1.1 (tokOf c k).2.1 (tokOf c k).2.2 = (c, k) := by
  rcases k with b | ⟨b, s⟩ | ⟨b, s⟩ | ⟨b, d⟩ | j | j
  · show payer (useOf (.reg (sig.barrier 0 rfl))) (nb b c) 0 _ = _
    rw [use_bar]
    cases b
    · exact Prod.ext (nb_nb false c) rfl
    · exact Prod.ext (nb_nb true c) rfl
  · show payer (useOf (.dma (semOf (ssem b) (par s)))) c _ 0 = _
    rw [use_snd]
    exact Prod.ext rfl (congrArg (fun s => Sum.inr (Sum.inl (b, s))) (back s))
  · show payer (useOf (.dma (semOf (rsem b) (par s)))) (nb b c) _ 0 = _
    rw [use_rcv]
    exact Prod.ext (nb_nb b c) (congrArg (fun s => Sum.inr (Sum.inr (Sum.inl (b, s)))) (back s))
  · show payer (useOf (.reg (crs b).sem)) (nb (!b) c) 0 d = _
    rw [use_cr]
    refine Prod.ext (nb_nb' b c) ?_
    show Sum.inr (Sum.inr (Sum.inr (Sum.inl (b, _)))) = _
    congr 5
    exact Fin.ext (Nat.mod_eq_of_lt d.isLt)
  · show payer (useOf (.dma (cellOf cc0_scratch11 j))) c 0 0 = _
    rw [use_asnd]; rfl
  · show payer (useOf (.dma (cellOf cc0_scratch12 c))) (j : Dev nD) 0 0 = _
    rw [use_arcv]; rfl

/-- All duties' tokens. -/
def tokens : Finset (GSem nD τ sig × ℕ × ℕ) := Finset.univ.map ⟨fun x : Dev nD × TokIx => tokOf x.1 x.2, fun a b h => by
  have h' : tokOf a.1 a.2 = tokOf b.1 b.2 := h
  have ha := payer_tokOf a.1 a.2
  rw [h', payer_tokOf] at ha
  exact ha.symm⟩

/-- The tokens of the duties a device pays. -/
def pays (c : Dev nD) : sProp 𝕄 := bigSep Finset.univ fun k : TokIx => dutyTok ER (tokOf c k).1 (tokOf c k).2.1 (tokOf c k).2.2

/-- All duties' tokens dealt to the devices that pay them. -/
theorem deal_tokens : (bigSep tokens fun x => dutyTok ER x.1 x.2.1 x.2.2 : sProp 𝕄) = bigSep Finset.univ pays := by
  unfold tokens
  rw [bigSep_map, bigSep_univ_prod]; rfl

/-! ## Slots' tokens -/

/-- The writes a device makes. -/
abbrev WrIx : Type := (Bool × Fin 16) ⊕ Fin 32

/-- The slot and the turn of each write a device makes. -/
def wrOf (c : Dev nD) : WrIx → Key × ℕ
  | .inl x => (ringKey x.1 (nb x.1 c) (par x.2), x.2.val / 2)
  | .inr j => (maxKey j c, 0)

/-- The writer and the write told from the slot and the turn. -/
def writer : Key → ℕ → Dev nD × WrIx
  | (g, .inl (b, p)), n => (nb (!b) g, .inl (b, ⟨(2 * n + p.val) % 16, Nat.mod_lt _ (by decide)⟩))
  | (g, .inr j), _ => ((j : Dev nD), .inr (g : Fin 32))

/-- The writer told from a write is the device that makes it. -/
theorem writer_wrOf (c : Dev nD) (k : WrIx) : writer (wrOf c k).1 (wrOf c k).2 = (c, k) := by
  rcases k with ⟨b, s⟩ | j
  · exact Prod.ext (nb_nb b c) (congrArg (fun s => Sum.inl (b, s)) (back s))
  · rfl

/-- Different writes are of different slots or turns. -/
def wrEmb : Dev nD × WrIx ↪ Key × ℕ := ⟨fun x => wrOf x.1 x.2, fun a b h => by
  have h' : wrOf a.1 a.2 = wrOf b.1 b.2 := h
  have ha := writer_wrOf a.1 a.2
  rw [h', writer_wrOf] at ha
  exact ha.symm⟩

/-- The turn of a write is below eight. -/
theorem wr_lt (c : Dev nD) (k : WrIx) : (wrOf c k).2 < 8 := by
  rcases k with ⟨b, s⟩ | j
  · exact (by omega : s.val / 2 < 8)
  · exact (by decide : 0 < 8)

/-- The tokens of the writes a device makes. -/
def writes (c : Dev nD) : sProp 𝕄 := bigSep Finset.univ fun k : WrIx => Release.writeTok ES (wrOf c k).1 ((wrOf c k).2 + 1)

/-- A pair is in a product if its two sides are in the factors. -/
theorem in_product {A : Type} {s : Finset A} {t : Finset ℕ} {x : A × ℕ} (h : x.1 ∈ s) (h2 : x.2 ∈ t) : x ∈ s ×ˢ t :=
  Finset.mem_product.mpr ⟨h, h2⟩

/-- Of more tokens, the ones that are used. -/
theorem deal_some {S : Finset (Key × ℕ)} (h : ∀ y, wrEmb y ∈ S) :
    (bigSep S fun x => Release.writeTok ES x.1 (x.2 + 1) : sProp 𝕄) ⊢ bigSep Finset.univ writes := by
  have h2 : (bigSep (Finset.univ.map wrEmb) fun x => Release.writeTok ES x.1 (x.2 + 1) : sProp 𝕄) = bigSep Finset.univ writes := by
    rw [bigSep_map, bigSep_univ_prod]; rfl
  rw [← h2]
  exact bigSep_subset (Finset.map_subset_iff_subset_preimage.mpr fun y _ => Finset.mem_preimage.mpr (h y))

set_option maxRecDepth 65536 in
/-- The tokens of the writes dealt to the devices that make them. -/
theorem deal_writes : (bigSep ((Finset.univ : Finset Key) ×ˢ Finset.range 8) fun x => Release.writeTok ES x.1 (x.2 + 1) : sProp 𝕄) ⊢ bigSep Finset.univ writes :=
  deal_some fun y => in_product (Finset.mem_univ _) (Finset.mem_range.mpr (wr_lt y.1 y.2))

/-! ## A device's hand -/

/-- A direction's kits from its tokens and credits. -/
theorem deal_kits (b : Bool) (c : Dev nD) :
    iprop((bigSep Finset.univ fun s : Fin 16 => dutyTok ER (sC b c (par s)) (s.val / 2) 0)
        ∗ (bigSep Finset.univ fun s : Fin 16 => dutyTok ER (rC b (nb b c) (par s)) (s.val / 2) 0)
        ∗ (bigSep Finset.univ fun s : Fin 16 => Release.writeTok ES (ringKey b (nb b c) (par s)) (s.val / 2 + 1))
        ∗ (bigSep Finset.univ fun d : Fin 14 => dutyTok ER (crC b (nb (!b) c)) 0 d.val)
        ∗ (bigSep (Finset.Ico 0 (hops b)) fun i => cred (tallyAt (rC b c (par i)) i N))
        ∗ (bigSep (Finset.Ico 0 (hops b)) fun i => if 2 ≤ i then cred (tallyAt (crC b c) (i - 2) 1) else iprop(emp)))
      ⊢ (kits b c : sProp 𝕄) := by
  unfold kits kitAt sendKit
  rw [bigSep_sep', bigSep_sep', bigSep_sep', bigSep_sep', bigSep_sep']
  iintro ⟨H1, H2, H3, H4, H5, H6⟩
  have h16 : hops b ≤ 16 := by cases b <;> decide
  have hs (Φ : ℕ → sProp 𝕄) : (bigSep Finset.univ fun s : Fin 16 => Φ s.val) ⊢ bigSep (Finset.Ico 0 (hops b)) Φ := by
    rw [← Finset.range_eq_Ico]; exact upto' h16 Φ
  have hc : (bigSep Finset.univ fun d : Fin 14 => dutyTok ER (crC b (nb (!b) c)) 0 d.val : sProp 𝕄)
      ⊢ bigSep (Finset.Ico 0 (hops b)) fun i => if i < creds b then credKit b c i else iprop(emp) := by
    rw [← Finset.range_eq_Ico, show hops b = creds b + 2 by cases b <;> rfl]
    exact (upto' (h := creds b) (by cases b <;> decide) fun d => dutyTok ER (crC b (nb (!b) c)) 0 d).trans (pad (creds b) 2 (credKit b c))
  isplitl [H1 H2 H3]
  · isplitl [H1]; · iapply (hs fun s => dutyTok ER (sC b c (par s)) (s / 2) 0); iexact H1
    isplitl [H2]; · iapply (hs fun s => dutyTok ER (rC b (nb b c) (par s)) (s / 2) 0); iexact H2
    iapply (hs fun s => Release.writeTok ES (ringKey b (nb b c) (par s)) (s / 2 + 1)); iexact H3
  isplitl [H5]; · iexact H5
  isplitl [H6]; · iexact H6
  iapply hc; iexact H4

/-- Of two things, the first kept. -/
theorem first (A B : sProp 𝕄) : iprop(A ∗ B) ⊢ iprop(A ∗ emp) := by
  iintro ⟨H, -⟩
  isplitl [H]; · iexact H
  iempintro

/-- Four things with the middle two taken together. -/
theorem pairUp (A B C D : sProp 𝕄) : iprop(A ∗ B ∗ C ∗ D) ⊢ iprop(A ∗ (B ∗ C) ∗ D) := by
  iintro ⟨H1, H2, H3, H4⟩
  isplitl [H1]; · iexact H1
  isplitr [H4]
  · isplitl [H2]; · iexact H2
    iexact H3
  iexact H4

/-- A device's hand. -/
theorem deal_hand (c : Dev nD) :
    iprop((bigSep bars fun g => reached ER g 0) ∗ (atPos ER (barC c) 0 ∅ 0 ∗ readers c ∗ pays c ∗ writes c ∗ credits c)) ⊢ (hand c : sProp 𝕄) := by
  have hr (d : Dev nD) : (bigSep bars fun g => reached ER g 0 : sProp 𝕄) ⊢ reached ER (barC d) 0 :=
    bigSep_elim (Finset.mem_map.mpr ⟨d, Finset.mem_univ _, rfl⟩)
  have hp : (pays c : sProp 𝕄) = iprop((dutyTok ER (barC (nb true c)) 0 0 ∗ dutyTok ER (barC (nb false c)) 0 1)
      ∗ ((bigSep Finset.univ fun s : Fin 16 => dutyTok ER (sC true c (par s)) (s.val / 2) 0)
        ∗ (bigSep Finset.univ fun s : Fin 16 => dutyTok ER (sC false c (par s)) (s.val / 2) 0))
      ∗ ((bigSep Finset.univ fun s : Fin 16 => dutyTok ER (rC true (nb true c) (par s)) (s.val / 2) 0)
        ∗ (bigSep Finset.univ fun s : Fin 16 => dutyTok ER (rC false (nb false c) (par s)) (s.val / 2) 0))
      ∗ ((bigSep Finset.univ fun d : Fin 14 => dutyTok ER (crC true (nb (!true) c)) 0 d.val)
        ∗ (bigSep Finset.univ fun d : Fin 14 => dutyTok ER (crC false (nb (!false) c)) 0 d.val))
      ∗ (bigSep Finset.univ fun j : Fin 32 => dutyTok ER (asC c j) 0 0) ∗ bigSep Finset.univ fun j : Fin 32 => dutyTok ER (arC (j : Dev nD) c) 0 0) := by
    unfold pays
    rw [sum', sum', sum', sum', sum', both, bigSep_univ_prod, bigSep_univ_prod, bigSep_univ_prod, both, both, both]; rfl
  have hw : (writes c : sProp 𝕄) = iprop(((bigSep Finset.univ fun s : Fin 16 => Release.writeTok ES (ringKey true (nb true c) (par s)) (s.val / 2 + 1))
        ∗ (bigSep Finset.univ fun s : Fin 16 => Release.writeTok ES (ringKey false (nb false c) (par s)) (s.val / 2 + 1)))
      ∗ bigSep Finset.univ fun j : Fin 32 => Release.writeTok ES (maxKey (j : Dev nD) c) 1) := by
    unfold writes
    rw [sum', bigSep_univ_prod, both]; rfl
  have hmax : iprop((bigSep Finset.univ fun j : Fin 32 => Release.writeTok ES (maxKey (j : Dev nD) c) 1)
        ∗ (bigSep Finset.univ fun j : Fin 32 => dutyTok ER (asC c j) 0 0) ∗ (bigSep Finset.univ fun j : Fin 32 => dutyTok ER (arC (j : Dev nD) c) 0 0)
        ∗ bigSep Finset.univ fun j : Fin 32 => if j = (c : Fin 32) then iprop(emp) else cred (tallyAt (arC c j) 0 Na))
      ⊢ (bigSep Finset.univ (maxKit (F := F) c) : sProp 𝕄) := by
    rw [← bigSep_sep', ← bigSep_sep', ← bigSep_sep']
    refine bigSep_mono fun j _ => ?_
    unfold maxKit
    by_cases hj : j = (c : Fin 32)
    · rw [if_pos hj, if_pos hj]
      exact first _ _
    · rw [if_neg hj, if_neg hj]
      exact pairUp _ _ _ _
  rw [hp, hw]
  unfold hand credits barKit
  iintro ⟨#Hr, Hat, Hrd, ⟨⟨Hb1, Hb0⟩, ⟨Hs1, Hs0⟩, ⟨Hv1, Hv0⟩, ⟨Hc1, Hc0⟩, Has, Har⟩, ⟨⟨Hw1, Hw0⟩, Hwm⟩, Hcb, ⟨Hm1, Hm0⟩, ⟨Hk1, Hk0⟩, Hcm⟩
  isplitl [Hat Hb1 Hb0 Hcb]
  · isplitl [Hat]; · iexact Hat
    isplitr
    · isplitr
      · iapply (hr (nb false c)); iexact Hr
      · iapply (hr (nb true c)); iexact Hr
    isplitr [Hcb]
    · isplitl [Hb0]; · iexact Hb0
      iexact Hb1
    iexact Hcb
  isplitl [Hs1 Hv1 Hc1 Hw1 Hm1 Hk1]
  · iapply (deal_kits true c)
    isplitl [Hs1]; · iexact Hs1
    isplitl [Hv1]; · iexact Hv1
    isplitl [Hw1]; · iexact Hw1
    isplitl [Hc1]; · iexact Hc1
    isplitl [Hm1]; · iexact Hm1
    iexact Hk1
  isplitl [Hs0 Hv0 Hc0 Hw0 Hm0 Hk0]
  · iapply (deal_kits false c)
    isplitl [Hs0]; · iexact Hs0
    isplitl [Hv0]; · iexact Hv0
    isplitl [Hw0]; · iexact Hw0
    isplitl [Hc0]; · iexact Hc0
    isplitl [Hm0]; · iexact Hm0
    iexact Hk0
  isplitl [Hwm Has Har Hcm]
  · iapply hmax
    isplitl [Hwm]; · iexact Hwm
    isplitl [Has]; · iexact Has
    isplitl [Har]; · iexact Har
    iexact Hcm
  iexact Hrd

end Cert.KernelIdeal

end
-- ==== Proof.Body.lean ====
module

public import proofs.«01_k».proof.Proof.Enter

@[expose] public section

/-!
# The body

The whole kernel at one device: the greeting, the ring, the exchange of the maxima, and everything given back.
-/

noncomputable section

namespace Cert.KernelIdeal

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen

variable {F : FTy → Type} [FloatOps F]

local notation "𝕄" => MT nD τ sig ℕ (Elt F) ℕ UT ℕ

section Body

variable (X : Dev nD → Vec F S4096x128 .bf16) (Wt : Dev nD → Vec F S128x8192 .bf16)
variable (K : GSem nD τ sig → ℕ) (κ : Key → ℕ)

/-! ## Leaving -/

/-- A semaphore that owes nothing more given back at zero. -/
theorem shut (c : Dev nD) (sm : SemLoc sig) (R : ℕ) (hm : (((c : Thread nD τ), sm) : GSem nD τ sig) ∈ bars ∪ owns) (h : ends c (useOf sm) ≤ R) :
    iprop(world X Wt K κ ∗ atPos ER (((c : Thread nD τ), sm) : GSem nD τ sig) R ∅ 0)
      ⊢ |={Set.univ}=> (semVal (((c : Thread nD τ), sm) : GSem nD τ sig) 0 : sProp 𝕄) := by
  iintro ⟨#Hw, Hat⟩
  iapply (Rounds.cell_close ER (Rd X Wt) (g := (((c : Thread nD τ), sm) : GSem nD τ sig)) (R := R)
    (Set.mem_univ (K (((c : Thread nD τ), sm) : GSem nD τ sig))) (fun h => h)
    (fun r hr => duties_end X Wt c sm r (h.trans hr)))
  isplitr; · iapply (world_cell X Wt K κ hm); iexact Hw
  iexact Hat

/-- What a direction gives back. -/
def dirRest (b : Bool) (c : Dev nD) : sProp 𝕄 :=
  iprop((sendReady b c (hops b) ∗ sendReady b c (hops b + 1)) ∗ (recvSt b c (hops b) ∗ recvSt b c (hops b + 1)) ∗ credSt b c (creds b))

/-- What a direction leaves is what it gives back and the word of the devices it heard of. -/
theorem dirEnd_rest (b : Bool) (c : Dev nD) : (dirEnd b c : sProp 𝕄) ⊢ iprop(dirRest b c ∗ Release.heard hello (kn b c (hops b))) := by
  unfold dirEnd dirRest
  iintro ⟨H1, H2, H3, H4⟩
  isplitr [H4]
  · isplitl [H1]; · iexact H1
    isplitl [H2]; · iexact H2
    iexact H3
  iexact H4

/-- After the last message a slot sent from is free and its semaphore is at zero. -/
theorem leave_send (b : Bool) (c : Dev nD) (s : ℕ) (hs : hops b ≤ s) :
    iprop(world X Wt K κ ∗ sendReady b c s) ⊢ |={Set.univ}=> iprop(free (slotView (sbuf b) (par s)) c ∗ semVal (sC b c (par s)) 0) := by
  unfold sendReady
  iintro ⟨#Hw, Hf, Hat, -⟩
  have hp : (par s).val = s % 2 := rfl
  imod (shut X Wt K κ c _ (s / 2) (mem_snd b c (par s)) (by rw [use_snd]; show (hops b + 1 - (par s).val) / 2 ≤ s / 2; omega)) $$ [Hat] with Hat
  · isplitr; · iexact Hw
    iexact Hat
  imodintro
  isplitl [Hf]; · iexact Hf
  iexact Hat

/-- After the last message a slot received into is free and its semaphore is at zero. -/
theorem leave_recv (b : Bool) (c : Dev nD) (s : ℕ) (hs : hops b ≤ s) :
    iprop(world X Wt K κ ∗ recvSt b c s) ⊢ |={Set.univ}=> iprop(free (slotView (rbuf b) (par s)) c ∗ semVal (rC b c (par s)) 0) := by
  unfold recvSt
  rw [if_neg (Nat.not_lt.mpr hs)]
  iintro ⟨#Hw, Hat, Hf⟩
  have hp : (par s).val = s % 2 := rfl
  imod (shut X Wt K κ c _ (s / 2) (mem_rcv b c (par s)) (by rw [use_rcv]; show (hops b + 1 - (par s).val) / 2 ≤ s / 2; omega)) $$ [Hat] with Hat
  · isplitr; · iexact Hw
    iexact Hat
  imodintro
  isplitl [Hf]; · iexact Hf
  iexact Hat

/-- Two slots and their semaphores, in the order of the slots. -/
theorem by_slot (b : Bool) (Φ : Fin 2 → sProp 𝕄) : iprop(Φ (par (hops b)) ∗ Φ (par (hops b + 1))) ⊢ iprop(Φ 0 ∗ Φ 1) := by
  cases b
  · show iprop(Φ 1 ∗ Φ 0) ⊢ iprop(Φ 0 ∗ Φ 1)
    iintro ⟨H1, H0⟩
    isplitl [H0]; · iexact H0
    iexact H1
  · show iprop(Φ 0 ∗ Φ 1) ⊢ iprop(Φ 0 ∗ Φ 1)
    iintro H; iexact H

/-- After the last credit its semaphore has counted its round. -/
theorem cred_end (b : Bool) (c : Dev nD) : (credSt b c (creds b) : sProp 𝕄) = atPos ER (crC b c) 1 ∅ 0 := by
  unfold credSt; rw [if_neg (Nat.lt_irrefl _)]

/-- A direction's slots and semaphores given back. -/
theorem leave_dir (b : Bool) (c : Dev nD) :
    iprop(world X Wt K κ ∗ dirRest b c)
      ⊢ |={Set.univ}=> iprop((some' c (sref b) ∗ some' c (rref b)) ∗ semVal (crC b c) 0 ∗ (semVal (sC b c 0) 0 ∗ semVal (sC b c 1) 0)
          ∗ (semVal (rC b c 0) 0 ∗ semVal (rC b c 1) 0)) := by
  unfold dirRest
  iintro ⟨#Hw, ⟨Hs0, Hs1⟩, ⟨Hr0, Hr1⟩, Hc⟩
  imod (leave_send X Wt K κ b c (hops b) le_rfl) $$ [Hs0] with ⟨Hs0, Hp0⟩
  · isplitr; · iexact Hw
    iexact Hs0
  imod (leave_send X Wt K κ b c (hops b + 1) (Nat.le_succ _)) $$ [Hs1] with ⟨Hs1, Hp1⟩
  · isplitr; · iexact Hw
    iexact Hs1
  imod (leave_recv X Wt K κ b c (hops b) le_rfl) $$ [Hr0] with ⟨Hr0, Hq0⟩
  · isplitr; · iexact Hw
    iexact Hr0
  imod (leave_recv X Wt K κ b c (hops b + 1) (Nat.le_succ _)) $$ [Hr1] with ⟨Hr1, Hq1⟩
  · isplitr; · iexact Hw
    iexact Hr1
  ihave Hc := (Entails.of_eq (cred_end b c)) $$ Hc
  imod (shut X Wt K κ c _ 1 (mem_cr b c) (by rw [use_cr]; exact le_rfl)) $$ [Hc] with Hc
  · isplitr; · iexact Hw
    iexact Hc
  imodintro
  isplitl [Hs0 Hs1 Hr0 Hr1]
  · isplitl [Hs0 Hs1]
    · iapply (sbuf_together b c)
      iapply (by_slot b fun p => free (slotView (sbuf b) p) c)
      isplitl [Hs0]; · iexact Hs0
      iexact Hs1
    · iapply (rbuf_together b c)
      iapply (by_slot b fun p => free (slotView (rbuf b) p) c)
      isplitl [Hr0]; · iexact Hr0
      iexact Hr1
  isplitl [Hc]; · iexact Hc
  isplitl [Hp0 Hp1]
  · iapply (by_slot b fun p => semVal (sC b c p) 0)
    isplitl [Hp0]; · iexact Hp0
    iexact Hp1
  · iapply (by_slot b fun p => semVal (rC b c p) 0)
    isplitl [Hq0]; · iexact Hq0
    iexact Hq1

/-- The exchange's semaphores and slots given back. -/
theorem leave_max (c : Dev nD) :
    iprop(world X Wt K κ ∗ bigSep Finset.univ (tellEnd (F := F) c) ∗ bigSep Finset.univ (hearB (F := F) c))
      ⊢ |={Set.univ}=> iprop(some' c cc0_scratch10 ∗ (bigSep Finset.univ fun j : Fin 32 => semVal (asC c j) 0)
          ∗ bigSep Finset.univ fun j : Fin 32 => semVal (arC c j) 0) := by
  iintro ⟨#Hw, Ht, Hh⟩
  have ht : iprop(world X Wt K κ ∗ bigSep Finset.univ (tellEnd (F := F) c))
      ⊢ bigSep Finset.univ fun j : Fin 32 => iprop(|={Set.univ}=> semVal (asC c j) 0) :=
    bigSep_with_persistent fun j _ => by
      unfold tellEnd
      exact shut X Wt K κ c _ _ (mem_asnd c j) (by rw [use_asnd]; exact le_rfl)
  have hh : iprop(world X Wt K κ ∗ bigSep Finset.univ (fun j : Fin 32 => atPos ER (arC c j) (if j = (c : Fin 32) then 0 else 1) ∅ 0))
      ⊢ bigSep Finset.univ fun j : Fin 32 => iprop(|={Set.univ}=> semVal (arC c j) 0) :=
    bigSep_with_persistent fun j _ => shut X Wt K κ c _ _ (mem_arcv c j) (by rw [use_arcv]; exact le_rfl)
  have hb : bigSep Finset.univ (hearB (F := F) c)
      = iprop(bigSep Finset.univ (fun j : Fin 32 => atPos ER (arC c j) (if j = (c : Fin 32) then 0 else 1) ∅ 0)
          ∗ bigSep Finset.univ fun j : Fin 32 => free (maxView j) c) := bigSep_sep' _ _ _
  ihave Hh := (Entails.of_eq hb) $$ Hh
  icases Hh with ⟨Hh, Hf⟩
  have ht' := ht.trans (bigSep_fupd (E := Set.univ) Finset.univ fun j : Fin 32 => (semVal (asC c j) 0 : sProp 𝕄))
  have hh' := hh.trans (bigSep_fupd (E := Set.univ) Finset.univ fun j : Fin 32 => (semVal (arC c j) 0 : sProp 𝕄))
  imod ht' $$ [Ht] with Ht
  · isplitr; · iexact Hw
    iexact Ht
  imod hh' $$ [Hh] with Hh
  · isplitr; · iexact Hw
    iexact Hh
  imodintro
  isplitl [Hf]; · iapply (max_together c); iexact Hf
  isplitl [Ht]; · iexact Ht
  iexact Hh

/-- Everything given back. -/
theorem leave (c : Dev nD) :
    iprop(world X Wt K κ ∗ dirRest true c ∗ dirRest false c ∗ bigSep Finset.univ (tellEnd (F := F) c) ∗ bigSep Finset.univ (hearB (F := F) c)
        ∗ atPos ER (barC c) 1 ∅ 0)
      ⊢ |={Set.univ}=> iprop(scratch c ∗ (bigSep Finset.univ fun k : Own => semVal ((c : Thread nD τ), osem k) 0) ∗ semVal (barC c) 0) := by
  iintro ⟨#Hw, Ht, Hf, Hte, Hhe, Hb⟩
  imod (leave_dir X Wt K κ true c) $$ [Ht] with ⟨⟨H0, H1⟩, Hct, Hst, Hrt⟩
  · isplitr; · iexact Hw
    iexact Ht
  imod (leave_dir X Wt K κ false c) $$ [Hf] with ⟨⟨H2, H3⟩, Hcf, Hsf, Hrf⟩
  · isplitr; · iexact Hw
    iexact Hf
  imod (leave_max X Wt K κ c) $$ [Hte Hhe] with ⟨H10, Has, Har⟩
  · isplitr; · iexact Hw
    isplitl [Hte]; · iexact Hte
    iexact Hhe
  imod (shut X Wt K κ c _ 1 (mem_bar c) (by rw [use_bar]; exact le_rfl)) $$ [Hb] with Hb
  · isplitr; · iexact Hw
    iexact Hb
  imodintro
  isplitl [H0 H1 H2 H3 H10]
  · unfold scratch
    isplitl [H0]; · iexact H0
    isplitl [H1]; · iexact H1
    isplitl [H2]; · iexact H2
    isplitl [H3]; · iexact H3
    iexact H10
  isplitr [Hb]
  · rw [own_all c fun g => semVal g 0]
    isplitl [Hct Hcf]
    · isplitl [Hct]; · iexact Hct
      iexact Hcf
    isplitl [Hst Hsf]
    · isplitl [Hst]; · iexact Hst
      iexact Hsf
    isplitl [Hrt Hrf]
    · isplitl [Hrt]; · iexact Hrt
      iexact Hrf
    isplitl [Has]; · iexact Has
    iexact Har
  iexact Hb

/-! ## The exchange's start -/

/-- The seats of device `j` in the exchange. -/
theorem sit1 (c : Dev nD) (j : Fin 32) :
    iprop((world X Wt K κ ∗ hello c) ∗ (maxKit c j ∗ fresh (asC c j) ∗ atPos ER (arC c j) 0 ∅ 0))
      ⊢ |={Set.univ}=> iprop(tellSeat (F := F) c j ∗ hearA c j) := by
  unfold maxKit fresh tellSeat hearA
  by_cases hj : j = (c : Fin 32)
  · rw [if_pos hj, if_pos hj, if_pos hj]
    iintro ⟨⟨#Hw, #Hh⟩, ⟨Hwt, -⟩, ⟨Has, -⟩, Har⟩
    ihave #Hm := (hello_max (F := F) c j) $$ Hh
    icases Hm with ⟨#Hrel, -⟩
    imod (Release.slot_take ES (S := free (F := F) (maxView j) c) (Set.mem_univ (κ (maxKey c j))) 1) $$ [Hwt] with Hd
    · isplitr; · iapply (world_slot X Wt K κ (maxKey c j)); iexact Hw
      isplitr; · iexact Hrel
      rw [show maxKey c j = maxKey j c by rw [hj]]
      iexact Hwt
    imodintro
    isplitl [Has]
    · isplitl [Has]; · iexact Has
      iempintro
    isplitl [Har]; · iexact Har
    iexact Hd
  · rw [if_neg hj, if_neg hj, if_neg hj]
    unfold tellKit
    iintro ⟨-, ⟨Hwt, ⟨Hts, Htr⟩, Hc⟩, ⟨Has, #Has'⟩, Har⟩
    imodintro
    isplitr [Har Hc]
    · isplitl [Has]; · iexact Has
      isplitl [Hts]; · iexact Hts
      isplitl [Htr]; · iexact Htr
      isplitl [Hwt]; · iexact Hwt
      iexact Has'
    isplitl [Har]; · iexact Har
    iexact Hc

/-- The seats of all devices in the exchange. -/
theorem sit (c : Dev nD) :
    iprop((world X Wt K κ ∗ hello c) ∗ bigSep Finset.univ (maxKit (F := F) c) ∗ (bigSep Finset.univ fun j : Fin 32 => fresh (asC c j))
        ∗ bigSep Finset.univ fun j : Fin 32 => atPos ER (arC c j) 0 ∅ 0)
      ⊢ |={Set.univ}=> iprop(bigSep Finset.univ (tellSeat (F := F) c) ∗ bigSep Finset.univ (hearA (F := F) c)) := by
  have h1 : iprop((world X Wt K κ ∗ hello c) ∗ bigSep Finset.univ fun j : Fin 32 => iprop(maxKit c j ∗ fresh (asC c j) ∗ atPos ER (arC c j) 0 ∅ 0))
      ⊢ bigSep Finset.univ fun j : Fin 32 => iprop(|={Set.univ}=> (tellSeat (F := F) c j ∗ hearA c j)) :=
    bigSep_with_persistent fun j _ => sit1 X Wt K κ c j
  have h2 := h1.trans (bigSep_fupd (E := Set.univ) Finset.univ fun j : Fin 32 => (iprop(tellSeat (F := F) c j ∗ hearA c j) : sProp 𝕄))
  rw [bigSep_sep', bigSep_sep', bigSep_sep'] at h2
  exact h2

/-! ## The whole -/

/-- A device's read of the table of places gives its own place. -/
theorem inv_read (c : Dev nD) (h : ∀ a, k0_off1 c a + S1.size a ≤ S32.size a) (j : (Rect.unit (s := S32) (k0_off1 c) S1.size h).shape.Idx) :
    (ibuf.access (Rect.unit (s := S32) (k0_off1 c) S1.size h)).read (Elt F) (invTab (F := F)) j = lit1 c := by
  rw [View.read_apply]
  show lit1 (S32.rowMajor ((Rect.unit (s := S32) (k0_off1 c) S1.size h).emb j)) = _
  rw [tab_index]
  congr 1
  apply Fin.ext
  show k0_off1 c 0 % 32 = c.val
  rw [off1_at]
  exact Nat.mod_eq_of_lt c.isLt

/-- With both neighbours greeted, what the ring and the exchange owe remains. -/
theorem rem_greeted (c : Dev nD) : ((rem c 0).erase (.bar false)).erase (.bar true) = rem c 2 := by
  ext x
  rw [Finset.mem_erase, Finset.mem_erase, mem_rem, mem_rem]
  cases x with
  | bar b => cases b <;> simp [Debt.due]
  | msg b s => simp [Debt.due]
  | cred b d => simp [Debt.due]
  | peak j => simp [Debt.due]

/-- All devices heard of. -/
theorem heard_all (c : Dev nD) : iprop(Release.heard (hello (F := F)) (kn true c 16) ∗ Release.heard hello (kn false c 15))
    ⊢ Release.heard (hello (F := F)) Finset.univ :=
  (Release.heard_union (hello (F := F)) _ _).trans (Release.heard_mono (hello (F := F)) fun e _ => kn_all c e)

/-- What is held once the tables are read, and what is left of it. -/
def before (c : Dev nD) : sProp 𝕄 :=
  iprop(ops X Wt c ∗ (∃ f, at' c cc0_stg4_0 f) ∗ (∃ f, at' c cc0_stg5_0 f) ∗ scratch c ∗ ownPos c ∗ hand c ∗ debt c (rem c 0))

/-- What the kernel's body leaves: the operands, the results, the scratch buffers, every semaphore at zero and nothing owed. -/
def after (c : Dev nD) : sProp 𝕄 :=
  iprop(ops X Wt c ∗ at' c cc0_stg4_0 (result X Wt c) ∗ at' c cc0_stg5_0 (peaks X Wt c 32) ∗ scratch c
    ∗ (bigSep Finset.univ fun k : Own => semVal ((c : Thread nD τ), osem k) 0) ∗ semVal (barC c) 0 ∗ debt c ∅)

/-- All that follows the reads. -/
theorem wp_met (c L R : Dev nD) (eL : L = nb false c) (eR : R = nb true c) (h : k0_chk1 (lit1 c)) (Q : PUnit → sProp 𝕄) :
    iprop(world X Wt K κ ∗ before X Wt c ∗ (after X Wt c -∗ Q ⟨⟩))
      ⊢ wp frame (wpE (defs₀ (F := F)) 𝒱₀ c none) Set.univ
          (semSignalWord L (sig.barrier 0 rfl) 1#32 >>= fun _ => semSignalWord R (sig.barrier 0 rfl) 1#32 >>= fun _ =>
            semWaitWord (sig.barrier 0 rfl) 2#32 >>= fun _ =>
            pRing xbuf wbuf pbuf (sbuf true) (sbuf_whole true) (rbuf true) (rbuf_whole true) (sbuf false) (sbuf_whole false) (rbuf false) (rbuf_whole false)
              (ssem true) (rsem true) (ssem false) (rsem false) (crs true) (crs false) c h L R >>= fun y =>
            pTail ybuf abuf harg mbuf cc0_scratch11 cc0_scratch12 c y) Q := by
  subst eL eR
  have hf : Debt.bar false ∈ rem c 0 := by rw [mem_rem]; exact ⟨rfl, Nat.zero_le _⟩
  have ht : Debt.bar true ∈ (rem c 0).erase (.bar false) := by rw [Finset.mem_erase, mem_rem]; exact ⟨by decide, rfl, Nat.zero_le _⟩
  have h2 : ∀ x ∈ rem c 2, 1 < x.due := fun x hx => ((mem_rem c 2 x).mp hx).2
  unfold before hand
  iintro ⟨#Hw, ⟨Hops, Hy, Ha, Hsc, Hown, ⟨Hbk, Hkt, Hkf, Hmk, Hrd⟩, HO⟩, HQ⟩
  imod (enter X Wt K κ c) $$ [Hown Hrd Hsc] with ⟨#Hh, Hdt, Hdf, Has, Har⟩
  · isplitr; · iexact Hw
    isplitl [Hown]; · iexact Hown
    isplitl [Hrd]; · iexact Hrd
    iexact Hsc
  unfold barKit
  icases Hbk with ⟨Hbat, ⟨#Hbl, #Hbr⟩, ⟨Hdl, Hdr⟩, Hbc⟩
  rw [wp_bind]
  iapply (wp_greet X Wt K κ false c (rem c 0) hf)
  isplitr; · iexact Hw
  isplitr; · iexact Hh
  isplitr; · iexact Hbl
  isplitl [Hdl]; · iexact Hdl
  isplitl [HO]; · iexact HO
  iintro HO
  rw [wp_bind]
  iapply (wp_greet X Wt K κ true c _ ht)
  isplitr; · iexact Hw
  isplitr; · iexact Hh
  isplitr; · iexact Hbr
  isplitl [Hdr]; · iexact Hdr
  isplitl [HO]; · iexact HO
  iintro HO
  rw [rem_greeted, wp_bind]
  iapply (wp_greeted X Wt K κ c (rem c 2) h2)
  isplitr; · iexact Hw
  isplitl [Hbat]; · iexact Hbat
  isplitl [Hbc]; · iexact Hbc
  isplitl [HO]; · iexact HO
  iintro ⟨#Hht, #Hhf, Hbat, HO⟩
  rw [wp_bind]
  iapply (wp_ring X Wt K κ c h)
  isplitr
  · unfold know
    isplitr; · iexact Hw
    isplitr; · iexact Hh
    isplitr; · iexact Hht
    iexact Hhf
  isplitl [Hops]; · iexact Hops
  isplitl [Hkt Hdt]
  · iapply (enter_start true c (by unfold hello; iintro ⟨H, -⟩; iexact H))
    isplitr; · iexact Hh
    isplitl [Hkt]; · iexact Hkt
    iexact Hdt
  isplitl [Hkf Hdf]
  · iapply (enter_start false c (by unfold hello; iintro ⟨-, H, -⟩; iexact H))
    isplitr; · iexact Hh
    isplitl [Hkf]; · iexact Hkf
    iexact Hdf
  isplitl [HO]; · iexact HO
  iintro ⟨Hops, Het, Hef, HO⟩
  imod (sit X Wt K κ c) $$ [Hmk Has Har] with ⟨Hts, Hhs⟩
  · isplitr
    · isplitr; · iexact Hw
      iexact Hh
    isplitl [Hmk]; · iexact Hmk
    isplitl [Has]; · iexact Has
    iexact Har
  ihave Het := (dirEnd_rest true c) $$ Het
  ihave Hef := (dirEnd_rest false c) $$ Hef
  icases Het with ⟨Het, #Hkt⟩
  icases Hef with ⟨Hef, #Hkf⟩
  ihave HO := (Entails.of_eq (congrArg (debt (F := F) c) (left_zero c))) $$ HO
  iapply (wp_fupd Idealize.ShloMosaic.frame (wpE (defs₀ (F := F)) 𝒱₀ (c : Thread nD τ) none) Set.univ _ _)
  iapply (wp_tail X Wt K κ c)
  isplitr; · iexact Hw
  isplitr
  · iapply (heard_all c)
    isplitr; · iexact Hkt
    iexact Hkf
  isplitl [Hy]; · iexact Hy
  isplitl [Ha]; · iexact Ha
  isplitl [Hts]; · iexact Hts
  isplitl [Hhs]; · iexact Hhs
  isplitl [HO]; · iexact HO
  iintro ⟨Hy, Ha, Hte, Hhe, HO⟩
  imod (leave X Wt K κ c) $$ [Het Hef Hte Hhe Hbat] with ⟨Hsc, Hos, Hb⟩
  · isplitr; · iexact Hw
    isplitl [Het]; · iexact Het
    isplitl [Hef]; · iexact Hef
    isplitl [Hte]; · iexact Hte
    isplitl [Hhe]; · iexact Hhe
    iexact Hbat
  imodintro
  iapply HQ
  unfold after
  isplitl [Hops]; · iexact Hops
  isplitl [Hy]; · iexact Hy
  isplitl [Ha]; · iexact Ha
  isplitl [Hsc]; · iexact Hsc
  isplitl [Hos]; · iexact Hos
  isplitl [Hb]; · iexact Hb
  iexact HO

/-- The kernel's body at device `c`, from what it is dealt to its results. -/
theorem wp_body (c : Dev nD) (Q : PUnit → sProp 𝕄) :
    iprop(world X Wt K κ ∗ before X Wt c ∗ (after X Wt c -∗ Q ⟨⟩))
      ⊢ wp frame (wpE (defs₀ (F := F)) 𝒱₀ c none) Set.univ
          (pBody xbuf wbuf pbuf ibuf ybuf abuf harg (sbuf true) (sbuf_whole true) (rbuf true) (rbuf_whole true) (sbuf false) (sbuf_whole false) (rbuf false) (rbuf_whole false)
            (ssem true) (rsem true) (ssem false) (rsem false) (crs true) (crs false) mbuf cc0_scratch11 cc0_scratch12) Q := by
  simp only [pBody, smemLoad, smemLoadElt, Prog.lift, Prog.bind_op, Prog.bind_ret, wp_deviceId]
  unfold before ops
  iintro ⟨#Hw, ⟨⟨Hx, Hwt, Hp, Hi⟩, Hr⟩, HQ⟩
  iapply (wp_load_rect 𝒱₀ (c : Thread nD τ) none Set.univ (m := ibuf) (Finset.subset_univ _)) $$ [Hi]
  · iexact Hi
  iintro Hi
  rw [inv_read]
  rw [wp_assume_of 𝒱₀ (c : Thread nD τ) none Set.univ (chk1_at c)]
  iapply (wp_load_rect 𝒱₀ (c : Thread nD τ) none Set.univ (m := pbuf) (Finset.subset_univ _)) $$ [Hp]
  · iexact Hp
  iintro Hp
  rw [perm_read]
  rw [wp_assume_of 𝒱₀ (c : Thread nD τ) none Set.univ (left_at c).1]
  iapply (wp_load_rect 𝒱₀ (c : Thread nD τ) none Set.univ (m := pbuf) (Finset.subset_univ _)) $$ [Hp]
  · iexact Hp
  iintro Hp
  rw [perm_read]
  rw [wp_assume_of 𝒱₀ (c : Thread nD τ) none Set.univ (right_at c).1]
  iapply (wp_met X Wt K κ c _ _ (Fin.ext (left_at c).2) (Fin.ext (right_at c).2) (chk1_at c))
  isplitr; · iexact Hw
  isplitr [HQ]
  · unfold before ops
    isplitl [Hx Hwt Hp Hi]
    · isplitl [Hx]; · iexact Hx
      isplitl [Hwt]; · iexact Hwt
      isplitl [Hp]; · iexact Hp
      iexact Hi
    iexact Hr
  iexact HQ

end Body

end Cert.KernelIdeal

end
-- ==== Proof.BodyEq.lean ====
module

public import proofs.«01_k».proof.Proof.Prog

@[expose] public section

/-!
# The printed body is the structured program
-/

namespace Cert.KernelIdeal

open Idealize.ShloMosaic Idealize.SL.Sem Cert.KernelIdeal.Gen

variable {F : FTy → Type} [FloatOps F]

/-- Two programs that start with the same operation and go on alike are the same. -/
theorem op_congr {E : Type → Type _} {α β : Type} {e : E β} {k k' : β → Prog E α} (h : ∀ x, k x = k' x) :
    Prog.op e k = Prog.op e k' := congrArg _ (funext h)

/-- Two programs that start with the same program and go on alike are the same. -/
theorem bind_congr {E : Type → Type _} {α β : Type} {m : Prog E β} {k k' : β → Prog E α} (h : ∀ x, k x = k' x) :
    m >>= k = m >>= k' := congrArg _ (funext h)

/-- A conditional step whose continuation is copied into both branches, as a step and its continuation. -/
theorem block_norm {E : Type → Type _} {α : Type} {c : Prop} [Decidable c] (e : c → E PUnit) (B : Prog E α) :
    dite c (fun h => Prog.lift (e h) >>= fun _ => B) (fun _ => B)
      = dite c (fun h => Prog.lift (e h)) (fun _ => pure ⟨⟩) >>= fun _ => B := by
  by_cases h : c
  · rw [dif_pos h, dif_pos h]
  · rw [dif_neg h, dif_neg h]; rfl

variable (arg0 : Memref sig .tc .vmem S4096x128 .bf16) (harg0 : arg0.IsWhole) (arg1 : Memref sig .tc .vmem S128x8192 .bf16) (harg1 : arg1.IsWhole)
  (arg2 : Memref sig .tc .smem S32 .i32) (harg2 : arg2.IsWhole) (arg3 : Memref sig .tc .smem S32 .i32) (harg3 : arg3.IsWhole)
  (arg4 : Memref sig .tc .vmem S128x8192 .f32) (harg4 : arg4.IsWhole) (arg5 : Memref sig .tc .vmem S1x1 .f32) (harg5 : arg5.IsWhole)
  (arg6 : Memref sig .tc .vmem S2x128x8192 .bf16) (harg6 : arg6.IsWhole) (arg7 : Memref sig .tc .vmem S2x128x8192 .bf16) (harg7 : arg7.IsWhole)
  (arg8 : Memref sig .tc .vmem S2x128x8192 .bf16) (harg8 : arg8.IsWhole) (arg9 : Memref sig .tc .vmem S2x128x8192 .bf16) (harg9 : arg9.IsWhole)
  (arg10 arg11 arg12 arg13 : DmaSems sig S2) (arg14 arg15 : Sems sig S_)
  (arg16 : Memref sig .tc .vmem S32x1x1 .f32) (harg16 : arg16.IsWhole) (arg17 arg18 : DmaSems sig S32)

/-- The printed body from the ring's end on. -/
noncomputable def printedTail (d : Dev nD) (y : FVec F S128x8192 .f32) : P F PUnit := do
  let r : Σ' (d0 : Dev nD) (v2 : BitVec 32) (v1499 : FVec F S1x1 .f32), FVec F S1x1 .f32 ← (do
    let v1499 : FVec F S1x1 .f32 ← k0_part55 arg0 harg0 arg1 harg1 arg2 harg2 arg3 harg3 arg4 harg4 arg5 harg5 arg6 harg6 arg7 harg7 arg8 harg8 arg9 harg9 arg10 arg11 arg12 arg13 arg14 arg15 arg16 harg16 arg17 arg18 d (me d) y
    let v1543 : BitVec 32 ← k0_part56 arg0 harg0 arg1 harg1 arg2 harg2 arg3 harg3 arg4 harg4 arg5 harg5 arg6 harg6 arg7 harg7 arg8 harg8 arg9 harg9 arg10 arg11 arg12 arg13 arg14 arg15 arg16 harg16 arg17 arg18 d (me d)
    k0_part57 arg0 harg0 arg1 harg1 arg2 harg2 arg3 harg3 arg4 harg4 arg5 harg5 arg6 harg6 arg7 harg7 arg8 harg8 arg9 harg9 arg10 arg11 arg12 arg13 arg14 arg15 arg16 harg16 arg17 arg18 d (me d) v1543
    let v1594 : BitVec 32 ← k0_part58 arg0 harg0 arg1 harg1 arg2 harg2 arg3 harg3 arg4 harg4 arg5 harg5 arg6 harg6 arg7 harg7 arg8 harg8 arg9 harg9 arg10 arg11 arg12 arg13 arg14 arg15 arg16 harg16 arg17 arg18 d (me d)
    let ⟨v1619, v1621⟩ : Σ' (v1619 : FVec F S1x1 .f32), BitVec 32 ← k0_part59 arg0 harg0 arg1 harg1 arg2 harg2 arg3 harg3 arg4 harg4 arg5 harg5 arg6 harg6 arg7 harg7 arg8 harg8 arg9 harg9 arg10 arg11 arg12 arg13 arg14 arg15 arg16 harg16 arg17 arg18 d (me d) v1499 v1594
    let v1643 : FVec F S1x1 .f32 ← k0_part60 arg0 harg0 arg1 harg1 arg2 harg2 arg3 harg3 arg4 harg4 arg5 harg5 arg6 harg6 arg7 harg7 arg8 harg8 arg9 harg9 arg10 arg11 arg12 arg13 arg14 arg15 arg16 harg16 arg17 arg18 (me d) v1499 v1619 v1621
    pure ⟨d, me d, v1499, v1643⟩)
  let v1962 : FVec F S128x8192 .f32 ← k0_part73 arg0 harg0 arg1 harg1 arg2 harg2 arg3 harg3 arg4 harg4 arg5 harg5 arg6 harg6 arg7 harg7 arg8 harg8 arg9 harg9 arg10 arg11 arg12 arg13 arg14 arg15 arg16 harg16 arg17 arg18 r.1 r.2.1 r.2.2.1 r.2.2.2
  Prog.lift (.store arg4 (Rect.unit (s := S128x8192) ![0, 0] S128x8192.size inb_S128x8192_S128x8192_0_0) v1962 Finset.univ (View.stores_vmem_bits_univ h_S128x8192 rfl) (.inl rfl))
  pure ⟨⟩

set_option maxRecDepth 65536 in
set_option maxHeartbeats 0 in
/-- What follows the ring is the printed body's end: both are brought to a flat sequence of steps, and those agree. -/
theorem tail_eq (d : Dev nD) (y : FVec F S128x8192 .f32) : pTail arg4 arg5 harg5 arg16 arg17 arg18 d y
    = printedTail (F := F) arg0 harg0 arg1 harg1 arg2 harg2 arg3 harg3 arg4 harg4 arg5 harg5 arg6 harg6 arg7 harg7 arg8 harg8 arg9 harg9 arg10 arg11 arg12 arg13 arg14 arg15 arg16 harg16 arg17 arg18 d y := by
  rw [printedTail, k0_part55_eq_skeleton, k0_part56_eq_skeleton, k0_part57_eq_skeleton, k0_part58_eq_skeleton, k0_part59_eq_skeleton, k0_part60_eq_skeleton, k0_part73_eq_skeleton]
  simp only [k0_part55_skel, k0_part56_skel, k0_part57_skel, k0_part58_skel, k0_part59_skel, k0_part60_skel, k0_part73_skel, ↓block_norm, bind_assoc, pure_bind]
  rw [k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton]
  simp only [k0_part61_skel, k0_part62_skel, k0_part63_skel, k0_part64_skel, k0_part65_skel, k0_part66_skel, k0_part67_skel, k0_part68_skel, k0_part69_skel, k0_part70_skel, k0_part71_skel, ↓block_norm, bind_assoc, pure_bind]
  simp only [pTail, pTell, pHear, pSent, bind_assoc, pure_bind]
  repeat refine bind_congr fun x => ?_
  rfl

set_option maxRecDepth 65536 in
set_option maxHeartbeats 0 in
/-- The printed body is the structured program: the two are walked side by side, an operation at a time. -/
theorem body_eq : pBody (F := F) arg0 arg1 arg2 arg3 arg4 arg5 harg5 arg6 harg6 arg7 harg7 arg8 harg8 arg9 harg9 arg10 arg11 arg12 arg13 arg14 arg15 arg16 arg17 arg18
    = cc0_body (F := F) arg0 harg0 arg1 harg1 arg2 harg2 arg3 harg3 arg4 harg4 arg5 harg5 arg6 harg6 arg7 harg7 arg8 harg8 arg9 harg9 arg10 arg11 arg12 arg13 arg14 arg15 arg16 harg16 arg17 arg18 := by
  rw [cc0_body_eq_skeleton]
  refine op_congr fun d => ?_
  iterate 375 refine op_congr fun x => ?_
  exact tail_eq (F := F) arg0 harg0 arg1 harg1 arg2 harg2 arg3 harg3 arg4 harg4 arg5 harg5 arg6 harg6 arg7 harg7 arg8 harg8 arg9 harg9 arg10 arg11 arg12 arg13 arg14 arg15 arg16 harg16 arg17 arg18 d _

end Cert.KernelIdeal
-- ==== Proof.Region.lean ====
module

public import proofs.«01_k».proof.Proof.Deal
public import proofs.«01_k».proof.Proof.Body
public import proofs.«01_k».proof.Proof.BodyEq
public import proofs.«01_k».proof.Proof.Gen.KernelIdeal.Frame
public import Idealize.ShloMosaic.Lib.Pipeline.RegionTalk
public import Idealize.ShloMosaic.Lib.Pipeline.Value

@[expose] public section

/-!
# The kernel's region

What every device's arrays and staging buffers hold around the one call, what enters and leaves the call,
and the call's obligation met by the body's proof.
-/

noncomputable section

namespace Cert.KernelIdeal

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation)
open Cert.KernelIdeal.Gen

variable {F : FTy → Type} [FloatOps F]

local notation "𝕄" => MT nD τ sig ℕ (Elt F) ℕ UT ℕ

section Region

variable (m : (ℓ : Loc nD τ sig) → Buf (Elt F) ℓ)

/-! ## Contents -/

/-- A device's columns of `x`. -/
def xArg (c : Dev nD) : Vec F S4096x128 .bf16 := m ((c : Thread nD τ).loc main_arg0)

/-- A device's rows of `w`. -/
def wArg (c : Dev nD) : Vec F S128x8192 .bf16 := m ((c : Thread nD τ).loc main_arg1)

/-- The host leaves the ring's table in its buffer. -/
theorem V_perm (c : Dev nD) : V m c main_c = (permTab : Vec F S32 .i32) := by
  show StableHlo.after hostOps0 (fun b => m (c, b)) (Proc.devRef .tc main_c) = _
  rw [hostOps0, StableHlo.after_cons, StableHlo.after_cons, StableHlo.after_nil, StableHlo.nullary_result_ne (h := by decide), StableHlo.nullary_result]
  rfl

/-- The host leaves the table of places in its buffer. -/
theorem V_inv (c : Dev nD) : V m c main_c_0 = (invTab : Vec F S32 .i32) := by
  show StableHlo.after hostOps0 (fun b => m (c, b)) (Proc.devRef .tc main_c_0) = _
  rw [hostOps0, StableHlo.after_cons, StableHlo.after_cons, StableHlo.after_nil, StableHlo.nullary_result]
  rfl

/-- What enters the call, before the body. -/
def Φ₀ (c : Dev nD) : sProp 𝕄 :=
  iprop((∃ K κ, world (xArg m) (wArg m) K κ ∗ ownPos c ∗ hand c) ∗ scratch c ∗ ∃ r, prngReg c r)

/-- What leaves it. -/
def Φ₁ (c : Dev nD) : sProp 𝕄 :=
  iprop(semVal (barC c) 0 ∗ (bigSep Finset.univ fun k : Own => semVal ((c : Thread nD τ), osem k) 0) ∗ scratch c ∗ ∃ r, prngReg c r)

/-- The call's data on a device: arrays at entry, staging buffers after the body, the invariant, and what is owed. -/
def dat0 (c : Dev nD) : Dat τ (Elt F) ℕ ℕ UT ℕ cfg0 c where
  A w := V m c (Pipeline.arrRef spec0 w)
  after w _ := match w with
    | ⟨0, _⟩ => xArg m c
    | ⟨1, _⟩ => wArg m c
    | ⟨2, _⟩ => permTab
    | ⟨3, _⟩ => invTab
    | ⟨4, _⟩ => result (xArg m) (wArg m) c
    | ⟨5, _⟩ => peaks (xArg m) (wArg m) c 32
  Φ t := if t.val = 0 then Φ₀ m c else Φ₁ c
  q _ := fullShare
  owed t := if t.val = 0 then O₀ c else 0

/-- The call's windows may be staged. -/
abbrev adm : (p : Fin 1) → (pcfgs (F := F) p).Adm := fun p => (cfgs p).toPCfg_adm

/-- The call's data on each device, as the call's rule takes it. -/
def pdats : (p : Fin 1) → (c : Dev nD) → Dat τ (Elt F) ℕ ℕ UT ℕ (Pipeline.pin (pcfgs (F := F)) adm p) c
  | 0 => dat0 m

/-- A whole array's one block places every index where it is. -/
theorem whole_emb {s : Shape} {e : EltTy} {cs : CoreSpace} (arr : Memref sig .tc .hbm s e) (isOut sync : Bool)
    (stage : Memref sig .tc (.core cs) ⟨s.rank, s.size⟩ e) (sem : DmaSem sig) (h1 : arr.IsWhole) (h2 : stage.IsWhole)
    (t : Fin Pipeline.Grid.none.N) (i : s.Idx) :
    ((Window.whole arr isOut sync stage sem h1 h2).rect t).emb i = i := by
  funext a
  apply Fin.ext
  show 0 * _ + 1 * (i a).val = (i a).val
  rw [Nat.zero_mul, Nat.zero_add, Nat.one_mul]

/-- The call finds the device's columns of `x` staged. -/
theorem before0 (c : Dev nD) (d) : (dat0 m c).before 0 t0_0 d = xArg m c := by
  unfold Dat.before; rw [if_pos (fetch0_0 t0_0)]
  exact Eq.trans (funext fun i => congrArg (V m c main_arg0) (whole_emb _ _ _ _ _ (Memref.isWhole_whole _) (hstage0_0 0) t0_0 _)) (V_main_arg0 m c)

/-- The call finds the device's rows of `w` staged. -/
theorem before1 (c : Dev nD) (d) : (dat0 m c).before 1 t0_0 d = wArg m c := by
  unfold Dat.before; rw [if_pos (fetch0_1 t0_0)]
  exact Eq.trans (funext fun i => congrArg (V m c main_arg1) (whole_emb _ _ _ _ _ (Memref.isWhole_whole _) (hstage0_1 0) t0_0 _)) (V_main_arg1 m c)

/-- The call finds the ring's table staged. -/
theorem before2 (c : Dev nD) (d) : (dat0 m c).before 2 t0_0 d = (permTab : Vec F S32 .i32) := by
  unfold Dat.before; rw [if_pos (fetch0_2 t0_0)]
  exact Eq.trans (funext fun i => congrArg (V m c main_c) (whole_emb _ _ _ _ _ (Memref.isWhole_whole _) (hstage0_2 0) t0_0 _)) (V_perm m c)

/-- The call finds the table of places staged. -/
theorem before3 (c : Dev nD) (d) : (dat0 m c).before 3 t0_0 d = (invTab : Vec F S32 .i32) := by
  unfold Dat.before; rw [if_pos (fetch0_3 t0_0)]
  exact Eq.trans (funext fun i => congrArg (V m c main_c_0) (whole_emb _ _ _ _ _ (Memref.isWhole_whole _) (hstage0_3 0) t0_0 _)) (V_inv m c)

/-- The one block of a result covers it. -/
theorem final4 (c : Dev nD) : (dat0 m c).arrAt 4 cfg0.N = result (xArg m) (wArg m) c := by
  refine (dat0 m c).arrAt_eq_of_cover 4 _ (fun t _ => ?_) fun i => ⟨t0_0, flush0_4 t0_0, ?_⟩
  · exact (funext fun i => congrArg (result (xArg m) (wArg m) c) (whole_emb _ _ _ _ _ (Memref.isWhole_whole _) (hstage0_4 0) t _)).symm
  · show i ∈ ((View.whole main_v1_0).slice (win0_4.rect t0_0)).set
    rw [View.set_slice_whole, Rect.mem_set_unit]
    intro a
    have := (i a).isLt
    exact ⟨(Nat.zero_mul _).trans_le (Nat.zero_le _), this.trans_eq ((congrArg (· + _) (Nat.zero_mul _)).trans (Nat.zero_add _)).symm⟩

/-- The call's end is not its start. -/
theorem last_ne : ¬ (Fin.last cfg0.N).val = 0 := by rw [Fin.val_last, show cfg0.N = 1 from N_0]; decide

/-- Before the body a device owes what it owes at launch. -/
theorem owed_first (c : Dev nD) : (dat0 m c).owed 0 = O₀ c := by
  show (if (0 : Fin (cfg0.N + 1)).val = 0 then O₀ c else 0) = _; exact if_pos rfl

/-- After the body a device owes nothing. -/
theorem owed_last (c : Dev nD) : (dat0 m c).owed (Fin.last _) = 0 := by
  show (if (Fin.last cfg0.N).val = 0 then O₀ c else 0) = _; exact if_neg last_ne

/-- What the call's data says before the body. -/
theorem Φ_first (c : Dev nD) : (dat0 m c).Φ 0 = Φ₀ m c := by
  show (if (0 : Fin (cfg0.N + 1)).val = 0 then Φ₀ m c else Φ₁ c) = _; exact if_pos rfl

/-- What the call's data says after it. -/
theorem Φ_last (c : Dev nD) : (dat0 m c).Φ (Fin.last _) = Φ₁ c := by
  show (if (Fin.last cfg0.N).val = 0 then Φ₀ m c else Φ₁ c) = _; exact if_neg last_ne

/-- What a device owes, as the call's data says it. -/
theorem owesAt_intro (c : Dev nD) (t : Fin (cfg0.N + 1)) (O : CellTallies nD τ sig ℕ) (h0 : (dat0 m c).owed t = O) (W : Waits sig ℕ) :
    (owes (c : Thread nD τ) O W : sProp 𝕄) ⊢ ((dat0 m c).owesAt 0 t : sProp 𝕄) := by
  unfold Dat.owesAt Pipeline.owesWithin Dat.bound
  rw [h0]
  iintro HO
  iexists W
  isplitr; · ipureintro; exact fun _ _ => Or.inl trivial
  iexact HO

/-- What the call's data says a device owes, as such. -/
theorem owesAt_elim (c : Dev nD) (t : Fin (cfg0.N + 1)) (O : CellTallies nD τ sig ℕ) (h0 : (dat0 m c).owed t = O) :
    ((dat0 m c).owesAt 0 t : sProp 𝕄) ⊢ iprop(∃ W, owes (c : Thread nD τ) O W) := by
  unfold Dat.owesAt Pipeline.owesWithin; rw [h0]
  iintro ⟨%W, -, HO⟩
  iexists W; iexact HO

/-- A window's staging buffer at the call's one point. -/
abbrev staged (c : Dev nD) (w : Fin 6) (f : (cfg0.win w).block.Idx → Elt F (cfg0.win w).elt) : sProp 𝕄 :=
  Idealize.ShloMosaic.owns (c : Thread nD τ) ((cfg0.win w).stage (cfg0.slots t0_0 w)) fullShare f

/-- The first operand staged is the whole buffer of `x` held. -/
theorem staged0 (c : Dev nD) (f : Vec F S4096x128 .bf16) : (staged c 0 f : sProp 𝕄) = at' c cc0_stg0_0 f := owns_whole (c : Thread nD τ) cc0_stg0_0 fullShare f

/-- The second operand staged is the whole buffer of `w` held. -/
theorem staged1 (c : Dev nD) (f : Vec F S128x8192 .bf16) : (staged c 1 f : sProp 𝕄) = at' c cc0_stg1_0 f := owns_whole (c : Thread nD τ) cc0_stg1_0 fullShare f

/-- The third operand staged is the whole buffer of the ring's table held. -/
theorem staged2 (c : Dev nD) (f : Vec F S32 .i32) : (staged c 2 f : sProp 𝕄) = at' c cc0_stg2_0 f := owns_whole (c : Thread nD τ) cc0_stg2_0 fullShare f

/-- The fourth operand staged is the whole buffer of the table of places held. -/
theorem staged3 (c : Dev nD) (f : Vec F S32 .i32) : (staged c 3 f : sProp 𝕄) = at' c cc0_stg3_0 f := owns_whole (c : Thread nD τ) cc0_stg3_0 fullShare f

/-- The first result staged is the whole buffer of the result held. -/
theorem staged4 (c : Dev nD) (f : Vec F S128x8192 .f32) : (staged c 4 f : sProp 𝕄) = at' c cc0_stg4_0 f := owns_whole (c : Thread nD τ) cc0_stg4_0 fullShare f

/-- The second result staged is the whole buffer of the maximum held. -/
theorem staged5 (c : Dev nD) (f : Vec F S1x1 .f32) : (staged c 5 f : sProp 𝕄) = at' c cc0_stg5_0 f := owns_whole (c : Thread nD τ) cc0_stg5_0 fullShare f

/-- The body leaves the columns of `x` as they are. -/
theorem after0 (c : Dev nD) : (dat0 m c).after 0 t0_0 = xArg m c := rfl

/-- The body leaves the rows of `w` as they are. -/
theorem after1 (c : Dev nD) : (dat0 m c).after 1 t0_0 = wArg m c := rfl

/-- The body leaves the ring's table as it is. -/
theorem after2 (c : Dev nD) : (dat0 m c).after 2 t0_0 = (permTab : Vec F S32 .i32) := rfl

/-- The body leaves the table of places as it is. -/
theorem after3 (c : Dev nD) : (dat0 m c).after 3 t0_0 = (invTab : Vec F S32 .i32) := rfl

/-- The body leaves the result in the first result's buffer. -/
theorem after4 (c : Dev nD) : (dat0 m c).after 4 t0_0 = result (xArg m) (wArg m) c := rfl

/-- The body leaves the maximum over the devices in the second result's buffer. -/
theorem after5 (c : Dev nD) : (dat0 m c).after 5 t0_0 = peaks (xArg m) (wArg m) c 32 := rfl

/-- What the body's proof is used at: the staging buffers as the call finds and leaves them. -/
theorem body_run (c : Dev nD) :
    iprop((dat0 m c).Φ t0_0.castSucc ∗ (dat0 m c).owesAt 0 t0_0.castSucc
        ∗ (∃ d, staged c 0 ((dat0 m c).before 0 t0_0 d)) ∗ (∃ d, staged c 1 ((dat0 m c).before 1 t0_0 d))
        ∗ (∃ d, staged c 2 ((dat0 m c).before 2 t0_0 d)) ∗ (∃ d, staged c 3 ((dat0 m c).before 3 t0_0 d))
        ∗ (∃ d, staged c 4 ((dat0 m c).before 4 t0_0 d)) ∗ (∃ d, staged c 5 ((dat0 m c).before 5 t0_0 d)))
      ⊢ wp frame (wpE (defs₀ (F := F)) 𝒱₀ c none) Set.univ
          (defs₀ (F := F) .tc cfg0.body (cfg0.bodyArgs t0_0 (cfg0.slots t0_0)))
          fun _ => iprop((dat0 m c).Φ t0_0.succ ∗ (dat0 m c).owesAt 0 t0_0.succ
            ∗ staged c 0 ((dat0 m c).after 0 t0_0) ∗ staged c 1 ((dat0 m c).after 1 t0_0) ∗ staged c 2 ((dat0 m c).after 2 t0_0)
            ∗ staged c 3 ((dat0 m c).after 3 t0_0) ∗ staged c 4 ((dat0 m c).after 4 t0_0) ∗ staged c 5 ((dat0 m c).after 5 t0_0)) := by
  rw [show (dat0 m c).Φ t0_0.castSucc = Φ₀ m c from Φ_first m c, show (dat0 m c).Φ t0_0.succ = Φ₁ c from Φ_last m c]
  have e : defs₀ (F := F) .tc cfg0.body (cfg0.bodyArgs t0_0 (cfg0.slots t0_0))
      = pBody xbuf wbuf pbuf ibuf ybuf abuf harg (sbuf true) (sbuf_whole true) (rbuf true) (rbuf_whole true) (sbuf false) (sbuf_whole false) (rbuf false) (rbuf_whole false)
          (ssem true) (rsem true) (ssem false) (rsem false) (crs true) (crs false) mbuf cc0_scratch11 cc0_scratch12 := by
    rw [body_eq (F := F) xbuf (hstage0_0 0) wbuf (hstage0_1 0) pbuf (hstage0_2 0) ibuf (hstage0_3 0) ybuf (hstage0_4 0) abuf harg]
    rfl
  rw [e]
  simp only [before0, before1, before2, before3, after0, after1, after2, after3, after4, after5, staged0, staged1, staged2, staged3, staged4, staged5]
  unfold Φ₀
  iintro ⟨⟨⟨%K, %κ, #Hw, Hpos, Hhand⟩, Hsc, Hp⟩, HO, ⟨%d0, H0⟩, ⟨%d1, H1⟩, ⟨%d2, H2⟩, ⟨%d3, H3⟩, ⟨%d4, H4⟩, ⟨%d5, H5⟩⟩
  ihave HO := (owesAt_elim m c t0_0.castSucc (O₀ c) (owed_first m c)) $$ HO
  icases HO with ⟨%W, HO⟩
  iapply (wp_body (xArg m) (wArg m) K κ c)
  isplitr; · iexact Hw
  isplitr [Hp]
  · unfold before ops debt O₀
    isplitl [H0 H1 H2 H3]
    · isplitl [H0]; · iexact H0
      isplitl [H1]; · iexact H1
      isplitl [H2]; · iexact H2
      iexact H3
    isplitl [H4]; · iexists _; iexact H4
    isplitl [H5]; · iexists _; iexact H5
    isplitl [Hsc]; · iexact Hsc
    isplitl [Hpos]; · iexact Hpos
    isplitl [Hhand]; · iexact Hhand
    iexists _; iexact HO
  unfold after ops debt Φ₁
  rw [owing_empty]
  iintro ⟨⟨H0, H1, H2, H3⟩, H4, H5, Hsc, Hos, Hb, ⟨%W', HO⟩⟩
  isplitr [HO H0 H1 H2 H3 H4 H5]
  · isplitl [Hb]; · iexact Hb
    isplitl [Hos]; · iexact Hos
    isplitl [Hsc]; · iexact Hsc
    iexact Hp
  isplitl [HO]; · iapply (owesAt_intro m c t0_0.succ 0 (owed_last m c) W'); iexact HO
  isplitl [H0]; · iexact H0
  isplitl [H1]; · iexact H1
  isplitl [H2]; · iexact H2
  isplitl [H3]; · iexact H3
  isplitl [H4]; · iexact H4
  iexact H5

set_option maxRecDepth 65536 in
set_option maxHeartbeats 4000000 in
/-- The call's obligation: what the staging buffers hold is what the body is proved from, and what it leaves is what they then hold. -/
theorem body_obligation (c : Dev nD) : BodyObligation (dat0 (F := F) m c) (defs₀ (F := F)) 𝒱₀ 0 Set.univ := fun t => by
  obtain rfl := fin_N0 t
  rw [bigSep_W0, bigSep_W0]
  have hi (w : Fin 6) : cfg0.idle w (cfg0.grid.coords t0_0) = false := rfl
  simp only [hi]
  exact body_run m c

end Region

end Cert.KernelIdeal

end
-- ==== Proof.Launch.lean ====
module

public import proofs.«01_k».proof.Proof.Region
public import Idealize.ShloMosaic.Lib.Pipeline.FrameSuffix

@[expose] public section

/-!
# The launch

The program as its host operations and its one call, the ghost state allocated for all devices at once and dealt,
and the run: every execution from zero counters ends, with the arguments as they were, every device's result at the
value the protocol computes, and every counter at zero.
-/

noncomputable section

namespace Cert.KernelIdeal

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window)
open Cert.KernelIdeal.Gen

variable {F : FTy → Type} [FloatOps F]

local notation "𝕄" => MT nD τ sig ℕ (Elt F) ℕ UT ℕ

section Launch

variable (m : (ℓ : Loc nD τ sig) → Buf (Elt F) ℓ) (ρ : Dev nD → PrngReg)

/-! ## The call as a region -/

/-- What a device holds for the call: the invariants, the right to open each of its semaphores, and its hand. -/
def Tk (c : Dev nD) : sProp 𝕄 :=
  iprop(∃ K κ, world (xArg m) (wArg m) K κ ∗ (bigSep Finset.univ fun k : Own => openTok ER ((c : Thread nD τ), osem k)) ∗ hand c)

/-- The same with its semaphores opened. -/
def Xk (c : Dev nD) : sProp 𝕄 := iprop(∃ K κ, world (xArg m) (wArg m) K κ ∗ ownPos c ∗ hand c)

/-- What it keeps of the protocol after the call. -/
def Yk (c : Dev nD) : sProp 𝕄 := semVal (barC c) 0

/-- One semaphore opened. -/
theorem open_one (K : GSem nD τ sig → ℕ) (κ : Key → ℕ) (c : Dev nD) (k : Own) :
    iprop(world (xArg m) (wArg m) K κ ∗ (openTok ER ((c : Thread nD τ), osem k) ∗ semVal ((c : Thread nD τ), osem k) 0))
      ⊢ (iprop(|={Set.univ}=> fresh ((c : Thread nD τ), osem k)) : sProp 𝕄) := by
  iintro ⟨#Hw, Ho, Hv⟩
  unfold fresh
  iapply (cell_open ER (Rd (xArg m) (wArg m)) (Set.mem_univ (K ((c : Thread nD τ), osem k))))
  isplitr
  · iapply (world_cell (xArg m) (wArg m) K κ (mem_own c k)); iexact Hw
  isplitl [Ho] <;> iassumption

/-- All of a device's semaphores opened. -/
theorem open_all (K : GSem nD τ sig → ℕ) (κ : Key → ℕ) (c : Dev nD) :
    iprop(world (xArg m) (wArg m) K κ ∗ bigSep Finset.univ fun k : Own =>
        iprop(openTok ER ((c : Thread nD τ), osem k) ∗ semVal ((c : Thread nD τ), osem k) 0))
      ⊢ (iprop(|={Set.univ}=> ownPos c) : sProp 𝕄) :=
  (bigSep_with_persistent fun k _ => open_one m K κ c k).trans
    (bigSep_fupd (E := Set.univ) Finset.univ fun k : Own => fresh ((c : Thread nD τ), osem k))

/-- What a device holds for the call, with its semaphores opened. -/
theorem hopen (c : Dev nD) : iprop(Tk m c ∗ Pipeline.ownSems0 osem c ∗ levAts L lv) ⊢ (iprop(|={Set.univ}=> Xk m c) : sProp 𝕄) := by
  unfold Tk Xk Pipeline.ownSems0
  iintro ⟨⟨%K, %κ, #Hw, Ho, Hh⟩, Hv, -⟩
  imod (open_all m K κ c) $$ [Ho Hv] with Hp
  · isplitr; · iexact Hw
    rw [bigSep_sep']
    isplitl [Ho] <;> iassumption
  imodintro
  iexists K; iexists κ
  isplitr; · iexact Hw
  isplitl [Hp] <;> iassumption

/-- What the call allocates beside the staging buffers is the kernel's scratch buffers. -/
theorem rest_scratch (c : Dev nD) : (Pipeline.scopedRest (Pipeline.pin (pcfgs (F := F)) adm 0).spec c : sProp 𝕄) = scratch c :=
  scopedRest0_eq c

/-- What enters the call is what its data says before the body. -/
theorem hin (c : Dev nD) : iprop(Pipeline.scopedRest (Pipeline.pin (pcfgs (F := F)) adm 0).spec c ∗ (∃ r, prngReg c r)
    ∗ StableHlo.held (c.tc : Thread nD τ) ∅ (StableHlo.after hostOps0 fun b => m (c, b)) ∗ Xk m c) ⊢ (pdats m 0 c).Φ 0 := by
  rw [show (pdats m 0 c).Φ 0 = Φ₀ m c from Φ_first m c, rest_scratch]
  unfold Φ₀ Xk
  iintro ⟨Hs, Hp, -, HX⟩
  isplitl [HX]; · iexact HX
  isplitl [Hs] <;> iassumption

/-- What the buffers hold after the call. -/
def W₁ (c : Dev nD) : Valuation τ sig (Elt F) :=
  Pipeline.withArrays cfg0.spec c (StableHlo.after hostOps0 fun b => m (c, b)) fun w => (dat0 m c).arrAt w cfg0.N

/-- Holding no buffers is holding nothing. -/
theorem held_none (c : Dev nD) (W : Valuation τ sig (Elt F)) : (StableHlo.held (c.tc : Thread nD τ) ∅ W : sProp 𝕄) = BI.emp := by
  unfold StableHlo.held; exact BI.bigSep_empty

/-- What its data says after the body is what leaves the call. -/
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (W₁ m c) ∗ Pipeline.ownSems0 osem c ∗ Yk c) := by
  rw [show (pdats m 0 c).Φ (Fin.last (Pipeline.pin (pcfgs (F := F)) adm 0).N) = Φ₁ c from Φ_last m c, rest_scratch, held_none]
  unfold Φ₁ Yk Pipeline.ownSems0
  iintro ⟨Hb, Ho, Hs, Hp⟩
  isplitl [Hs]; · iexact Hs
  isplitl [Hp]; · iexact Hp
  isplitr; · iempintro
  isplitl [Ho] <;> iassumption

/-- The facts of the call's windows that the launch needs. -/
theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- Every debt is due after the start. -/
theorem Debt.due_pos (x : Debt) : 0 < x.due := by cases x <;> simp only [Debt.due] <;> omega

/-- Whatever a device owes is due after the moment the staging copies are waited for. -/
theorem owed_above (c : Dev nD) (t : Fin ((Pipeline.pin (pcfgs (F := F)) adm 0).N + 1)) (g : GSem nD τ sig) (i : ℕ)
    (h : 0 < (pdats (F := F) m 0 c).owed t g i) : i ∈ L g ∧ (0 : ℕ) < lv g i := by
  have e : (pdats (F := F) m 0 c).owed t = if t.val = 0 then O₀ c else 0 := rfl
  rw [e] at h
  split at h
  · obtain ⟨x, -, rfl, rfl⟩ := owing_pos c _ g i h
    exact ⟨ix_mem c x, by rw [lv_debt]; exact x.due_pos⟩
  · exact absurd h (Nat.lt_irrefl 0)

/-- The semaphores of the staging copies are waited for at the start. -/
theorem stage_use : ∀ (w : Fin 6) (s : Fin (spec0 w).nbuf), dueAt (useOf (.dma ((spec0 w).sem s))) 0 = 0 := by decide

/-- Every semaphore of a device may be waited for under the first name. -/
theorem stage_mem (c : Dev nD) (sm : SemLoc sig) : 0 ∈ L ((c : Thread nD τ), sm) := by rw [L_tc]; decide

/-- Before the call its arrays hold what the host operations leave. -/
theorem hW (c : Dev nD) (w) : (pdats m 0 c).arrAt w 0 = (StableHlo.after hostOps0 fun b => m (c, b)) (Proc.devRef .tc (Pipeline.arrRef (Pipeline.pin (pcfgs (F := F)) adm 0).spec w)) := rfl

/-- After the call its arrays hold what the data says. -/
theorem hW' (c : Dev nD) (w) : (pdats m 0 c).arrAt w (Pipeline.pin (pcfgs (F := F)) adm 0).N
    = W₁ m c (Proc.devRef .tc (Pipeline.arrRef (Pipeline.pin (pcfgs (F := F)) adm 0).spec w)) :=
  (Pipeline.withArrays_arr cfg0.spec winFacts0.arr_inj c _ (fun w => (dat0 m c).arrAt w cfg0.N) w).symm

set_option backward.isDefEq.respectTransparency.types false in
/-- The call. -/
def reg : Pipeline.RegionSeg (pcfgs (F := F)) adm (pdats m) 0 defs₀ 𝒱₀ L lv 0 :=
  Pipeline.RegionSeg.ofTalk (pcfgs (F := F)) adm (pdats m) 0 defs₀ 𝒱₀ L lv 0 osem (by decide : Pipeline.OwnSemFacts spec0 osem)
    ∅ ∅ (Finset.Subset.refl _) kit rfl (fun c => (body_obligation m c).loose)
    (fun _ => 0) O₀ (fun c => (owed_first m c).trans (zero_add _).symm) (owed_last m) (fun _ => rfl)
    (fun _ w => by fin_cases w <;> rfl)
    (fun c => StableHlo.after hostOps0 fun b => m (c, b)) (W₁ m) (fun _ b hb => absurd hb (by rw [Finset.sdiff_self]; exact Finset.notMem_empty b))
    (Tk m) Yk (Xk m) Yk (hopen m) (hin m) (hout m)
    (fun c => by iintro H; imodintro; iexact H)
    (fun _ => 0)
    ⟨fun c _ _ => stage_mem c _, fun c w s => le_of_eq (stage_use w s), fun c t g i h => owed_above m c t g i h⟩
    (fun _ => iprop(emp))
    (hW m) (hW' m)

/-! ## The program as its segments -/

/-- The buffers the program's arrays are in. -/
abbrev bufs : Finset (DevRef τ sig) := Pipeline.ucRefs τ sig

/-- Those are the call's arrays. -/
theorem bufs_arr : bufs = Pipeline.arrRefs (τ := τ) spec0 := by decide

/-- What rides beside the buffers up to the call. -/
def R (c : Dev nD) : sProp 𝕄 := iprop(Tk m c ∗ (∃ r, prngReg c r) ∗ ∃ W, owes (c : Thread nD τ) (O₀ c) W)

/-- The host operations touch only those buffers. -/
theorem host_sub : ∀ op ∈ (hostOps0 : List (HloOp τ sig (Elt F))), op.bufs ⊆ bufs := fun op h =>
  Pipeline.sub_ucRefs op (List.forall_iff_forall_mem.mp hostOps0_sub op h)

/-- The host operations before the call, from the buffers at launch. -/
def seg0 : Pipeline.HostSeg (Name := ℕ) (U := UT) (pcfgs (F := F)) defs₀ 𝒱₀ L lv :=
  Pipeline.HostSeg.ofOps _ _ _ _ _ bufs hostOps0 host_sub (List.forall_iff_forall_mem.mp hostOps0_fresh) (fun c b => m (c, b)) (R m)

/-- The program in its two parts: the host operations and the call. -/
def segs : List (Pipeline.Seg (pcfgs (F := F)) adm (pdats m) 0 defs₀ 𝒱₀ L lv) := [.host (seg0 m), .region (reg m)]

/-- The program is those two parts, one after the other. -/
theorem main_eq (c : Dev nD) : main (F := F) c = Pipeline.Seg.run (segs m) :=
  main_segs adm (pdats m) 0 𝒱₀ L lv (seg0 m) (reg m) rfl c

/-- After the host operations all the call needs is there. -/
theorem reg_pre (c : Dev nD) :
    iprop(StableHlo.held (c : Thread nD τ) bufs (StableHlo.after hostOps0 fun b => m (c, b)) ∗ R m c) ⊢ (reg m).pre c := by
  show _ ⊢ iprop(StableHlo.held (c.tc : Thread nD τ) (Pipeline.arrRefs (τ := τ) (pcfgs (F := F) 0).spec) (StableHlo.after hostOps0 fun b => m (c, b)) ∗ (∃ r, prngReg c r)
    ∗ (StableHlo.held (c.tc : Thread nD τ) ∅ (StableHlo.after hostOps0 fun b => m (c, b)) ∗ emp) ∗ Tk m c ∗ ∃ Wd, owes (c : Thread nD τ) (0 + O₀ c) Wd)
  rw [held_none, zero_add, bufs_arr]
  unfold R
  iintro ⟨Hh, HT, Hp, HO⟩
  isplitl [Hh]; · iexact Hh
  isplitl [Hp]; · iexact Hp
  isplitr
  · isplitr <;> iempintro
  isplitl [HT] <;> iassumption

/-- The call leaves the buffers, the barrier at zero and nothing owed. -/
theorem reg_post (c : Dev nD) : (reg m).post c
    ⊢ iprop((StableHlo.held (c : Thread nD τ) bufs (W₁ m c) ∗ semVal (barC c) 0) ∗ ∃ W, owes (c : Thread nD τ) (0 : CellTallies nD τ sig ℕ) W) := by
  show iprop(StableHlo.held (c.tc : Thread nD τ) (Pipeline.arrRefs (τ := τ) (pcfgs (F := F) 0).spec) (W₁ m c) ∗ (∃ r, prngReg c r)
    ∗ (StableHlo.held (c.tc : Thread nD τ) ∅ (W₁ m c) ∗ emp) ∗ Yk c ∗ ∃ Wd, owes (c : Thread nD τ) (0 : CellTallies nD τ sig ℕ) Wd) ⊢ _
  rw [bufs_arr]
  unfold Yk
  iintro ⟨Hh, -, -, Hb, HO⟩
  isplitr [HO]
  · isplitl [Hh] <;> iassumption
  iexact HO

/-! ## The launch element, allocated and dealt -/

/-- No barrier semaphore is one of a device's own. -/
theorem disjoint_cells : Disjoint bars owns := by
  rw [Finset.disjoint_left]
  rintro g h₁ h₂
  obtain ⟨c, -, rfl⟩ := Finset.mem_map.mp h₁
  obtain ⟨x, -, h⟩ := Finset.mem_map.mp h₂
  have h3 := congrArg (fun g : GSem nD τ sig => useOf g.2) h
  have h4 : ownUse x.2 = .bar := (use_osem x.2).symm.trans (h3.trans use_bar)
  rcases hx : x.2 with b | y | y | j | j <;> rw [hx] at h4 <;> cases h4

/-- The ghost state at the start: the staging buffers', the semaphores' and the slots'. -/
def u₀ : UT :=
  (initOf (Pipeline.cells (Pipeline.pin (pcfgs (F := F)) adm) cellOf_inj) (Pipeline.launchToks (Pipeline.pin (pcfgs (F := F)) adm) cellOf_inj),
    (launchOf bars owns tokens, Release.initSlots (Finset.univ : Finset Key) 8))

/-- The protocol's part of it. -/
def stake : sProp 𝕄 := iprop(BI.own (ER (launchOf bars owns tokens)) ∗ BI.own (ES (Release.initSlots (Finset.univ : Finset Key) 8)))

/-- One resource, kept by one device. -/
def keptBy (c₀ : Dev nD) (X : sProp 𝕄) (c : Dev nD) : sProp 𝕄 := if c = c₀ then X else iprop(emp)

/-- What one device keeps, over all devices, is that resource. -/
theorem bigSep_keptBy (c₀ : Dev nD) (X : sProp 𝕄) : bigSep Finset.univ (keptBy c₀ X) = X := by
  have hz : bigSep (Finset.univ.erase c₀) (keptBy c₀ X) = (BI.emp : sProp 𝕄) := by
    rw [bigSep_congr (Ψ := fun _ => (BI.emp : sProp 𝕄)) fun c hc => by unfold keptBy; rw [if_neg (Finset.ne_of_mem_erase hc)]; rfl]
    exact BI.bigSep_emp_const _
  rw [bigSep_univ_at _ c₀, hz]
  unfold keptBy; rw [if_pos rfl]
  exact BI.equiv_iff.mp sep_emp

/-- The protocol's part of the ghost state, kept by the first device. -/
def G : Dev nD → sProp 𝕄 := keptBy 0 stake

/-- The only semaphore a device has outside the call is the barrier's. -/
theorem unscopedSems0_bar (c : Dev nD) : (unscopedSems0 c : sProp 𝕄) = semVal (barC c) 0 := by
  unfold unscopedSems0
  rw [show (Finset.univ.filter fun sm : SemLoc sig => ¬ sm.isScoped .tc) = {SemLoc.reg (sig.barrier 0 rfl)} from by decide, BI.bigSep_singleton]

/-- What every device may consult. -/
def records (K : GSem nD τ sig → ℕ) (κ : Key → ℕ) : sProp 𝕄 :=
  iprop(world (xArg m) (wArg m) K κ ∗ bigSep bars fun g => reached ER g 0)

/-- What every device may consult stays true. -/
instance records_persistent (K : GSem nD τ sig → ℕ) (κ : Key → ℕ) : BI.Persistent (records m K κ) := by unfold records; infer_instance

/-- What of the ghost state a device is dealt. -/
def dealt (c : Dev nD) : sProp 𝕄 :=
  iprop((bigSep Finset.univ fun k : Own => openTok ER ((c : Thread nD τ), osem k)) ∗ atPos ER (barC c) 0 ∅ 0 ∗ readers c ∗ pays c ∗ writes c)

/-- What it has from the launch otherwise. -/
def bundle (c : Dev nD) : sProp 𝕄 :=
  iprop(StableHlo.held (c : Thread nD τ) bufs (fun b => m (c, b)) ∗ credits c ∗ owes (c : Thread nD τ) (O₀ c) ∅ ∗ ∃ r, prngReg c r)

/-- What a device starts the program with. -/
abbrev T₀ (c : Dev nD) : sProp 𝕄 := iprop(StableHlo.held (c : Thread nD τ) bufs (fun b => m (c, b)) ∗ R m c)

/-- What a device ends the program with. -/
abbrev Tₙ (c : Dev nD) : sProp 𝕄 := iprop(StableHlo.held (c : Thread nD τ) bufs (W₁ m c) ∗ semVal (barC c) 0)

/-- What is recorded, dealt and bundled is what a device starts with. -/
theorem T₀_intro (K : GSem nD τ sig → ℕ) (κ : Key → ℕ) (c : Dev nD) : iprop(records m K κ ∗ (dealt c ∗ bundle m c)) ⊢ T₀ m c := by
  unfold bundle T₀ R Tk records dealt
  iintro ⟨⟨#HW, #HR⟩, ⟨Ho, Ha, Hr, Hp, Hw⟩, Hh, Hc, HO, Hg⟩
  isplitl [Hh]; · iexact Hh
  isplitr [HO Hg]
  · iexists K; iexists κ
    isplitr; · iexact HW
    isplitl [Ho]; · iexact Ho
    iapply (deal_hand c)
    isplitr; · iexact HR
    isplitl [Ha]; · iexact Ha
    isplitl [Hr]; · iexact Hr
    isplitl [Hp]; · iexact Hp
    isplitl [Hw] <;> iassumption
  isplitl [Hg]; · iexact Hg
  iexists ∅; iexact HO

/-- What the launch gives a device is its bundle, its barrier at zero and its part of the ghost state. -/
theorem core (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (barC c) 0 ∗ G c)) : sProp 𝕄) := by
  rw [show unscopedBufs c (fun b => m ((c : Thread nD τ).loc b)) = StableHlo.held (c : Thread nD τ) bufs (fun b => m (c, b)) from
      Pipeline.unscopedBufs_held c (fun b => m (c, b)), unscopedSems0_bar]
  unfold bundle
  iintro ⟨Hh, Hus, HO, Hcr, Hp, HG⟩
  ihave Hc := (deal_credits (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

/-- A resource for each barrier semaphore is one for each device. -/
theorem bars_all (Φ : GSem nD τ sig → sProp 𝕄) : bigSep bars Φ = bigSep Finset.univ fun c : Dev nD => Φ (barC c) := by
  unfold bars; rw [bigSep_map]; rfl

/-- A resource for each own semaphore is one for each of each device's. -/
theorem owns_all (Φ : GSem nD τ sig → sProp 𝕄) :
    bigSep owns Φ = bigSep Finset.univ fun c : Dev nD => bigSep Finset.univ fun k : Own => Φ ((c : Thread nD τ), osem k) := by
  unfold owns; rw [bigSep_map, bigSep_univ_prod]; rfl

/-- The slots' readers dealt to the devices whose slots they are. -/
theorem readers_all : (bigSep Finset.univ fun k : Key => Release.readerAt ES k 0 : sProp 𝕄) = bigSep Finset.univ readers := by
  rw [bigSep_univ_prod]; rfl

/-- Everything allocated and dealt. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barC c) 0 ∗ G c)) : sProp 𝕄) := bigSep_mono fun c _ => core m ρ c
  iintro ⟨H, #HL⟩
  ihave H' := hcore $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (show bigSep Finset.univ (G (F := F)) ⊢ stake from Entails.of_eq (bigSep_keptBy (F := F) 0 stake)) $$ HG
  unfold stake
  icases Hu with ⟨Hu, Hs⟩
  imod (Rounds.fund_launch ER (Rd (xArg m) (wArg m)) disjoint_cells (fun g _ h => h) tokens) $$ [Hv Hu] with ⟨%K, -, #Hinv, #Hr, Hat, Hopen, Htok⟩
  · isplitl [Hv]
    · rw [bars_all]; iexact Hv
    · iexact Hu
  imod (Release.slots_init ES (Finset.univ : Finset Key) 8 (slotOf (F := F))) $$ Hs with ⟨%κ, -, #Hsl, Hrd, Hwr⟩
  imodintro
  iapply (bigSep_with_persistent (R := records m K κ) (Φ := fun c => iprop(dealt c ∗ bundle m c)) fun c _ => T₀_intro m K κ c)
  isplitr
  · unfold records world
    isplitr
    · isplitr; · iexact Hinv
      isplitr; · iexact Hsl
      iexact HL
    iexact Hr
  rw [bigSep_sep']
  isplitr [HB]
  · unfold dealt
    rw [bigSep_sep']; isplitl [Hopen]; · iapply (Entails.of_eq (owns_all _)) $$ Hopen
    rw [bigSep_sep']; isplitl [Hat]; · iapply (Entails.of_eq (bars_all _)) $$ Hat
    rw [bigSep_sep']; isplitl [Hrd]; · iapply (Entails.of_eq readers_all) $$ Hrd
    rw [bigSep_sep']; isplitl [Htok]; · iapply (Entails.of_eq deal_tokens) $$ Htok
    iapply deal_writes; iexact Hwr
  · iexact HB

/-! ## The run -/

/-- A semaphore that outlives the call is the barrier's. -/
theorem unscoped_bar : ∀ sm : SemLoc sig, sm.isScoped .tc = false → sm = .reg (sig.barrier 0 rfl) := by decide

/-- After the call each of its arrays holds what the data says. -/
theorem W₁_arr (c : Dev nD) (w : Fin 6) : W₁ m c (Proc.devRef .tc (Pipeline.arrRef spec0 w)) = (dat0 m c).arrAt w cfg0.N :=
  Pipeline.withArrays_arr cfg0.spec winFacts0.arr_inj c _ (fun w => (dat0 m c).arrAt w cfg0.N) w

/-- After the call `x` is unchanged. -/
theorem W₁_arg0 (c : Dev nD) : W₁ m c (Proc.devRef .tc main_arg0) = m ((c : Thread nD τ).loc main_arg0) :=
  (W₁_arr m c 0).trans (((dat0 m c).arrAt_in 0 rfl _).trans (V_main_arg0 m c))

/-- After the call `w` is unchanged. -/
theorem W₁_arg1 (c : Dev nD) : W₁ m c (Proc.devRef .tc main_arg1) = m ((c : Thread nD τ).loc main_arg1) :=
  (W₁_arr m c 1).trans (((dat0 m c).arrAt_in 1 rfl _).trans (V_main_arg1 m c))

/-- After the call the first result's array holds the result. -/
theorem W₁_out (c : Dev nD) : W₁ m c (Proc.devRef .tc main_v1_0) = result (xArg m) (wArg m) c := (W₁_arr m c 4).trans (final4 m c)

/-- Of the buffers held, the two arguments and the result. -/
theorem held_pick (c : Dev nD) (W : Valuation τ sig (Elt F)) : (StableHlo.held (c : Thread nD τ) bufs W : sProp 𝕄)
    ⊢ iprop((((c : Thread nD τ).loc main_arg0) ↦{fullShare} W (Proc.devRef .tc main_arg0))
      ∗ (((c : Thread nD τ).loc main_arg1) ↦{fullShare} W (Proc.devRef .tc main_arg1))
      ∗ (((c : Thread nD τ).loc main_v1_0) ↦{fullShare} W (Proc.devRef .tc main_v1_0))) := by
  have h : (StableHlo.held (c : Thread nD τ) bufs W : sProp 𝕄) = iprop(
      (((c : Thread nD τ).loc main_arg0) ↦{fullShare} W (Proc.devRef .tc main_arg0))
      ∗ (((c : Thread nD τ).loc main_arg1) ↦{fullShare} W (Proc.devRef .tc main_arg1))
      ∗ (((c : Thread nD τ).loc main_v1_0) ↦{fullShare} W (Proc.devRef .tc main_v1_0))
      ∗ (((c : Thread nD τ).loc main_c) ↦{fullShare} W (Proc.devRef .tc main_c))
      ∗ (((c : Thread nD τ).loc main_c_0) ↦{fullShare} W (Proc.devRef .tc main_c_0))
      ∗ (((c : Thread nD τ).loc main_v1_1) ↦{fullShare} W (Proc.devRef .tc main_v1_1))) := by
    unfold StableHlo.held
    rw [bigSep_eq_bigSepL_of_eq [Proc.devRef .tc main_arg0, Proc.devRef .tc main_arg1, Proc.devRef .tc main_v1_0, Proc.devRef .tc main_c, Proc.devRef .tc main_c_0, Proc.devRef .tc main_v1_1] (by decide) (by decide)]
    rfl
  rw [h]
  iintro ⟨H0, H1, H2, -⟩
  isplitl [H0]; · iexact H0
  isplitl [H1] <;> iassumption

set_option backward.isDefEq.respectTransparency.types false in
/-- Every execution from zero counters ends, with the arguments unchanged, the results as computed, and zero counters. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v1_0) = result (xArg m) (wArg m) c) ∧ r.2.sem = fun _ => 0) :=
  Pipeline.θ_run_regions_kit_sems (pcfgs (F := F)) adm (pdats m) 0 cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      ihave HX := (own_pair_emb embR _ _) $$ HX
      imodintro
      isplitl [HP]; · iexact HP
      rw [bigSep_keptBy]; unfold stake ER ES; iexact HX)
    (T₀ := T₀ m) (Tₙ := Tₙ m)
    (hch := ⟨fun c => .rfl, fun c => reg_pre m c, fun c => reg_post m c⟩)
    (hinit := init m ρ)
    (QY := fun c s => (s.mem ((Memref.whole main_arg0).view.loc (c : Thread nD τ)) = m ((c : Thread nD τ).loc main_arg0)
        ∧ s.mem ((Memref.whole main_arg1).view.loc (c : Thread nD τ)) = m ((c : Thread nD τ).loc main_arg1)
        ∧ s.mem ((Memref.whole main_v1_0).view.loc (c : Thread nD τ)) = result (xArg m) (wArg m) c)
      ∧ s.sem (barC c) = 0)
    (hfin := fun c s' => by
      dsimp only [Tₙ]
      iintro ⟨⟨Hh, Hb0⟩, HSI⟩
      ihave Hh := (held_pick c _) $$ Hh
      rw [W₁_arg0, W₁_arg1, W₁_out]
      icases Hh with ⟨H0, H1, H2⟩
      icombine HSI H0 gives %h0
      icombine HSI H1 gives %h1
      icombine HSI H2 gives %h2
      icombine HSI Hb0 gives %hb
      imodintro
      isplitr
      · ipureintro
        exact ⟨⟨Buf.eq_of_forall_mem_univ h0, Buf.eq_of_forall_mem_univ h1, Buf.eq_of_forall_mem_univ h2⟩, by simpa using hb⟩
      iexact HSI)
    (hQ := fun s h hs => ⟨fun c => (h c).1,
      sem_eq_zero hs fun c sm hsm => by
        obtain rfl := unscoped_bar sm hsm
        exact (h c).2⟩)

end Launch

end Cert.KernelIdeal

end
-- ==== Proof.Sums.lean ====
module

public import proofs.«01_k».proof.Proof.Proto
public import Idealize.ShloMosaic.Lib.Pointwise
public import Idealize.ShloMosaic.PureOps.Ideal
public import Idealize.ShloMosaic.PureOps.Ideal.Laws

@[expose] public section

/-!
# The block as a sum over the devices

With exact arithmetic the running sums of the ring are sums of shares, and a device's block is the sum of everyone's share of it.
-/

set_option maxRecDepth 16384

noncomputable section

namespace Cert.KernelIdeal

open Idealize.ShloMosaic Idealize.ShloMosaic.TcCoe

variable (X : Dev nD → Vec Ideal S4096x128 .bf16) (Wt : Dev nD → Vec Ideal S128x8192 .bf16)

/-- An entry of a partial product. -/
theorem part_apply (x : Vec Ideal S128x128 .bf16) (w : Vec Ideal S128x8192 .bf16) (y : S128x8192.Idx) :
    part x w y = (∑ k : Fin 128, x (ix2 (y 0) k) * w (ix2 k (y 1)) : EReal) := by
  pointwise [part]

/-- An entry of a block of rows. -/
theorem blkOf_apply (x : Vec Ideal S4096x128 .bf16) (e : Dev nD) (i k : Fin 128) :
    blkOf x e (ix2 i k) = x (ix2 ⟨128 * e.val + i.val, by have : e.val < 32 := e.isLt; have := i.isLt; omega⟩ k) := by
  unfold blkOf
  refine congrArg x (funext fun a => Fin.ext ?_)
  match a with
  | 0 => show 128 * e.val + 1 * i.val = _; rw [Nat.one_mul]; rfl
  | 1 => show 0 + 1 * k.val = _; rw [Nat.one_mul, Nat.zero_add]; rfl

/-- A hop adds the sum received. -/
theorem next_apply (p a : FVec Ideal S128x8192 .f32) (y : S128x8192.Idx) : next p (pack a) y = (p y + a y : EReal) := by
  pointwise [next, pack, unpack]

/-- The end adds both directions. -/
theorem total_apply (p a b : FVec Ideal S128x8192 .f32) (y : S128x8192.Idx) :
    total p (pack a) (pack b) y = (p y + a y + b y : EReal) := by
  pointwise [total, pack, unpack]

/-- An entry of a device's share. -/
theorem share_apply (c e : Dev nD) (i : Fin 128) (j : Fin 8192) :
    share X Wt c e (ix2 i j) =
      (∑ k : Fin 128, X c (ix2 ⟨128 * e.val + i.val, by have : e.val < 32 := e.isLt; have := i.isLt; omega⟩ k) * Wt c (ix2 k j) : EReal) := by
  unfold share
  rw [part_apply]
  exact Finset.sum_congr rfl fun k _ => congrArg (· * _) (blkOf_apply _ _ _ _)

/-- A hop adds a device not yet in the sum. -/
theorem kn_fresh : ∀ (b : Bool) (c : Dev nD) (s : Fin 16), c ∉ kn b (nb (!b) c) s.val := by decide +kernel

/-- A running sum is the sum of the shares of the devices it has passed. -/
theorem acc_apply (b : Bool) (s : ℕ) (hs : s ≤ 16) (c : Dev nD) (y : S128x8192.Idx) :
    acc X Wt b c s y = (∑ d ∈ kn b c s, (share X Wt d (tgt b c s) y : EReal) : EReal) := by
  induction s generalizing c with
  | zero => exact (Finset.sum_singleton (fun d => (share X Wt d (tgt b c 0) y : EReal)) c).symm
  | succ s ih =>
    show next (share X Wt c (tgt b c (s + 1))) (pack (acc X Wt b (nb (!b) c) s)) y = _
    rw [next_apply, ih (by omega), tgt_succ b c s (by omega)]
    exact (Finset.sum_insert (f := fun d => (share X Wt d (tgt b c (s + 1)) y : EReal)) (kn_fresh b c ⟨s, by omega⟩)).symm

/-- The device and the two directions make up everyone, each once. -/
theorem kn_split : ∀ c : Dev nD, c ∉ kn true (nb false c) 15 ∧ Disjoint (insert c (kn true (nb false c) 15)) (kn false (nb true c) 14)
    ∧ insert c (kn true (nb false c) 15) ∪ kn false (nb true c) 14 = Finset.univ := by decide +kernel

/-- A device's block is the sum of everyone's share of it. -/
theorem block_apply (c : Dev nD) (y : S128x8192.Idx) : block X Wt c y = (∑ d : Dev nD, (share X Wt d c y : EReal) : EReal) := by
  have h1 : tgt true (nb false c) 15 = c := (tgt_succ true c 15 (by decide)).trans (tgt_last c).1
  have h2 : tgt false (nb true c) 14 = c := (tgt_succ false c 14 (by decide)).trans (tgt_last c).2
  show total _ (pack (acc X Wt true (nb false c) 15)) (pack (acc X Wt false (nb true c) 14)) y = _
  rw [total_apply, acc_apply X Wt true 15 (by decide), acc_apply X Wt false 14 (by decide), h1, h2]
  obtain ⟨a, d, u⟩ := kn_split c
  rw [← u, Finset.sum_union d, Finset.sum_insert a]

end Cert.KernelIdeal

end
-- ==== Proof.Plain.lean ====
module

public import proofs.«01_k».proof.Proof.Gen.ReferenceIdeal.Value
public import Idealize.ShloMosaic.Lib.StableHlo.ReadAt
public import Idealize.ShloMosaic.Lib.Pointwise
public import Idealize.ShloMosaic.PureOps.Ideal
public import Idealize.ShloMosaic.PureOps.Ideal.Laws

@[expose] public section

/-!
# The reference's result

The product, its largest absolute value, the scale, the clipped quotient, and the result as a function of the two operands.
-/

set_option maxRecDepth 16384

noncomputable section

namespace Cert.ReferenceIdeal

open Cert.ReferenceIdeal.Gen Idealize.ShloMosaic Idealize.ShloMosaic.TcCoe
open Idealize.ShloMosaic.Pipeline (Dat Window)

section Words

variable {F : FTy → Type} [FloatOps F] (A : Vec F S4096x4096 .bf16) (B : Vec F S4096x8192 .bf16)

/-- The product of the operands. -/
def prod : FVec F S4096x8192 .f32 :=
  Host.dotGeneral dot_S4096x4096_S4096x8192_S4096x8192_1_0_0_1_n_n none (extf .f32 A bitsLt_bf16_f32) (extf .f32 B bitsLt_bf16_f32)

/-- Its largest absolute value. -/
def top : FVec F S_ .f32 :=
  Host.reduce FloatOps.maximumf (Host.absf (prod A B)) (constant S_ .f32 0xFF800000#32) reducesTo_S4096x8192_S_d0_1 h_S_

/-- The scale of the quantiser. -/
def scale : FVec F S_ .f32 := Host.divf (top A B) (constant S_ .f32 0x43E00000#32)

/-- The product over the scale, clipped. -/
def clipped : FVec F S4096x8192 .f32 :=
  minimumf (broadcastInDim S4096x8192 ![] bcast_S_S4096x8192 (constant S_ .f32 0x43E00000#32))
    (maximumf (broadcastInDim S4096x8192 ![] bcast_S_S4096x8192 (constant S_ .f32 0xC3E00000#32))
      (Host.divf (prod A B) (broadcastInDim S4096x8192 ![] bcast_S_S4096x8192 (scale A B))))

/-- The result. -/
def out : Vec F S4096x8192 .f32 := Value.E2 (clipped A B) (shapeCast S1x1 (scale A B) shapeCasts_S_S1x1)

variable (m : (ℓ : Loc nD τ sig) → Buf (Elt F) ℓ)

/-- The clipped quotient, as the call finds it. -/
theorem V_v8 (c : Dev nD) : V m c main_v8 = clipped (m ((c : Thread nD τ).loc main_arg0)) (m ((c : Thread nD τ).loc main_arg1)) := by
  unfold V
  after_reads_simp
  rfl

/-- The scale, as the call finds it. -/
theorem V_v9 (c : Dev nD) :
    V m c main_v9 = shapeCast S1x1 (scale (m ((c : Thread nD τ).loc main_arg0)) (m ((c : Thread nD τ).loc main_arg1))) shapeCasts_S_S1x1 := by
  unfold V
  after_reads_simp
  rfl

/-- A whole array's one block places every index where it is. -/
theorem whole_emb {s : Shape} {e : EltTy} {cs : CoreSpace} (arr : Memref sig .tc .hbm s e) (isOut sync : Bool)
    (stage : Memref sig .tc (.core cs) ⟨s.rank, s.size⟩ e) (sem : DmaSem sig) (h1 : arr.IsWhole) (h2 : stage.IsWhole)
    (t : Fin Pipeline.Grid.none.N) (i : s.Idx) :
    ((Window.whole arr isOut sync stage sem h1 h2).rect t).emb i = i := by
  funext a
  apply Fin.ext
  show 0 * _ + 1 * (i a).val = (i a).val
  rw [Nat.zero_mul, Nat.zero_add, Nat.one_mul]

/-- The first window's block is its array. -/
theorem iblk0 (c : Dev nD) (t : Fin cfg0.N) : iblk m c 0 t = V m c main_v8 :=
  funext fun i => congrArg (V m c main_v8) (whole_emb _ _ _ _ _ (Memref.isWhole_whole _) (hstage0_0 0) t i)

/-- The second window's block is its array. -/
theorem iblk1 (c : Dev nD) (t : Fin cfg0.N) : iblk m c 1 t = V m c main_v9 :=
  funext fun i => congrArg (V m c main_v9) (whole_emb _ _ _ _ _ (Memref.isWhole_whole _) (hstage0_1 0) t i)

/-- A load of everything is what is there. -/
theorem ld_whole {s : Shape} {e : EltTy} (x : Vec F s e) (off : Fin s.rank → ℕ) (h : ∀ a, off a + s.size a ≤ s.size a) :
    View.ld x (Rect.unit (s := s) off s.size h) = x :=
  funext fun i => congrArg x (funext fun a => Fin.ext (by
    show off a + 1 * (i a).val = (i a).val
    have := h a
    omega))

/-- The array the call leaves. -/
theorem final2 (c : Dev nD) :
    (dats m 0 c).arrAt 2 cfg0.N = out (m ((c : Thread nD τ).loc main_arg0)) (m ((c : Thread nD τ).loc main_arg1)) := by
  refine (dats m 0 c).arrAt_eq_of_cover 2 _ (fun t _ => ?_) fun i => ⟨t0_0, flush0_2 t0_0, ?_⟩
  · rw [Value.flushed2, iblk0, iblk1, V_v8, V_v9]
    unfold out0_2
    rw [ld_whole, ld_whole]
    refine funext fun i => Eq.trans ?_ (congrArg (out (m ((c : Thread nD τ).loc main_arg0)) (m ((c : Thread nD τ).loc main_arg1)))
      (whole_emb _ _ _ _ _ (Memref.isWhole_whole _) (hstage0_2 0) t _)).symm
    exact Value.canon2_eq _ _ _
  · show i ∈ ((View.whole main_v10).slice (win0_2.rect t0_0)).set
    rw [View.set_slice_whole, Rect.mem_set_unit]
    intro a
    have := (i a).isLt
    exact ⟨(Nat.zero_mul _).trans_le (Nat.zero_le _), this.trans_eq ((congrArg (· + _) (Nat.zero_mul _)).trans (Nat.zero_add _)).symm⟩

end Words

variable (A : Vec Ideal S4096x4096 .bf16) (B : Vec Ideal S4096x8192 .bf16)

/-- An entry of the product is the sum of products. -/
theorem prod_apply (y : S4096x8192.Idx) : prod A B y = (∑ k : Fin 4096, A (ix2 (y 0) k) * B (ix2 k (y 1)) : EReal) := by
  pointwise [prod]

/-- The word the maximum starts from is the least value. -/
theorem neg_inf : Ideal.ofBits .f32 0xFF800000#32 = ⊥ := by simp [Ideal.ofBits, Ideal.ieee]

/-- The largest absolute value is below what every absolute value is below. -/
theorem top_le (y : S_.Idx) (z : EReal) : (top A B y : EReal) ≤ z ↔ ∀ i : S4096x8192.Idx, (max (prod A B i) (-(prod A B i)) : EReal) ≤ z := by
  unfold top
  rw [Host.reduce_eq_fold]
  refine (Finset.fold_max_le (α := S4096x8192.Idx) (β := EReal) (f := Host.absf (prod A B)) (b := Ideal.ofBits .f32 0xFF800000#32) z).trans ?_
  rw [neg_inf]
  refine ⟨fun h i => h.2 i (Finset.mem_filter.2 ⟨Finset.mem_univ i, funext fun a => a.elim0⟩), fun h => ⟨bot_le, fun i _ => h i⟩⟩

/-- An entry of the result, in terms of the product's entry and the largest absolute value. -/
theorem out_apply (y : S4096x8192.Idx) : out A B y =
    FloatOps.mulf (F := Ideal) (φ := .f32) (min (Ideal.ofBits .f32 0x43E00000#32) (max (Ideal.ofBits .f32 0xC3E00000#32)
      (Ideal.div (prod A B y) (Ideal.div (top A B ix0) (Ideal.ofBits .f32 0x43E00000#32)))))
      (Ideal.div (top A B ix0) (Ideal.ofBits .f32 0x43E00000#32)) := by
  have h : Value.ix2_0 y = y := funext fun a => match a with | 0 => rfl | 1 => rfl
  pointwise [out, clipped, scale]
  rw [h]

end Cert.ReferenceIdeal

end
-- ==== Proof.Value.lean ====
module

public import proofs.«01_k».proof.Proof.Sums
public import proofs.«01_k».proof.Proof.Plain
public import Idealize.ShloMosaic.Lib.Layout

@[expose] public section

/-!
# The kernel's result is the reference's

The blocks of the devices are the blocks of the product, the largest of their largest absolute values is the product's, and the two
programs quantise alike.
-/

set_option maxRecDepth 16384

noncomputable section

namespace Cert.KernelIdeal

open Cert.KernelIdeal.Gen Facts Idealize.ShloMosaic Idealize.ShloMosaic.TcCoe

section Max

variable (X : Dev nD → Vec Ideal S4096x128 .bf16) (Wt : Dev nD → Vec Ideal S128x8192 .bf16)

/-- There is one index of a one by one array. -/
theorem one_idx (x y : S1x1.Idx) : x = y := funext fun a => Fin.ext (by
  have hx := (x a).isLt
  have hy := (y a).isLt
  have h : S1x1.size a = 1 := (by decide : ∀ a, S1x1.size a = 1) a
  have hx' : (x a).val < 1 := h ▸ hx
  have hy' : (y a).val < 1 := h ▸ hy
  omega)

/-- A maximum over everything is below what every entry is below. -/
theorem reduction_le (v : FVec Ideal S1x128x8192 .f32) (h : S1x128x8192.Reduces [1, 2] S1) (hφ) (hacc) (j : S1.Idx) (z : EReal) :
    (multiReduction (F := Ideal) .maximumf [1, 2] S1 v 0xFF800000#32 h hφ hacc j : EReal) ≤ z ↔ ∀ i, (v i : EReal) ≤ z := by
  rw [multiReduction_maximumf_eq_fold]
  refine (Finset.fold_max_le (β := EReal) (f := v) (b := Ideal.ofBits .f32 0xFF800000#32) z).trans ?_
  rw [Cert.ReferenceIdeal.neg_inf]
  refine ⟨fun hz i => hz.2 i (Finset.mem_filter.2 ⟨Finset.mem_univ i, funext fun a => Fin.ext ?_⟩), fun hz => ⟨bot_le, fun i _ => hz i⟩⟩
  have h1 : ∀ a, S1.size a = 1 := by decide
  have hx : (h.drop i a).val < 1 := lt_of_lt_of_eq (h.drop i a).isLt (h1 a)
  have hy : (j a).val < 1 := lt_of_lt_of_eq (j a).isLt (h1 a)
  omega

/-- Re-laid, an array has the same entries. -/
theorem relaid_le {s t : Shape} (v : s.Idx → EReal) (h : s.ShapeCasts t) (z : EReal) : (∀ i, shapeCast t v h i ≤ z) ↔ ∀ i, v i ≤ z := by
  refine ⟨fun hz i => ?_, fun hz i => hz _⟩
  obtain ⟨x, rfl⟩ := (Shape.reshapeEquiv h).surjective i
  exact hz x

/-- The one entry taken out and spread is that entry. -/
theorem spread_le (w : S1.Idx → EReal) (h : S1.ShapeCasts S1x1x1) (h') (y : S1x1.Idx) (z : EReal) (Q : Prop) (hq : ∀ j, w j ≤ z ↔ Q) :
    broadcast S1x1 (extractAt ![0, 0, 0] (shapeCast S1x1x1 w h) h') y ≤ z ↔ Q := hq _

/-- A block's largest absolute value is below what every absolute value is below. -/
theorem amaxOf_le (v : FVec Ideal S128x8192 .f32) (y : S1x1.Idx) (z : EReal) :
    (amaxOf v y : EReal) ≤ z ↔ ∀ i, (max (v i) (-(v i)) : EReal) ≤ z := by
  unfold amaxOf k0_pay97
  dsimp only
  refine spread_le _ _ _ y z _ fun j => ?_
  refine (reduction_le _ _ _ _ j z).trans ?_
  exact relaid_le (fun i => (max (v i) (-(v i)) : EReal)) _ z

/-- A step takes in device `n`'s maximum, out of its slot or, on device `n`, from the device itself. -/
theorem peaks_succ (c : Dev nD) (n : ℕ) (hn : n < 32) (y : S1x1.Idx) : (peaks X Wt c (n + 1) y : EReal)
    = max (peaks X Wt c n y : EReal) (peak X Wt ⟨n, hn⟩ y : EReal) := by
  have he : ∀ a : Vec Ideal S1x1 .f32, shapeCast S1x1 (entry a) shapeCasts_S1x1x1_S1x1 = a :=
    fun a => funext fun x => congrArg a (one_idx _ _)
  have hk : ∀ a : Vec Ideal S1x1 .f32, k0_pay98 a = a := fun a => funext fun x => by
    unfold k0_pay98; dsimp only [shapeCast]; rw [one_idx (Shape.reshapeEquiv _ x) x]
  have hm : (⟨n % 32, Nat.mod_lt _ (by decide)⟩ : Dev nD) = ⟨n, hn⟩ := Fin.ext (Nat.mod_eq_of_lt hn)
  have hsel : Scalar.select (Scalar.cmpi .eq (me c) (BitVec.ofNat 32 n)) (peak X Wt c) (peak X Wt ⟨n, hn⟩) = peak X Wt ⟨n, hn⟩ := by
    by_cases h : c.val = n
    · have hc : c = ⟨n, hn⟩ := Fin.ext h
      rw [hc]; exact ite_self _
    · rw [me_word, Scalar.select, if_neg]
      intro h1
      have h2 : BitVec.ofNat 32 c.val = BitVec.ofNat 32 n := by
        by_contra h3
        have : (BitVec.ofNat 32 c.val == BitVec.ofNat 32 n) = false := by simpa using h3
        have h4 : BitVec.ofBool (BitVec.ofNat 32 c.val == BitVec.ofNat 32 n) = 1 := h1
        rw [this] at h4
        exact absurd h4 (by decide)
      have h5 := congrArg BitVec.toNat h2
      have hc : c.val < 32 := c.isLt
      rw [BitVec.toNat_ofNat, BitVec.toNat_ofNat, Nat.mod_eq_of_lt (by omega), Nat.mod_eq_of_lt (by omega)] at h5
      exact h h5
  rw [peaks, maxStep, he, hk, hm, hsel]
  rfl

/-- The maximum over the devices is below what every device's is below. -/
theorem peaks_le (c : Dev nD) (n : ℕ) (hn : n ≤ 32) (y : S1x1.Idx) (z : EReal) : (peaks X Wt c n y : EReal) ≤ z ↔
    (peak X Wt c y : EReal) ≤ z ∧ ∀ k : Dev nD, k.val < n → (peak X Wt k y : EReal) ≤ z := by
  induction n with
  | zero =>
    have : peaks X Wt c 0 y = peak X Wt c y := by
      rw [peaks]; unfold k0_pay98; dsimp only [shapeCast]; rw [one_idx (Shape.reshapeEquiv _ y) y]
    rw [this]
    exact ⟨fun h => ⟨h, fun k hk => absurd hk (Nat.not_lt_zero _)⟩, fun h => h.1⟩
  | succ n ih =>
    rw [peaks_succ X Wt c n (by omega), max_le_iff, ih (by omega)]
    constructor
    · rintro ⟨⟨h, hk⟩, hl⟩
      refine ⟨h, fun k hk' => ?_⟩
      rcases Nat.lt_succ_iff_lt_or_eq.1 hk' with h1 | h1
      · exact hk k h1
      · exact (show k = ⟨n, by show n < 32; omega⟩ from Fin.ext h1) ▸ hl
    · rintro ⟨h, hk⟩
      exact ⟨⟨h, fun k h1 => hk k (by omega)⟩, hk ⟨n, _⟩ (Nat.lt_succ_self n)⟩

end Max

section Blocks

variable (A : Vec Ideal Cert.ReferenceIdeal.S4096x4096 .bf16) (B : Vec Ideal Cert.ReferenceIdeal.S4096x8192 .bf16)

/-- The devices' columns of the left operand. -/
abbrev colsOf (c : Dev nD) : Vec Ideal S4096x128 .bf16 := Layout.block ⟨2, ![4096, 128]⟩ ⟨2, ![4096, 4096]⟩ 1 32 c A
/-- The devices' rows of the right operand. -/
abbrev rowsOf (c : Dev nD) : Vec Ideal S128x8192 .bf16 := Layout.block ⟨2, ![128, 8192]⟩ ⟨2, ![4096, 8192]⟩ 0 32 c B

/-- Where an entry of a device's block lies. -/
abbrev rowAt (c : Dev nD) (i : Fin 128) : Fin 4096 := ⟨128 * c.val + i.val, by have : c.val < 32 := c.isLt; have := i.isLt; omega⟩

/-- An entry of a device's columns. -/
theorem colsOf_apply (c : Dev nD) (r : Fin 4096) (k : Fin 128) : colsOf A c (ix2 r k) = A (ix2 r (rowAt c k)) := by
  refine congrArg A (funext fun a => Fin.ext ?_)
  match a with
  | 0 => rfl
  | 1 => show c.val * 128 + k.val = 128 * c.val + k.val; omega

/-- An entry of a device's rows. -/
theorem rowsOf_apply (c : Dev nD) (k : Fin 128) (j : Fin 8192) : rowsOf B c (ix2 k j) = B (ix2 (rowAt c k) j) := by
  refine congrArg B (funext fun a => Fin.ext ?_)
  match a with
  | 0 => show c.val * 128 + k.val = 128 * c.val + k.val; omega
  | 1 => rfl

/-- The devices' stretches of an axis make up the axis. -/
theorem sum_rows (f : Fin 4096 → EReal) : ∑ d : Dev nD, ∑ k : Fin 128, f (rowAt d k) = ∑ k, f k := by
  refine (Fintype.sum_prod_type' (fun (d : Fin 32) (k : Fin 128) => f (rowAt d k))).symm.trans ?_
  refine Eq.trans (Finset.sum_congr rfl fun p _ => ?_) (Equiv.sum_comp (finProdFinEquiv (m := 32) (n := 128)) f)
  exact congrArg f (Fin.ext (by show 128 * p.1.val + p.2.val = p.2.val + 128 * p.1.val; omega))

/-- A device's block is its block of the product. -/
theorem block_prod (c : Dev nD) (i : Fin 128) (j : Fin 8192) :
    block (colsOf A) (rowsOf B) c (ix2 i j) = Cert.ReferenceIdeal.prod A B (ix2 (rowAt c i) j) := by
  rw [block_apply, Cert.ReferenceIdeal.prod_apply]
  refine Eq.trans (Finset.sum_congr rfl fun d _ => ?_) (sum_rows fun k => (A (ix2 (rowAt c i) k) * B (ix2 k j) : EReal))
  rw [share_apply]
  exact Finset.sum_congr rfl fun k _ => by rw [colsOf_apply, rowsOf_apply]

/-- The maximum over the devices is the product's largest absolute value. -/
theorem top_eq (c : Dev nD) (y : S1x1.Idx) (u : Cert.ReferenceIdeal.S_.Idx) :
    (peaks (colsOf A) (rowsOf B) c 32 y : EReal) = (Cert.ReferenceIdeal.top A B u : EReal) := by
  refine eq_of_forall_ge_iff fun z => ?_
  rw [peaks_le _ _ _ _ le_rfl, Cert.ReferenceIdeal.top_le]
  unfold peak
  simp only [amaxOf_le]
  constructor
  · rintro ⟨-, h⟩ i
    obtain ⟨r, j, rfl⟩ : ∃ (r : Fin 4096) (j : Fin 8192), i = ix2 r j := ⟨i 0, i 1, by funext a; match a with | 0 => rfl | 1 => rfl⟩
    have hr : r = rowAt ⟨r.val / 128, by have := r.isLt; show _ < 32; omega⟩ ⟨r.val % 128, by omega⟩ :=
      Fin.ext (by show r.val = 128 * (r.val / 128) + r.val % 128; omega)
    rw [hr, ← block_prod]
    exact h _ (by show r.val / 128 < 32; have := r.isLt; omega) _
  · intro h
    have hb : ∀ (k : Dev nD) (i : S128x8192.Idx), (max (block (colsOf A) (rowsOf B) k i) (-(block (colsOf A) (rowsOf B) k i)) : EReal) ≤ z := by
      intro k i
      obtain ⟨r, j, rfl⟩ : ∃ (r : Fin 128) (j : Fin 8192), i = ix2 r j := ⟨i 0, i 1, by funext a; match a with | 0 => rfl | 1 => rfl⟩
      rw [block_prod]
      exact h _
    exact ⟨fun i => hb c i, fun k _ i => hb k i⟩

/-- An entry of the quantised block. -/
theorem quant_apply (p : FVec Ideal S1x1 .f32) (v : FVec Ideal S128x8192 .f32) (y : S128x8192.Idx) : quant p v y =
    FloatOps.mulf (F := Ideal) (φ := .f32) (min (Ideal.ofBits .f32 0x43E00000#32) (max (Ideal.ofBits .f32 0xC3E00000#32)
      (Ideal.div (v y) (Ideal.div (p (ix2 0 0)) (Ideal.ofBits .f32 0x43E00000#32)))))
      (Ideal.div (p (ix2 0 0)) (Ideal.ofBits .f32 0x43E00000#32)) := by
  pointwise [quant, k0_pay109]

/-- What the kernel leaves on a device is the device's block of the reference's result. -/
theorem result_eq (c : Dev nD) : result (colsOf A) (rowsOf B) c =
    Layout.block ⟨2, ![128, 8192]⟩ ⟨2, ![4096, 8192]⟩ 0 32 c (Cert.ReferenceIdeal.out A B) := by
  funext i
  obtain ⟨r, j, rfl⟩ : ∃ (r : Fin 128) (j : Fin 8192), i = ix2 r j := ⟨i 0, i 1, by funext a; match a with | 0 => rfl | 1 => rfl⟩
  refine Eq.trans ?_ (rowsOf_apply (Cert.ReferenceIdeal.out A B) c r j).symm
  rw [Cert.ReferenceIdeal.out_apply, ← block_prod, ← top_eq A B c (ix2 0 0)]
  exact quant_apply _ _ _

end Blocks

end Cert.KernelIdeal

end
-- ==== Proof.lean ====
/- The proof of the claims: the kernel runs at machine words and at exact values, the reference at exact values, each leaving its
   arguments and every semaphore as it found them, and at exact values the kernel leaves each device its block of the reference's
   result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Words.Launch
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- The kernel at machine words. -/
theorem words : Cert.quiescent_Kernel (hKernel := Cert.Kernel.Gen.facts) := fun m g _ =>
  (θ_run _ _ _).mono (fun _ h => ⟨fun c => ⟨(h.1 c).1, (h.1 c).2.1⟩, h.2⟩) (Cert.Kernel.run_main m g)

/-- The kernel at exact values. -/
theorem exact_run : Cert.quiescent_KernelIdeal (hKernelIdeal := Cert.KernelIdeal.Gen.facts) := fun m g _ =>
  (θ_run _ _ _).mono (fun _ h => ⟨fun c => ⟨(h.1 c).1, (h.1 c).2.1⟩, h.2⟩) (Cert.KernelIdeal.run_main m g)

/-- The reference at exact values. -/
theorem plain_run : Cert.quiescent_ReferenceIdeal (hReferenceIdeal := Cert.ReferenceIdeal.Gen.facts) := fun m g _ =>
  Cert.ReferenceIdeal.Gen.frame m g

/-- Each device ends with its block of the reference's result. -/
theorem value : Cert.algebraic_KernelIdeal_ReferenceIdeal (hKernelIdeal := Cert.KernelIdeal.Gen.facts)
    (hReferenceIdeal := Cert.ReferenceIdeal.Gen.facts) := by
  intro m g m' g' _ hin
  refine ⟨Cert.ReferenceIdeal.out (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run _ _ _).mono (fun _ h c => ⟨((h.1 c).2.2).trans ?_, (h.1 c).1, (h.1 c).2.1⟩) (Cert.KernelIdeal.run_main m g)
    have hX : Cert.KernelIdeal.xArg m = Cert.KernelIdeal.colsOf (m' (((0 : Dev Cert.ReferenceIdeal.nD).tc : Thread Cert.ReferenceIdeal.nD Cert.ReferenceIdeal.τ).loc Cert.ReferenceIdeal.main_arg0)) :=
      funext fun d => (hin d).1
    have hW : Cert.KernelIdeal.wArg m = Cert.KernelIdeal.rowsOf (m' (((0 : Dev Cert.ReferenceIdeal.nD).tc : Thread Cert.ReferenceIdeal.nD Cert.ReferenceIdeal.τ).loc Cert.ReferenceIdeal.main_arg1)) :=
      funext fun d => (hin d).2
    rw [hX, hW]
    exact Cert.KernelIdeal.result_eq _ _ c
  · exact (θ_run _ _ _).mono (fun _ h => ⟨((h 0).1).trans (Cert.ReferenceIdeal.final2 m' 0), (h 0).2.1, (h 0).2.2⟩)
      (Cert.ReferenceIdeal.Value.run_blocks m' g')

/-- All of it. -/
theorem claim : Cert.Claim := ⟨Cert.Kernel.Gen.facts, Cert.KernelIdeal.Gen.facts, Cert.ReferenceIdeal.Gen.facts,
  words, exact_run, plain_run, trivial, value⟩

end Cert.Proof

end
